-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_moe_up_tables : Cert.Pre_moe_up_tables.Facts] (m : (ℓ : Loc Cert.Kernel7.nD Cert.Kernel7.τ Cert.Kernel7.sig) → Buf (Elt Bits) ℓ) : Prop :=
  ∀ c : Dev Cert.Kernel7.nD,
    (Cert.Pre_moe_up_tables.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4))) = (fun _ => 1#1)

def Pre_Kernel7Ideal [hPre_moe_up_tables : Cert.Pre_moe_up_tables.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_moe_up_tables.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_moe_up_tables [hPre_moe_up_tables : Cert.Pre_moe_up_tables.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_moe_up_tables.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 [hPre_moe_down_tables : Cert.Pre_moe_down_tables.Facts] (m : (ℓ : Loc Cert.Kernel8.nD Cert.Kernel8.τ Cert.Kernel8.sig) → Buf (Elt Bits) ℓ) : Prop :=
  ∀ c : Dev Cert.Kernel8.nD,
    (Cert.Pre_moe_down_tables.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4))) = (fun _ => 1#1)

def Pre_Kernel8Ideal [hPre_moe_down_tables : Cert.Pre_moe_down_tables.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_moe_down_tables.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_moe_down_tables [hPre_moe_down_tables : Cert.Pre_moe_down_tables.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_moe_down_tables.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] [hPre_moe_up_tables : Cert.Pre_moe_up_tables.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] [hPre_moe_up_tables : Cert.Pre_moe_up_tables.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_moe_up_tables [hReference7Ideal : Cert.Reference7Ideal.Facts] [hPre_moe_up_tables : Cert.Pre_moe_up_tables.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_moe_up_tables m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] [hPre_moe_down_tables : Cert.Pre_moe_down_tables.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] [hPre_moe_down_tables : Cert.Pre_moe_down_tables.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_moe_down_tables [hReference8Ideal : Cert.Reference8Ideal.Facts] [hPre_moe_down_tables : Cert.Pre_moe_down_tables.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_moe_down_tables m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] [hPre_moe_up_tables : Cert.Pre_moe_up_tables.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] [hPre_moe_down_tables : Cert.Pre_moe_down_tables.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v17)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v17) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v99) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_inputs : Cert.Pre_finite_inputs.Facts) (hPre_moe_up_tables : Cert.Pre_moe_up_tables.Facts) (hPre_moe_down_tables : Cert.Pre_moe_down_tables.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_moe_up_tables := hPre_moe_up_tables)
    ∧ quiescent_Kernel7Ideal (hKernel7Ideal := hKernel7Ideal) (hPre_moe_up_tables := hPre_moe_up_tables)
    ∧ quiescent_Reference7Ideal (hReference7Ideal := hReference7Ideal)
    ∧ quiescent_Reference7Ideal_pre_moe_up_tables (hReference7Ideal := hReference7Ideal) (hPre_moe_up_tables := hPre_moe_up_tables)
    ∧ quiescent_Kernel8 (hKernel8 := hKernel8) (hPre_moe_down_tables := hPre_moe_down_tables)
    ∧ quiescent_Kernel8Ideal (hKernel8Ideal := hKernel8Ideal) (hPre_moe_down_tables := hPre_moe_down_tables)
    ∧ quiescent_Reference8Ideal (hReference8Ideal := hReference8Ideal)
    ∧ quiescent_Reference8Ideal_pre_moe_down_tables (hReference8Ideal := hReference8Ideal) (hPre_moe_down_tables := hPre_moe_down_tables)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_moe_up_tables := hPre_moe_up_tables)
    ∧ preserves_Kernel8_Kernel8Ideal
    ∧ algebraic_Kernel8Ideal_Reference8Ideal (hKernel8Ideal := hKernel8Ideal) (hReference8Ideal := hReference8Ideal) (hPre_moe_down_tables := hPre_moe_down_tables)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_inputs.lean ====
abbrev S16384x14336 : Shape := ⟨2, ![16384, 14336]⟩
abbrev S16384x128 : Shape := ⟨2, ![16384, 128]⟩
abbrev S4x2x4x256x128 : Shape := ⟨5, ![4, 2, 4, 256, 128]⟩
abbrev S128 : Shape := ⟨1, ![128]⟩
abbrev S4x1x4x256x128 : Shape := ⟨5, ![4, 1, 4, 256, 128]⟩
abbrev S4x4x256x128 : Shape := ⟨4, ![4, 4, 256, 128]⟩
abbrev S_ : Shape := ⟨0, ![]⟩

class Facts : Prop where
  slices_S4x2x4x256x128_S4x1x4x256x128_0_0_0_0_0 : S4x2x4x256x128.Slices ![0, 0, 0, 0, 0] S4x1x4x256x128
  shapeCasts_S4x1x4x256x128_S4x4x256x128 : S4x1x4x256x128.ShapeCasts S4x4x256x128
  bitsLt_bf16_f32 : FTy.bits .bf16 < FTy.bits .f32
  bcast_S_S4x4x256x128 : S_.BroadcastsInDim S4x4x256x128 (![] : Fin 0 → Fin S4x4x256x128.rank)
  reducesTo_S4x4x256x128_S_d0_1_2_3 : S4x4x256x128.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S16384x14336 .bf16) (main_arg1 : FVec F S16384x128 .f32) (main_arg2 : FVec F S4x2x4x256x128 .bf16) (main_arg3 : FVec F S128 .f32) : IVec S_ 1 :=
  let main_v0 : FVec F S4x1x4x256x128 .bf16 := (extractStridedSlice S4x1x4x256x128 ![0, 0, 0, 0, 0] · slices_S4x2x4x256x128_S4x1x4x256x128_0_0_0_0_0) main_arg2
  let main_v1 : FVec F S4x4x256x128 .bf16 := shapeCast S4x4x256x128 main_v0 shapeCasts_S4x1x4x256x128_S4x4x256x128
  let main_v2 : FVec F S4x4x256x128 .f32 := (extf .f32 · bitsLt_bf16_f32) main_v1
  let main_v3 : FVec F S4x4x256x128 .f32 := Host.absf main_v2
  let main_cst : FVec F S_ .f32 := constant S_ .f32 0x7F800000#32
  let main_v4 : FVec F S4x4x256x128 .f32 := broadcastInDim S4x4x256x128 ![] bcast_S_S4x4x256x128 main_cst
  let main_v5 : IVec S4x4x256x128 1 := cmpf .olt main_v3 main_v4
  let main_c : IVec S_ 1 := constantI S_ 1 1#1
  let main_v6 : IVec S_ 1 := (fun x v => Host.reduce IntOp.andi x v reducesTo_S4x4x256x128_S_d0_1_2_3 h_S_) main_v5 main_c
  let main_v7 : FVec F S128 .f32 := Host.absf main_arg3
  let main_cst_0 : FVec F S_ .f32 := constant S_ .f32 0x7F800000#32
  let main_v8 : FVec F S128 .f32 := broadcastInDim S128 ![] bcast_S_S128 main_cst_0
  let main_v9 : IVec S128 1 := cmpf .olt main_v7 main_v8
  let main_c_1 : IVec S_ 1 := constantI S_ 1 1#1
  let main_v10 : IVec S_ 1 := (fun x v => Host.reduce IntOp.andi x v reducesTo_S128_S_d0 h_S_) main_v9 main_c_1
  let main_v11 : IVec S_ 1 := andi main_v6 main_v10
  main_v11
-- ==== Pre_moe_down_tables.lean ====
abbrev S160 : Shape := ⟨1, ![160]⟩
abbrev S1 : Shape := ⟨1, ![1]⟩
abbrev S81920x2048 : Shape := ⟨2, ![81920, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S160 32) (main_arg1 : IVec S1 32) (main_arg2 : FVec F S81920x2048 .bf16) (main_arg3 : FVec F S32x2048x2048 .f32) (main_arg4 : FVec F S32x1x2048 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 32#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Pre_moe_up_tables.lean ====
abbrev S160 : Shape := ⟨1, ![160]⟩
abbrev S1 : Shape := ⟨1, ![1]⟩
abbrev S81920x2048 : Shape := ⟨2, ![81920, 2048]⟩
abbrev S32x2048x4096 : Shape := ⟨3, ![32, 2048, 4096]⟩
abbrev S32x1x4096 : Shape := ⟨3, ![32, 1, 4096]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S160 32) (main_arg1 : IVec S1 32) (main_arg2 : FVec F S81920x2048 .f32) (main_arg3 : FVec F S32x2048x4096 .f32) (main_arg4 : FVec F S32x1x4096 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 32#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S16384x14336 : Shape := ⟨2, ![16384, 14336]⟩
abbrev S16384x128 : Shape := ⟨2, ![16384, 128]⟩
abbrev S4x2x4x256x128 : Shape := ⟨5, ![4, 2, 4, 256, 128]⟩
abbrev S128 : Shape := ⟨1, ![128]⟩
abbrev S256x128 : Shape := ⟨2, ![256, 128]⟩
abbrev S4x1x128 : Shape := ⟨3, ![4, 1, 128]⟩
abbrev S1x128 : Shape := ⟨2, ![1, 128]⟩
abbrev S16384x2048 : Shape := ⟨2, ![16384, 2048]⟩
abbrev S4x4x4096x128 : Shape := ⟨4, ![4, 4, 4096, 128]⟩
abbrev S256x512 : Shape := ⟨2, ![256, 512]⟩
abbrev S1x1x1x256x128 : Shape := ⟨5, ![1, 1, 1, 256, 128]⟩
abbrev S1x1x128 : Shape := ⟨3, ![1, 1, 128]⟩
abbrev S1x1x256x128 : Shape := ⟨4, ![1, 1, 256, 128]⟩
abbrev S256x1 : Shape := ⟨2, ![256, 1]⟩
abbrev S1x256 : Shape := ⟨2, ![1, 256]⟩
abbrev S256x256 : Shape := ⟨2, ![256, 256]⟩
abbrev S256 : Shape := ⟨1, ![256]⟩
abbrev S1x1x1 : Shape := ⟨3, ![1, 1, 1]⟩
abbrev S1x1 : Shape := ⟨2, ![1, 1]⟩
abbrev S128x256 : Shape := ⟨2, ![128, 256]⟩
abbrev S64x256 : Shape := ⟨2, ![64, 256]⟩
abbrev S8x1 : Shape := ⟨2, ![8, 1]⟩
abbrev S8x256 : Shape := ⟨2, ![8, 256]⟩

abbrev nBuf : Space → Nat
  | .hbm => 9
  | .vmem => 16
  | .smem => 0
  | _ => 0

abbrev bufTy : (tb : Table) → Fin (tcTables nBuf tb) → BufTy
  | .hbm, ⟨0, _⟩ => ⟨S16384x14336, .bf16⟩
  | .hbm, ⟨1, _⟩ => ⟨S16384x128, .f32⟩
  | .hbm, ⟨2, _⟩ => ⟨S4x2x4x256x128, .bf16⟩
  | .hbm, ⟨3, _⟩ => ⟨S128, .f32⟩
  | .hbm, ⟨4, _⟩ => ⟨S256x128, .bf16⟩
  | .hbm, ⟨5, _⟩ => ⟨S4x1x128, .f32⟩
  | .hbm, ⟨6, _⟩ => ⟨S1x128, .f32⟩
  | .hbm, ⟨7, _⟩ => ⟨S16384x2048, .bf16⟩
  | .hbm, ⟨8, _⟩ => ⟨S4x4x4096x128, .bf16⟩
  | .local _ .vmem, ⟨0, _⟩ => ⟨S256x512, .bf16⟩
  | .local _ .vmem, ⟨1, _⟩ => ⟨S256x512, .bf16⟩
  | .local _ .vmem, ⟨2, _⟩ => ⟨S1x1x1x256x128, .bf16⟩
  | .local _ .vmem, ⟨3, _⟩ => ⟨S1x1x1x256x128, .bf16⟩
  | .local _ .vmem, ⟨4, _⟩ => ⟨S1x1x1x256x128, .bf16⟩
  | .local _ .vmem, ⟨5, _⟩ => ⟨S1x1x1x256x128, .bf16⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .bf16⟩
  | .local _ .vmem, ⟨10, _⟩ => ⟨S1x1x128, .f32⟩
  | .local _ .vmem, ⟨11, _⟩ => ⟨S1x1x128, .f32⟩
  | .local _ .vmem, ⟨12, _⟩ => ⟨S256x512, .bf16⟩
  | .local _ .vmem, ⟨13, _⟩ => ⟨S256x512, .bf16⟩
  | .local _ .vmem, ⟨14, _⟩ => ⟨S1x1x256x128, .bf16⟩
  | .local _ .vmem, ⟨15, _⟩ => ⟨S1x1x256x128, .bf16⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c10_i32 : BitVec 32 := 10#32
  let v2 : BitVec 32 := Scalar.addi c10_i32 arg1
  let c0_i32 : BitVec 32 := 0#32
  ![v1.toNat, v2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x14336 : Shape := ⟨2, ![16384, 14336]⟩
abbrev S16384x128 : Shape := ⟨2, ![16384, 128]⟩
abbrev S4x2x4x256x128 : Shape := ⟨5, ![4, 2, 4, 256, 128]⟩
abbrev S128 : Shape := ⟨1, ![128]⟩
abbrev S16 : Shape := ⟨1, ![16]⟩
abbrev S4x4 : Shape := ⟨2, ![4, 4]⟩
abbrev S16384x2048 : Shape := ⟨2, ![16384, 2048]⟩
abbrev S4x4096x16x128 : Shape := ⟨4, ![4, 4096, 16, 128]⟩
abbrev S_ : Shape := ⟨0, ![]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x4x4x128 : Shape := ⟨5, ![4, 4096, 4, 4, 128]⟩
abbrev S4x1x4x255x128 : Shape := ⟨5, ![4, 1, 4, 255, 128]⟩
abbrev S4x4x255x128 : Shape := ⟨4, ![4, 4, 255, 128]⟩
abbrev S4096 : Shape := ⟨1, ![4096]⟩
abbrev S255 : Shape := ⟨1, ![255]⟩
abbrev S4096x1 : Shape := ⟨2, ![4096, 1]⟩
abbrev S1x255 : Shape := ⟨2, ![1, 255]⟩
abbrev S4096x255 : Shape := ⟨2, ![4096, 255]⟩
abbrev S4x4x255x4096x4 : Shape := ⟨5, ![4, 4, 255, 4096, 4]⟩
abbrev S4x4x4x4096x255 : Shape := ⟨5, ![4, 4, 4, 4096, 255]⟩
abbrev S1x4x4x1x1 : Shape := ⟨5, ![1, 4, 4, 1, 1]⟩
abbrev S1x1x1x4096x255 : Shape := ⟨5, ![1, 1, 1, 4096, 255]⟩
abbrev S1x4x4x4096x255 : Shape := ⟨5, ![1, 4, 4, 4096, 255]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩
abbrev S16384x16 : Shape := ⟨2, ![16384, 16]⟩
abbrev S4x4096x4x4x1 : Shape := ⟨5, ![4, 4096, 4, 4, 1]⟩

abbrev nBuf : Space → Nat
  | .hbm => 104
  | .vmem => 0
  | .smem => 0
  | _ => 0

abbrev bufTy : (tb : Table) → Fin (tcTables nBuf tb) → BufTy
  | .hbm, ⟨0, _⟩ => ⟨S16384x14336, .bf16⟩
  | .hbm, ⟨1, _⟩ => ⟨S16384x128, .f32⟩
  | .hbm, ⟨2, _⟩ => ⟨S4x2x4x256x128, .bf16⟩
  | .hbm, ⟨3, _⟩ => ⟨S128, .f32⟩
  | .hbm, ⟨4, _⟩ => ⟨S16, .f32⟩
  | .hbm, ⟨5, _⟩ => ⟨S4x4, .f32⟩
  | .hbm, ⟨6, _⟩ => ⟨S16384x2048, .bf16⟩
  | .hbm, ⟨7, _⟩ => ⟨S16384x2048, .f32⟩
  | .hbm, ⟨8, _⟩ => ⟨S4x4096x16x128, .f32⟩
  | .hbm, ⟨9, _⟩ => ⟨S4x4096x16x128, .f32⟩
  | .hbm, ⟨10, _⟩ => ⟨S_, .f32⟩
  | .hbm, ⟨11, _⟩ => ⟨S4x4096x16, .f32⟩
  | .hbm, ⟨12, _⟩ => ⟨S4x4096x16x1, .f32⟩
  | .hbm, ⟨13, _⟩ => ⟨S_, .f32⟩
  | .hbm, ⟨14, _⟩ => ⟨S4x4096x16x1, .f32⟩
  | .hbm, ⟨15, _⟩ => ⟨S4x4096x16x1, .f32⟩
  | .hbm, ⟨16, _⟩ => ⟨S_, .f32⟩
  | .hbm, ⟨17, _⟩ => ⟨S4x4096x16x1, .f32⟩
  | .hbm, ⟨18, _⟩ => ⟨S4x4096x16x1, .f32⟩
  | .hbm, ⟨19, _⟩ => ⟨S4x4096x16x1, .f32⟩
  | .hbm, ⟨20, _⟩ => ⟨S4x4096x16x128, .f32⟩
  | .hbm, ⟨21, _⟩ => ⟨S4x4096x16x128, .f32⟩
  | .hbm, ⟨22, _⟩ => ⟨S1x1x1x128, .f32⟩
  | .hbm, ⟨23, _⟩ => ⟨S4x4096x16x128, .f32⟩
  | .hbm, ⟨24, _⟩ => ⟨S4x4096x16x128, .f32⟩
  | .hbm, ⟨25, _⟩ => ⟨S4x4096x4x4x128, .f32⟩
  | .hbm, ⟨26, _⟩ => ⟨S4x1x4x255x128, .bf16⟩
  | .hbm, ⟨27, _⟩ => ⟨S4x4x255x128, .bf16⟩
  | .hbm, ⟨28, _⟩ => ⟨S4x4x255x128, .f32⟩
  | .hbm, ⟨29, _⟩ => ⟨S4x1x4x255x128, .bf16⟩
  | .hbm, ⟨30, _⟩ => ⟨S4x4x255x128, .bf16⟩
  | .hbm, ⟨31, _⟩ => ⟨S4x4x255x128, .f32⟩
  | .hbm, ⟨32, _⟩ => ⟨S4096, .i32⟩
  | .hbm, ⟨33, _⟩ => ⟨S255, .i32⟩
  | .hbm, ⟨34, _⟩ => ⟨S_, .i32⟩
  | .hbm, ⟨35, _⟩ => ⟨S255, .i32⟩
  | .hbm, ⟨36, _⟩ => ⟨S255, .i32⟩
  | .hbm, ⟨37, _⟩ => ⟨S_, .i32⟩
  | .hbm, ⟨38, _⟩ => ⟨S255, .i32⟩
  | .hbm, ⟨39, _⟩ => ⟨S255, .i32⟩
  | .hbm, ⟨40, _⟩ => ⟨S_, .i32⟩
  | .hbm, ⟨41, _⟩ => ⟨S255, .i32⟩
  | .hbm, ⟨42, _⟩ => ⟨S255, .i32⟩
  | .hbm, ⟨43, _⟩ => ⟨S4096x1, .i32⟩
  | .hbm, ⟨44, _⟩ => ⟨S1x255, .i32⟩
  | .hbm, ⟨45, _⟩ => ⟨S4096x255, .i32⟩
  | .hbm, ⟨46, _⟩ => ⟨S4096x255, .i32⟩
  | .hbm, ⟨47, _⟩ => ⟨S4096x255, .i32⟩
  | .hbm, ⟨48, _⟩ => ⟨S4096x255, .f32⟩
  | .hbm, ⟨49, _⟩ => ⟨S_, .f32⟩
  | .hbm, ⟨50, _⟩ => ⟨S4096x255, .f32⟩
  | .hbm, ⟨51, _⟩ => ⟨S4096x255, .i1⟩
  | .hbm, ⟨52, _⟩ => ⟨S4x4x255x4096x4, .f32⟩
  | .hbm, ⟨53, _⟩ => ⟨S4x4x4x4096x255, .f32⟩
  | .hbm, ⟨54, _⟩ => ⟨S_, .f32⟩
  | .hbm, ⟨55, _⟩ => ⟨S4x4x4x4096x255, .f32⟩
  | .hbm, ⟨56, _⟩ => ⟨S4x4x4x4096x255, .f32⟩
  | .hbm, ⟨57, _⟩ => ⟨S1x4x4x1x1, .f32⟩
  | .hbm, ⟨58, _⟩ => ⟨S1x1x1x4096x255, .f32⟩
  | .hbm, ⟨59, _⟩ => ⟨S1x4x4x4096x255, .f32⟩
  | .hbm, ⟨60, _⟩ => ⟨S1x4x4x4096x255, .f32⟩
  | .hbm, ⟨61, _⟩ => ⟨S1x4x4x4096x255, .f32⟩
  | .hbm, ⟨62, _⟩ => ⟨S4x4x4x4096x255, .f32⟩
  | .hbm, ⟨63, _⟩ => ⟨S4x4x4x4096x255, .f32⟩
  | .hbm, ⟨64, _⟩ => ⟨S_, .f32⟩
  | .hbm, ⟨65, _⟩ => ⟨S_, .f32⟩
  | .hbm, ⟨66, _⟩ => ⟨S4x4x4x4096x255, .i1⟩
  | .hbm, ⟨67, _⟩ => ⟨S4x4x4x4096x255, .f32⟩
  | .hbm, ⟨68, _⟩ => ⟨S4x4x4x4096x255, .f32⟩
  | .hbm, ⟨69, _⟩ => ⟨S_, .f32⟩
  | .hbm, ⟨70, _⟩ => ⟨S4x4x4x4096, .f32⟩
  | .hbm, ⟨71, _⟩ => ⟨S_, .f32⟩
  | .hbm, ⟨72, _⟩ => ⟨S4x4x4x4096, .f32⟩
  | .hbm, ⟨73, _⟩ => ⟨S4x4x4x4096, .f32⟩
  | .hbm, ⟨74, _⟩ => ⟨S4x4x4x4096x1, .f32⟩
  | .hbm, ⟨75, _⟩ => ⟨S4x4x4x4096x255, .f32⟩
  | .hbm, ⟨76, _⟩ => ⟨S4x4x4x4096x255, .f32⟩
  | .hbm, ⟨77, _⟩ => ⟨S4x4x4x4096x255, .f32⟩
  | .hbm, ⟨78, _⟩ => ⟨S_, .f32⟩
  | .hbm, ⟨79, _⟩ => ⟨S4x4x4x4096, .f32⟩
  | .hbm, ⟨80, _⟩ => ⟨S4x4x4x4096x1, .f32⟩
  | .hbm, ⟨81, _⟩ => ⟨S4x4x4x4096x255, .f32⟩
  | .hbm, ⟨82, _⟩ => ⟨S4x4x4x4096x255, .f32⟩
  | .hbm, ⟨83, _⟩ => ⟨S_, .f32⟩
  | .hbm, ⟨84, _⟩ => ⟨S_, .f32⟩
  | .hbm, ⟨85, _⟩ => ⟨S4x4x4x4096x255, .i1⟩
  | .hbm, ⟨86, _⟩ => ⟨S4x4x4x4096x255, .f32⟩
  | .hbm, ⟨87, _⟩ => ⟨S4x4x4x4096x255, .f32⟩
  | .hbm, ⟨88, _⟩ => ⟨S4x4x128x4x4096, .f32⟩
  | .hbm, ⟨89, _⟩ => ⟨S4x4096x4x4x128, .f32⟩
  | .hbm, ⟨90, _⟩ => ⟨S16384x16, .f32⟩
  | .hbm, ⟨91, _⟩ => ⟨S16384x16, .f32⟩
  | .hbm, ⟨92, _⟩ => ⟨S16384x16, .f32⟩
  | .hbm, ⟨93, _⟩ => ⟨S_, .f32⟩
  | .hbm, ⟨94, _⟩ => ⟨S16384x16, .f32⟩
  | .hbm, ⟨95, _⟩ => ⟨S16384x16, .f32⟩
  | .hbm, ⟨96, _⟩ => ⟨S_, .f32⟩
  | .hbm, ⟨97, _⟩ => ⟨S16384x16, .f32⟩
  | .hbm, ⟨98, _⟩ => ⟨S16384x16, .f32⟩
  | .hbm, ⟨99, _⟩ => ⟨S4x4096x4x4x1, .f32⟩
  | .hbm, ⟨100, _⟩ => ⟨S4x4096x4x4x128, .f32⟩
  | .hbm, ⟨101, _⟩ => ⟨S4x4096x4x4x128, .f32⟩
  | .hbm, ⟨102, _⟩ => ⟨S16384x2048, .f32⟩
  | .hbm, ⟨103, _⟩ => ⟨S16384x2048, .bf16⟩
  | _, _ => ⟨S16384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x14384 : Shape := ⟨2, ![2048, 14384]⟩
abbrev S2048x10240 : Shape := ⟨2, ![2048, 10240]⟩
abbrev S2048x4096 : Shape := ⟨2, ![2048, 4096]⟩
abbrev S2048x14336 : Shape := ⟨2, ![2048, 14336]⟩
abbrev S1x2048 : Shape := ⟨2, ![1, 2048]⟩
abbrev S16384x14336 : Shape := ⟨2, ![16384, 14336]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14384, .f32⟩
  | .hbm, ⟨3, _⟩ => ⟨S2048x10240, .f32⟩
  | .hbm, ⟨4, _⟩ => ⟨S2048x4096, .f32⟩
  | .hbm, ⟨5, _⟩ => ⟨S2048x14336, .f32⟩
  | .hbm, ⟨6, _⟩ => ⟨S2048x14336, .bf16⟩
  | .hbm, ⟨7, _⟩ => ⟨S1x2048, .f32⟩
  | .hbm, ⟨8, _⟩ => ⟨S16384x14336, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S2048 : Shape := ⟨1, ![2048]⟩
abbrev S2048x14384 : Shape := ⟨2, ![2048, 14384]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x14384 : Shape := ⟨2, ![16384, 14384]⟩
abbrev S16384x10240 : Shape := ⟨2, ![16384, 10240]⟩
abbrev S16384x4096 : Shape := ⟨2, ![16384, 4096]⟩
abbrev S16384x14336 : Shape := ⟨2, ![16384, 14336]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14384, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x14384, .f32⟩
  | .hbm, ⟨20, _⟩ => ⟨S16384x10240, .f32⟩
  | .hbm, ⟨21, _⟩ => ⟨S16384x4096, .f32⟩
  | .hbm, ⟨22, _⟩ => ⟨S16384x14336, .f32⟩
  | .hbm, ⟨23, _⟩ => ⟨S16384x14336, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S16384x2560 : Shape := ⟨2, ![16384, 2560]⟩
abbrev S2560x2048 : Shape := ⟨2, ![2560, 2048]⟩
abbrev S16384x2048 : Shape := ⟨2, ![16384, 2048]⟩
abbrev S2048x2048 : Shape := ⟨2, ![2048, 2048]⟩
abbrev S16384x14336 : Shape := ⟨2, ![16384, 14336]⟩
abbrev S512x2560 : Shape := ⟨2, ![512, 2560]⟩
abbrev S2560x1024 : Shape := ⟨2, ![2560, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x2560, .bf16⟩
  | .hbm, ⟨1, _⟩ => ⟨S2560x2048, .f32⟩
  | .hbm, ⟨2, _⟩ => ⟨S16384x2048, .bf16⟩
  | .hbm, ⟨3, _⟩ => ⟨S2048x2048, .f32⟩
  | .hbm, ⟨4, _⟩ => ⟨S16384x14336, .bf16⟩
  | .hbm, ⟨5, _⟩ => ⟨S2560x2048, .bf16⟩
  | .hbm, ⟨6, _⟩ => ⟨S2048x2048, .bf16⟩
  | .hbm, ⟨7, _⟩ => ⟨S16384x2048, .bf16⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S2560x1024, .bf16⟩
  | .local _ .vmem, ⟨4, _⟩ => ⟨S512x2048, .bf16⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c2_i32 : BitVec 32 := 2#32
  let v1 : BitVec 32 := Scalar.addi v0 c2_i32
  let c0_i32 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x2560 : Shape := ⟨2, ![16384, 2560]⟩
abbrev S2560x2048 : Shape := ⟨2, ![2560, 2048]⟩
abbrev S16384x2048 : Shape := ⟨2, ![16384, 2048]⟩
abbrev S2048x2048 : Shape := ⟨2, ![2048, 2048]⟩
abbrev S16384x14336 : Shape := ⟨2, ![16384, 14336]⟩
abbrev S16384x4096 : Shape := ⟨2, ![16384, 4096]⟩
abbrev S_ : Shape := ⟨0, ![]⟩
abbrev S16384x2x2048 : Shape := ⟨3, ![16384, 2, 2048]⟩
abbrev S16384x1x2048 : Shape := ⟨3, ![16384, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x2560, .bf16⟩
  | .hbm, ⟨1, _⟩ => ⟨S2560x2048, .f32⟩
  | .hbm, ⟨2, _⟩ => ⟨S16384x2048, .bf16⟩
  | .hbm, ⟨3, _⟩ => ⟨S2048x2048, .f32⟩
  | .hbm, ⟨4, _⟩ => ⟨S16384x14336, .bf16⟩
  | .hbm, ⟨5, _⟩ => ⟨S16384x4096, .bf16⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x2x2048, .f32⟩
  | .hbm, ⟨16, _⟩ => ⟨S16384x2560, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x1x2048, .f32⟩
  | .hbm, ⟨21, _⟩ => ⟨S16384x2048, .f32⟩
  | .hbm, ⟨22, _⟩ => ⟨S16384x2048, .f32⟩
  | .hbm, ⟨23, _⟩ => ⟨S16384x1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .bf16⟩
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S16384x256 : Shape := ⟨2, ![16384, 256]⟩
abbrev S256x2048 : Shape := ⟨2, ![256, 2048]⟩
abbrev S2048 : Shape := ⟨1, ![2048]⟩
abbrev S1x2048 : Shape := ⟨2, ![1, 2048]⟩
abbrev S16384x2048 : Shape := ⟨2, ![16384, 2048]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S256x2048, .f32⟩
  | .hbm, ⟨2, _⟩ => ⟨S2048, .f32⟩
  | .hbm, ⟨3, _⟩ => ⟨S1x2048, .f32⟩
  | .hbm, ⟨4, _⟩ => ⟨S256x2048, .bf16⟩
  | .hbm, ⟨5, _⟩ => ⟨S16384x2048, .bf16⟩
  | .local _ .vmem, ⟨0, _⟩ => ⟨S512x256, .f32⟩
  | .local _ .vmem, ⟨1, _⟩ => ⟨S512x256, .f32⟩
  | .local _ .vmem, ⟨2, _⟩ => ⟨S256x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x256 : Shape := ⟨2, ![16384, 256]⟩
abbrev S256x2048 : Shape := ⟨2, ![256, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .bf16⟩
  | .hbm, ⟨3, _⟩ => ⟨S2048x2048, .bf16⟩
  | .hbm, ⟨4, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x2048 : Shape := ⟨2, ![16384, 2048]⟩
abbrev S2048x2048 : Shape := ⟨2, ![2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .bf16⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel7.lean ====
abbrev S160 : Shape := ⟨1, ![160]⟩
abbrev S1 : Shape := ⟨1, ![1]⟩
abbrev S81920x2048 : Shape := ⟨2, ![81920, 2048]⟩
abbrev S32x2048x4096 : Shape := ⟨3, ![32, 2048, 4096]⟩
abbrev S32x1x4096 : Shape := ⟨3, ![32, 1, 4096]⟩
abbrev S512x2048 : Shape := ⟨2, ![512, 2048]⟩
abbrev S1x2048x1024 : Shape := ⟨3, ![1, 2048, 1024]⟩
abbrev S1x1x1024 : Shape := ⟨3, ![1, 1, 1024]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 4
  | .vmem => 14
  | .smem => 2
  | _ => 0

abbrev bufTy : (tb : Table) → Fin (tcTables nBuf tb) → BufTy
  | .hbm, ⟨0, _⟩ => ⟨S81920x2048, .f32⟩
  | .hbm, ⟨1, _⟩ => ⟨S32x2048x4096, .f32⟩
  | .hbm, ⟨2, _⟩ => ⟨S32x1x4096, .f32⟩
  | .hbm, ⟨3, _⟩ => ⟨S81920x2048, .bf16⟩
  | .local _ .vmem, ⟨0, _⟩ => ⟨S512x2048, .f32⟩
  | .local _ .vmem, ⟨1, _⟩ => ⟨S512x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | .local _ .vmem, ⟨13, _⟩ => ⟨S2048x1024, .bf16⟩
  | .local _ .smem, ⟨0, _⟩ => ⟨S160, .i32⟩
  | .local _ .smem, ⟨1, _⟩ => ⟨S1, .i32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 160], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v14 : BitVec 32) : BitVec 1 :=
  let arg1 : BitVec 32 := BitVec.ofNat 32 (i 1).val
  let v15 : BitVec 1 := Scalar.cmpi .slt arg1 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg1 : BitVec 32 := BitVec.ofNat 32 (i 1).val
  let v19 : BitVec 1 := Scalar.cmpi .sge arg1 v18
  let v20 : BitVec 32 := Scalar.extui v19
  let c0_i32_5 : BitVec 32 := 0#32
  let v21 : BitVec 1 := Scalar.cmpi .ne v20 c0_i32_5
  v21

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S160 : Shape := ⟨1, ![160]⟩
abbrev S1 : Shape := ⟨1, ![1]⟩
abbrev S81920x2048 : Shape := ⟨2, ![81920, 2048]⟩
abbrev S32x2048x4096 : Shape := ⟨3, ![32, 2048, 4096]⟩
abbrev S32x1x4096 : Shape := ⟨3, ![32, 1, 4096]⟩
abbrev S160x512x2048 : Shape := ⟨3, ![160, 512, 2048]⟩
abbrev S_ : Shape := ⟨0, ![]⟩
abbrev S160x1 : Shape := ⟨2, ![160, 1]⟩
abbrev S160x2048x4096 : Shape := ⟨3, ![160, 2048, 4096]⟩
abbrev S160x512x4096 : Shape := ⟨3, ![160, 512, 4096]⟩
abbrev S160x1x4096 : Shape := ⟨3, ![160, 1, 4096]⟩
abbrev S160x1x1 : Shape := ⟨3, ![160, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x2048, .f32⟩
  | .hbm, ⟨3, _⟩ => ⟨S32x2048x4096, .f32⟩
  | .hbm, ⟨4, _⟩ => ⟨S32x1x4096, .f32⟩
  | .hbm, ⟨5, _⟩ => ⟨S160x512x2048, .f32⟩
  | .hbm, ⟨6, _⟩ => ⟨S_, .i32⟩
  | .hbm, ⟨7, _⟩ => ⟨S160, .i32⟩
  | .hbm, ⟨8, _⟩ => ⟨S160, .i1⟩
  | .hbm, ⟨9, _⟩ => ⟨S_, .i32⟩
  | .hbm, ⟨10, _⟩ => ⟨S160, .i32⟩
  | .hbm, ⟨11, _⟩ => ⟨S160, .i32⟩
  | .hbm, ⟨12, _⟩ => ⟨S160, .i32⟩
  | .hbm, ⟨13, _⟩ => ⟨S160x1, .i32⟩
  | .hbm, ⟨14, _⟩ => ⟨S160x2048x4096, .f32⟩
  | .hbm, ⟨15, _⟩ => ⟨S160x512x4096, .f32⟩
  | .hbm, ⟨16, _⟩ => ⟨S_, .i32⟩
  | .hbm, ⟨17, _⟩ => ⟨S160, .i32⟩
  | .hbm, ⟨18, _⟩ => ⟨S160, .i1⟩
  | .hbm, ⟨19, _⟩ => ⟨S_, .i32⟩
  | .hbm, ⟨20, _⟩ => ⟨S160, .i32⟩
  | .hbm, ⟨21, _⟩ => ⟨S160, .i32⟩
  | .hbm, ⟨22, _⟩ => ⟨S160, .i32⟩
  | .hbm, ⟨23, _⟩ => ⟨S160x1, .i32⟩
  | .hbm, ⟨24, _⟩ => ⟨S160x1x4096, .f32⟩
  | .hbm, ⟨25, _⟩ => ⟨S160x512x4096, .f32⟩
  | .hbm, ⟨26, _⟩ => ⟨S160x512x4096, .f32⟩
  | .hbm, ⟨27, _⟩ => ⟨S160x512x2048, .f32⟩
  | .hbm, ⟨28, _⟩ => ⟨S_, .f32⟩
  | .hbm, ⟨29, _⟩ => ⟨S160x512x2048, .f32⟩
  | .hbm, ⟨30, _⟩ => ⟨S160x512x2048, .f32⟩
  | .hbm, ⟨31, _⟩ => ⟨S160x512x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S160x512x2048, .f32⟩
  | .hbm, ⟨36, _⟩ => ⟨S160x512x2048, .f32⟩
  | .hbm, ⟨37, _⟩ => ⟨S_, .f32⟩
  | .hbm, ⟨38, _⟩ => ⟨S160x512x2048, .f32⟩
  | .hbm, ⟨39, _⟩ => ⟨S160x512x2048, .f32⟩
  | .hbm, ⟨40, _⟩ => ⟨S_, .f32⟩
  | .hbm, ⟨41, _⟩ => ⟨S160x512x2048, .f32⟩
  | .hbm, ⟨42, _⟩ => ⟨S160x512x2048, .f32⟩
  | .hbm, ⟨43, _⟩ => ⟨S160x512x2048, .f32⟩
  | .hbm, ⟨44, _⟩ => ⟨S160x512x2048, .f32⟩
  | .hbm, ⟨45, _⟩ => ⟨S_, .f32⟩
  | .hbm, ⟨46, _⟩ => ⟨S160x512x2048, .f32⟩
  | .hbm, ⟨47, _⟩ => ⟨S160x512x2048, .f32⟩
  | .hbm, ⟨48, _⟩ => ⟨S_, .f32⟩
  | .hbm, ⟨49, _⟩ => ⟨S160x512x2048, .f32⟩
  | .hbm, ⟨50, _⟩ => ⟨S160x512x2048, .f32⟩
  | .hbm, ⟨51, _⟩ => ⟨S160x512x2048, .f32⟩
  | .hbm, ⟨52, _⟩ => ⟨S_, .f32⟩
  | .hbm, ⟨53, _⟩ => ⟨S160x512x2048, .f32⟩
  | .hbm, ⟨54, _⟩ => ⟨S160x512x2048, .f32⟩
  | .hbm, ⟨55, _⟩ => ⟨S160x512x2048, .f32⟩
  | .hbm, ⟨56, _⟩ => ⟨S160, .i32⟩
  | .hbm, ⟨57, _⟩ => ⟨S160, .i32⟩
  | .hbm, ⟨58, _⟩ => ⟨S160, .i1⟩
  | .hbm, ⟨59, _⟩ => ⟨S160x1x1, .i1⟩
  | .hbm, ⟨60, _⟩ => ⟨S_, .f32⟩
  | .hbm, ⟨61, _⟩ => ⟨S_, .f32⟩
  | .hbm, ⟨62, _⟩ => ⟨S160x512x2048, .i1⟩
  | .hbm, ⟨63, _⟩ => ⟨S160x512x2048, .f32⟩
  | .hbm, ⟨64, _⟩ => ⟨S160x512x2048, .f32⟩
  | .hbm, ⟨65, _⟩ => ⟨S81920x2048, .f32⟩
  | .hbm, ⟨66, _⟩ => ⟨S81920x2048, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]
-- ==== Kernel8.lean ====
abbrev S160 : Shape := ⟨1, ![160]⟩
abbrev S1 : Shape := ⟨1, ![1]⟩
abbrev S81920x2048 : Shape := ⟨2, ![81920, 2048]⟩
abbrev S32x2048x2048 : Shape := ⟨3, ![32, 2048, 2048]⟩
abbrev S32x1x2048 : Shape := ⟨3, ![32, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 4
  | .vmem => 9
  | .smem => 2
  | _ => 0

abbrev bufTy : (tb : Table) → Fin (tcTables nBuf tb) → BufTy
  | .hbm, ⟨0, _⟩ => ⟨S81920x2048, .bf16⟩
  | .hbm, ⟨1, _⟩ => ⟨S32x2048x2048, .f32⟩
  | .hbm, ⟨2, _⟩ => ⟨S32x1x2048, .f32⟩
  | .hbm, ⟨3, _⟩ => ⟨S81920x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S1x2048x2048, .f32⟩
  | .local _ .vmem, ⟨4, _⟩ => ⟨S1x1x2048, .f32⟩
  | .local _ .vmem, ⟨5, _⟩ => ⟨S1x1x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .smem, ⟨0, _⟩ => ⟨S160, .i32⟩
  | .local _ .smem, ⟨1, _⟩ => ⟨S1, .i32⟩
  | _, _ => ⟨S81920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 160], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v14 : BitVec 32) : BitVec 1 :=
  let arg1 : BitVec 32 := BitVec.ofNat 32 (i 1).val
  let v15 : BitVec 1 := Scalar.cmpi .slt arg1 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg1 : BitVec 32 := BitVec.ofNat 32 (i 1).val
  let v19 : BitVec 1 := Scalar.cmpi .sge arg1 v18
  let v20 : BitVec 32 := Scalar.extui v19
  let c0_i32_5 : BitVec 32 := 0#32
  let v21 : BitVec 1 := Scalar.cmpi .ne v20 c0_i32_5
  v21

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S160 : Shape := ⟨1, ![160]⟩
abbrev S1 : Shape := ⟨1, ![1]⟩
abbrev S81920x2048 : Shape := ⟨2, ![81920, 2048]⟩
abbrev S32x2048x2048 : Shape := ⟨3, ![32, 2048, 2048]⟩
abbrev S32x1x2048 : Shape := ⟨3, ![32, 1, 2048]⟩
abbrev S160x512x2048 : Shape := ⟨3, ![160, 512, 2048]⟩
abbrev S_ : Shape := ⟨0, ![]⟩
abbrev S160x1 : Shape := ⟨2, ![160, 1]⟩
abbrev S160x2048x2048 : Shape := ⟨3, ![160, 2048, 2048]⟩
abbrev S160x1x2048 : Shape := ⟨3, ![160, 1, 2048]⟩
abbrev S160x1x1 : Shape := ⟨3, ![160, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x2048, .bf16⟩
  | .hbm, ⟨3, _⟩ => ⟨S32x2048x2048, .f32⟩
  | .hbm, ⟨4, _⟩ => ⟨S32x1x2048, .f32⟩
  | .hbm, ⟨5, _⟩ => ⟨S160x512x2048, .bf16⟩
  | .hbm, ⟨6, _⟩ => ⟨S160x512x2048, .f32⟩
  | .hbm, ⟨7, _⟩ => ⟨S_, .i32⟩
  | .hbm, ⟨8, _⟩ => ⟨S160, .i32⟩
  | .hbm, ⟨9, _⟩ => ⟨S160, .i1⟩
  | .hbm, ⟨10, _⟩ => ⟨S_, .i32⟩
  | .hbm, ⟨11, _⟩ => ⟨S160, .i32⟩
  | .hbm, ⟨12, _⟩ => ⟨S160, .i32⟩
  | .hbm, ⟨13, _⟩ => ⟨S160, .i32⟩
  | .hbm, ⟨14, _⟩ => ⟨S160x1, .i32⟩
  | .hbm, ⟨15, _⟩ => ⟨S160x2048x2048, .f32⟩
  | .hbm, ⟨16, _⟩ => ⟨S160x512x2048, .f32⟩
  | .hbm, ⟨17, _⟩ => ⟨S_, .i32⟩
  | .hbm, ⟨18, _⟩ => ⟨S160, .i32⟩
  | .hbm, ⟨19, _⟩ => ⟨S160, .i1⟩
  | .hbm, ⟨20, _⟩ => ⟨S_, .i32⟩
  | .hbm, ⟨21, _⟩ => ⟨S160, .i32⟩
  | .hbm, ⟨22, _⟩ => ⟨S160, .i32⟩
  | .hbm, ⟨23, _⟩ => ⟨S160, .i32⟩
  | .hbm, ⟨24, _⟩ => ⟨S160x1, .i32⟩
  | .hbm, ⟨25, _⟩ => ⟨S160x1x2048, .f32⟩
  | .hbm, ⟨26, _⟩ => ⟨S160x512x2048, .f32⟩
  | .hbm, ⟨27, _⟩ => ⟨S160x512x2048, .f32⟩
  | .hbm, ⟨28, _⟩ => ⟨S160, .i32⟩
  | .hbm, ⟨29, _⟩ => ⟨S160, .i32⟩
  | .hbm, ⟨30, _⟩ => ⟨S160, .i1⟩
  | .hbm, ⟨31, _⟩ => ⟨S160x1x1, .i1⟩
  | .hbm, ⟨32, _⟩ => ⟨S_, .f32⟩
  | .hbm, ⟨33, _⟩ => ⟨S_, .f32⟩
  | .hbm, ⟨34, _⟩ => ⟨S160x512x2048, .i1⟩
  | .hbm, ⟨35, _⟩ => ⟨S160x512x2048, .f32⟩
  | .hbm, ⟨36, _⟩ => ⟨S160x512x2048, .f32⟩
  | .hbm, ⟨37, _⟩ => ⟨S81920x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel9.lean ====
abbrev S16384x2048 : Shape := ⟨2, ![16384, 2048]⟩
abbrev S2048 : Shape := ⟨1, ![2048]⟩
abbrev S2048x14384 : Shape := ⟨2, ![2048, 14384]⟩
abbrev S2048x48 : Shape := ⟨2, ![2048, 48]⟩
abbrev S_ : Shape := ⟨0, ![]⟩
abbrev S2048x128 : Shape := ⟨2, ![2048, 128]⟩
abbrev S1x2048 : Shape := ⟨2, ![1, 2048]⟩
abbrev S16384x128 : Shape := ⟨2, ![16384, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14384, .f32⟩
  | .hbm, ⟨3, _⟩ => ⟨S2048x48, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S1x2048, .f32⟩
  | .hbm, ⟨9, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16384x2048 : Shape := ⟨2, ![16384, 2048]⟩
abbrev S2048 : Shape := ⟨1, ![2048]⟩
abbrev S2048x14384 : Shape := ⟨2, ![2048, 14384]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x14384 : Shape := ⟨2, ![16384, 14384]⟩
abbrev S16384x48 : Shape := ⟨2, ![16384, 48]⟩
abbrev S16384x128 : Shape := ⟨2, ![16384, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14384, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x14384, .f32⟩
  | .hbm, ⟨20, _⟩ => ⟨S16384x48, .f32⟩
  | .hbm, ⟨21, _⟩ => ⟨S_, .i32⟩
  | .hbm, ⟨22, _⟩ => ⟨S_, .f32⟩
  | .hbm, ⟨23, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel10.lean ====
abbrev S16384x14336 : Shape := ⟨2, ![16384, 14336]⟩
abbrev S32x128 : Shape := ⟨2, ![32, 128]⟩
abbrev S4096x256 : Shape := ⟨2, ![4096, 256]⟩
abbrev S256x128 : Shape := ⟨2, ![256, 128]⟩
abbrev S3x128 : Shape := ⟨2, ![3, 128]⟩
abbrev S16384x1024 : Shape := ⟨2, ![16384, 1024]⟩
abbrev S4x256x16x2x4x128 : Shape := ⟨6, ![4, 256, 16, 2, 4, 128]⟩
abbrev S4x2x4x256x16x128 : Shape := ⟨6, ![4, 2, 4, 256, 16, 128]⟩
abbrev S4x2x4x256x2048 : Shape := ⟨5, ![4, 2, 4, 256, 2048]⟩
abbrev S1x32x128 : Shape := ⟨3, ![1, 32, 128]⟩
abbrev S2x32x128 : Shape := ⟨3, ![2, 32, 128]⟩
abbrev S2x1x4096 : Shape := ⟨3, ![2, 1, 4096]⟩
abbrev S1x4096x256 : Shape := ⟨3, ![1, 4096, 256]⟩
abbrev S2x4096x256 : Shape := ⟨3, ![2, 4096, 256]⟩
abbrev S1x256x128 : Shape := ⟨3, ![1, 256, 128]⟩
abbrev S2x256x128 : Shape := ⟨3, ![2, 256, 128]⟩
abbrev S1x128 : Shape := ⟨2, ![1, 128]⟩
abbrev S4x2x4x256x128 : Shape := ⟨5, ![4, 2, 4, 256, 128]⟩
abbrev S1x1x1x256x2048 : Shape := ⟨5, ![1, 1, 1, 256, 2048]⟩
abbrev S1x1x4096 : Shape := ⟨3, ![1, 1, 4096]⟩
abbrev S1x1x1x256x128 : Shape := ⟨5, ![1, 1, 1, 256, 128]⟩
abbrev S256x2048 : Shape := ⟨2, ![256, 2048]⟩
abbrev S1x1x2048 : Shape := ⟨3, ![1, 1, 2048]⟩
abbrev S1x2048 : Shape := ⟨2, ![1, 2048]⟩
abbrev S1x2048x256 : Shape := ⟨3, ![1, 2048, 256]⟩
abbrev S2048x256 : Shape := ⟨2, ![2048, 256]⟩
abbrev S256x256 : Shape := ⟨2, ![256, 256]⟩
abbrev S256 : Shape := ⟨1, ![256]⟩
abbrev S256x1 : Shape := ⟨2, ![256, 1]⟩

abbrev nBuf : Space → Nat
  | .hbm => 26
  | .vmem => 11
  | .smem => 0
  | _ => 0

abbrev bufTy : (tb : Table) → Fin (tcTables nBuf tb) → BufTy
  | .hbm, ⟨0, _⟩ => ⟨S16384x14336, .bf16⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S32x128, .f32⟩
  | .hbm, ⟨5, _⟩ => ⟨S4096x256, .f32⟩
  | .hbm, ⟨6, _⟩ => ⟨S256x128, .f32⟩
  | .hbm, ⟨7, _⟩ => ⟨S3x128, .f32⟩
  | .hbm, ⟨8, _⟩ => ⟨S16384x1024, .bf16⟩
  | .hbm, ⟨9, _⟩ => ⟨S4x256x16x2x4x128, .bf16⟩
  | .hbm, ⟨10, _⟩ => ⟨S4x2x4x256x16x128, .bf16⟩
  | .hbm, ⟨11, _⟩ => ⟨S4x2x4x256x2048, .bf16⟩
  | .hbm, ⟨12, _⟩ => ⟨S1x32x128, .f32⟩
  | .hbm, ⟨13, _⟩ => ⟨S1x32x128, .f32⟩
  | .hbm, ⟨14, _⟩ => ⟨S2x32x128, .f32⟩
  | .hbm, ⟨15, _⟩ => ⟨S2x1x4096, .f32⟩
  | .hbm, ⟨16, _⟩ => ⟨S1x4096x256, .f32⟩
  | .hbm, ⟨17, _⟩ => ⟨S1x4096x256, .f32⟩
  | .hbm, ⟨18, _⟩ => ⟨S2x4096x256, .f32⟩
  | .hbm, ⟨19, _⟩ => ⟨S2x4096x256, .bf16⟩
  | .hbm, ⟨20, _⟩ => ⟨S1x256x128, .f32⟩
  | .hbm, ⟨21, _⟩ => ⟨S1x256x128, .f32⟩
  | .hbm, ⟨22, _⟩ => ⟨S2x256x128, .f32⟩
  | .hbm, ⟨23, _⟩ => ⟨S2x256x128, .bf16⟩
  | .hbm, ⟨24, _⟩ => ⟨S1x128, .f32⟩
  | .hbm, ⟨25, _⟩ => ⟨S4x2x4x256x128, .bf16⟩
  | .local _ .vmem, ⟨0, _⟩ => ⟨S1x1x1x256x2048, .bf16⟩
  | .local _ .vmem, ⟨1, _⟩ => ⟨S1x1x1x256x2048, .bf16⟩
  | .local _ .vmem, ⟨2, _⟩ => ⟨S1x1x4096, .f32⟩
  | .local _ .vmem, ⟨3, _⟩ => ⟨S1x1x4096, .f32⟩
  | .local _ .vmem, ⟨4, _⟩ => ⟨S1x4096x256, .bf16⟩
  | .local _ .vmem, ⟨5, _⟩ => ⟨S1x4096x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x128, .f32⟩
  | .local _ .vmem, ⟨9, _⟩ => ⟨S1x1x1x256x128, .bf16⟩
  | .local _ .vmem, ⟨10, _⟩ => ⟨S1x1x1x256x128, .bf16⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference10Ideal.lean ====
abbrev S16384x14336 : Shape := ⟨2, ![16384, 14336]⟩
abbrev S32x128 : Shape := ⟨2, ![32, 128]⟩
abbrev S4096x256 : Shape := ⟨2, ![4096, 256]⟩
abbrev S256x128 : Shape := ⟨2, ![256, 128]⟩
abbrev S3x128 : Shape := ⟨2, ![3, 128]⟩
abbrev S16384x1024 : Shape := ⟨2, ![16384, 1024]⟩
abbrev S4x4096x2x4x128 : Shape := ⟨5, ![4, 4096, 2, 4, 128]⟩
abbrev S4x4096x1x4x128 : Shape := ⟨5, ![4, 4096, 1, 4, 128]⟩
abbrev S4x4096x4x128 : Shape := ⟨4, ![4, 4096, 4, 128]⟩
abbrev S255 : Shape := ⟨1, ![255]⟩
abbrev S255x1 : Shape := ⟨2, ![255, 1]⟩
abbrev S_ : Shape := ⟨0, ![]⟩
abbrev S32 : Shape := ⟨1, ![32]⟩
abbrev S1x32 : Shape := ⟨2, ![1, 32]⟩
abbrev S255x32 : Shape := ⟨2, ![255, 32]⟩
abbrev S255x32x1 : Shape := ⟨3, ![255, 32, 1]⟩
abbrev S4x255x32x4x128 : Shape := ⟨5, ![4, 255, 32, 4, 128]⟩
abbrev S1x1x32x1x128 : Shape := ⟨5, ![1, 1, 32, 1, 128]⟩
abbrev S4x255x4x32x128 : Shape := ⟨5, ![4, 255, 4, 32, 128]⟩
abbrev S4x255x4x4096 : Shape := ⟨4, ![4, 255, 4, 4096]⟩
abbrev S4x255x4x256 : Shape := ⟨4, ![4, 255, 4, 256]⟩
abbrev S4x255x4x128 : Shape := ⟨4, ![4, 255, 4, 128]⟩
abbrev S1x128 : Shape := ⟨2, ![1, 128]⟩
abbrev S128 : Shape := ⟨1, ![128]⟩
abbrev S4x255x4 : Shape := ⟨3, ![4, 255, 4]⟩
abbrev S4x255x4x1 : Shape := ⟨4, ![4, 255, 4, 1]⟩
abbrev S1x1x1x128 : Shape := ⟨4, ![1, 1, 1, 128]⟩
abbrev S4x1x255x4x128 : Shape := ⟨5, ![4, 1, 255, 4, 128]⟩
abbrev S4x2x255x4x128 : Shape := ⟨5, ![4, 2, 255, 4, 128]⟩
abbrev S4x2x4x255x128 : Shape := ⟨5, ![4, 2, 4, 255, 128]⟩
abbrev S4x2x4x256x128 : Shape := ⟨5, ![4, 2, 4, 256, 128]⟩

abbrev nBuf : Space → Nat
  | .hbm => 127
  | .vmem => 0
  | .smem => 0
  | _ => 0

abbrev bufTy : (tb : Table) → Fin (tcTables nBuf tb) → BufTy
  | .hbm, ⟨0, _⟩ => ⟨S16384x14336, .bf16⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S32x128, .f32⟩
  | .hbm, ⟨5, _⟩ => ⟨S4096x256, .f32⟩
  | .hbm, ⟨6, _⟩ => ⟨S256x128, .f32⟩
  | .hbm, ⟨7, _⟩ => ⟨S3x128, .f32⟩
  | .hbm, ⟨8, _⟩ => ⟨S16384x1024, .bf16⟩
  | .hbm, ⟨9, _⟩ => ⟨S16384x1024, .f32⟩
  | .hbm, ⟨10, _⟩ => ⟨S4x4096x2x4x128, .f32⟩
  | .hbm, ⟨11, _⟩ => ⟨S4x4096x1x4x128, .f32⟩
  | .hbm, ⟨12, _⟩ => ⟨S4x4096x4x128, .f32⟩
  | .hbm, ⟨13, _⟩ => ⟨S255, .i32⟩
  | .hbm, ⟨14, _⟩ => ⟨S255x1, .i32⟩
  | .hbm, ⟨15, _⟩ => ⟨S_, .i32⟩
  | .hbm, ⟨16, _⟩ => ⟨S255x1, .i32⟩
  | .hbm, ⟨17, _⟩ => ⟨S255x1, .i32⟩
  | .hbm, ⟨18, _⟩ => ⟨S32, .i32⟩
  | .hbm, ⟨19, _⟩ => ⟨S1x32, .i32⟩
  | .hbm, ⟨20, _⟩ => ⟨S255x32, .i32⟩
  | .hbm, ⟨21, _⟩ => ⟨S255x32, .i32⟩
  | .hbm, ⟨22, _⟩ => ⟨S255x32, .i32⟩
  | .hbm, ⟨23, _⟩ => ⟨S_, .i32⟩
  | .hbm, ⟨24, _⟩ => ⟨S255x32, .i32⟩
  | .hbm, ⟨25, _⟩ => ⟨S255x32, .i1⟩
  | .hbm, ⟨26, _⟩ => ⟨S_, .i32⟩
  | .hbm, ⟨27, _⟩ => ⟨S255x32, .i32⟩
  | .hbm, ⟨28, _⟩ => ⟨S255x32, .i32⟩
  | .hbm, ⟨29, _⟩ => ⟨S255x32, .i32⟩
  | .hbm, ⟨30, _⟩ => ⟨S255x32x1, .i32⟩
  | .hbm, ⟨31, _⟩ => ⟨S4x255x32x4x128, .f32⟩
  | .hbm, ⟨32, _⟩ => ⟨S1x1x32x1x128, .f32⟩
  | .hbm, ⟨33, _⟩ => ⟨S4x255x32x4x128, .f32⟩
  | .hbm, ⟨34, _⟩ => ⟨S4x255x32x4x128, .f32⟩
  | .hbm, ⟨35, _⟩ => ⟨S4x255x4x32x128, .f32⟩
  | .hbm, ⟨36, _⟩ => ⟨S4x255x4x4096, .f32⟩
  | .hbm, ⟨37, _⟩ => ⟨S4x255x4x256, .f32⟩
  | .hbm, ⟨38, _⟩ => ⟨S4x255x4x256, .f32⟩
  | .hbm, ⟨39, _⟩ => ⟨S4x255x4x256, .f32⟩
  | .hbm, ⟨40, _⟩ => ⟨S_, .f32⟩
  | .hbm, ⟨41, _⟩ => ⟨S4x255x4x256, .f32⟩
  | .hbm, ⟨42, _⟩ => ⟨S4x255x4x256, .f32⟩
  | .hbm, ⟨43, _⟩ => ⟨S4x255x4x256, .f32⟩
  | .hbm, ⟨44, _⟩ => ⟨S_, .f32⟩
  | .hbm, ⟨45, _⟩ => ⟨S4x255x4x256, .f32⟩
  | .hbm, ⟨46, _⟩ => ⟨S4x255x4x256, .f32⟩
  | .hbm, ⟨47, _⟩ => ⟨S4x255x4x256, .f32⟩
  | .hbm, ⟨48, _⟩ => ⟨S_, .f32⟩
  | .hbm, ⟨49, _⟩ => ⟨S4x255x4x256, .f32⟩
  | .hbm, ⟨50, _⟩ => ⟨S4x255x4x256, .f32⟩
  | .hbm, ⟨51, _⟩ => ⟨S_, .f32⟩
  | .hbm, ⟨52, _⟩ => ⟨S4x255x4x256, .f32⟩
  | .hbm, ⟨53, _⟩ => ⟨S4x255x4x256, .f32⟩
  | .hbm, ⟨54, _⟩ => ⟨S4x255x4x256, .f32⟩
  | .hbm, ⟨55, _⟩ => ⟨S4x255x4x128, .f32⟩
  | .hbm, ⟨56, _⟩ => ⟨S1x128, .f32⟩
  | .hbm, ⟨57, _⟩ => ⟨S128, .f32⟩
  | .hbm, ⟨58, _⟩ => ⟨S4x255x4x128, .f32⟩
  | .hbm, ⟨59, _⟩ => ⟨S_, .f32⟩
  | .hbm, ⟨60, _⟩ => ⟨S4x255x4, .f32⟩
  | .hbm, ⟨61, _⟩ => ⟨S4x255x4x1, .f32⟩
  | .hbm, ⟨62, _⟩ => ⟨S_, .f32⟩
  | .hbm, ⟨63, _⟩ => ⟨S4x255x4x1, .f32⟩
  | .hbm, ⟨64, _⟩ => ⟨S4x255x4x1, .f32⟩
  | .hbm, ⟨65, _⟩ => ⟨S_, .f32⟩
  | .hbm, ⟨66, _⟩ => ⟨S4x255x4x1, .f32⟩
  | .hbm, ⟨67, _⟩ => ⟨S4x255x4x1, .f32⟩
  | .hbm, ⟨68, _⟩ => ⟨S4x255x4x1, .f32⟩
  | .hbm, ⟨69, _⟩ => ⟨S4x255x4x128, .f32⟩
  | .hbm, ⟨70, _⟩ => ⟨S4x255x4x128, .f32⟩
  | .hbm, ⟨71, _⟩ => ⟨S1x1x1x128, .f32⟩
  | .hbm, ⟨72, _⟩ => ⟨S4x255x4x128, .f32⟩
  | .hbm, ⟨73, _⟩ => ⟨S4x255x4x128, .f32⟩
  | .hbm, ⟨74, _⟩ => ⟨S4x4096x1x4x128, .f32⟩
  | .hbm, ⟨75, _⟩ => ⟨S4x4096x4x128, .f32⟩
  | .hbm, ⟨76, _⟩ => ⟨S255, .i32⟩
  | .hbm, ⟨77, _⟩ => ⟨S255x1, .i32⟩
  | .hbm, ⟨78, _⟩ => ⟨S_, .i32⟩
  | .hbm, ⟨79, _⟩ => ⟨S255x1, .i32⟩
  | .hbm, ⟨80, _⟩ => ⟨S255x1, .i32⟩
  | .hbm, ⟨81, _⟩ => ⟨S32, .i32⟩
  | .hbm, ⟨82, _⟩ => ⟨S1x32, .i32⟩
  | .hbm, ⟨83, _⟩ => ⟨S255x32, .i32⟩
  | .hbm, ⟨84, _⟩ => ⟨S255x32, .i32⟩
  | .hbm, ⟨85, _⟩ => ⟨S255x32, .i32⟩
  | .hbm, ⟨86, _⟩ => ⟨S_, .i32⟩
  | .hbm, ⟨87, _⟩ => ⟨S255x32, .i32⟩
  | .hbm, ⟨88, _⟩ => ⟨S255x32, .i1⟩
  | .hbm, ⟨89, _⟩ => ⟨S_, .i32⟩
  | .hbm, ⟨90, _⟩ => ⟨S255x32, .i32⟩
  | .hbm, ⟨91, _⟩ => ⟨S255x32, .i32⟩
  | .hbm, ⟨92, _⟩ => ⟨S255x32, .i32⟩
  | .hbm, ⟨93, _⟩ => ⟨S255x32x1, .i32⟩
  | .hbm, ⟨94, _⟩ => ⟨S4x255x32x4x128, .f32⟩
  | .hbm, ⟨95, _⟩ => ⟨S1x1x32x1x128, .f32⟩
  | .hbm, ⟨96, _⟩ => ⟨S4x255x32x4x128, .f32⟩
  | .hbm, ⟨97, _⟩ => ⟨S4x255x32x4x128, .f32⟩
  | .hbm, ⟨98, _⟩ => ⟨S4x255x4x32x128, .f32⟩
  | .hbm, ⟨99, _⟩ => ⟨S4x255x4x4096, .f32⟩
  | .hbm, ⟨100, _⟩ => ⟨S4x255x4x256, .f32⟩
  | .hbm, ⟨101, _⟩ => ⟨S4x255x4x256, .f32⟩
  | .hbm, ⟨102, _⟩ => ⟨S4x255x4x256, .f32⟩
  | .hbm, ⟨103, _⟩ => ⟨S_, .f32⟩
  | .hbm, ⟨104, _⟩ => ⟨S4x255x4x256, .f32⟩
  | .hbm, ⟨105, _⟩ => ⟨S4x255x4x256, .f32⟩
  | .hbm, ⟨106, _⟩ => ⟨S4x255x4x256, .f32⟩
  | .hbm, ⟨107, _⟩ => ⟨S_, .f32⟩
  | .hbm, ⟨108, _⟩ => ⟨S4x255x4x256, .f32⟩
  | .hbm, ⟨109, _⟩ => ⟨S4x255x4x256, .f32⟩
  | .hbm, ⟨110, _⟩ => ⟨S4x255x4x256, .f32⟩
  | .hbm, ⟨111, _⟩ => ⟨S_, .f32⟩
  | .hbm, ⟨112, _⟩ => ⟨S4x255x4x256, .f32⟩
  | .hbm, ⟨113, _⟩ => ⟨S4x255x4x256, .f32⟩
  | .hbm, ⟨114, _⟩ => ⟨S_, .f32⟩
  | .hbm, ⟨115, _⟩ => ⟨S4x255x4x256, .f32⟩
  | .hbm, ⟨116, _⟩ => ⟨S4x255x4x256, .f32⟩
  | .hbm, ⟨117, _⟩ => ⟨S4x255x4x256, .f32⟩
  | .hbm, ⟨118, _⟩ => ⟨S4x255x4x128, .f32⟩
  | .hbm, ⟨119, _⟩ => ⟨S4x1x255x4x128, .f32⟩
  | .hbm, ⟨120, _⟩ => ⟨S4x1x255x4x128, .f32⟩
  | .hbm, ⟨121, _⟩ => ⟨S4x2x255x4x128, .f32⟩
  | .hbm, ⟨122, _⟩ => ⟨S4x2x4x255x128, .f32⟩
  | .hbm, ⟨123, _⟩ => ⟨S_, .i32⟩
  | .hbm, ⟨124, _⟩ => ⟨S_, .f32⟩
  | .hbm, ⟨125, _⟩ => ⟨S4x2x4x256x128, .f32⟩
  | .hbm, ⟨126, _⟩ => ⟨S4x2x4x256x128, .bf16⟩
  | _, _ => ⟨S16384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_9 : Ref sig .tc := ⟨.hbm, 86, rfl⟩
abbrev main_v67 : Ref sig .tc := ⟨.hbm, 87, rfl⟩
abbrev main_v68 : Ref sig .tc := ⟨.hbm, 88, rfl⟩
abbrev main_c_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_12 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_13 : Ref sig .tc := ⟨.hbm, 111, rfl⟩
abbrev main_v88 : Ref sig .tc := ⟨.hbm, 112, rfl⟩
abbrev main_v89 : Ref sig .tc := ⟨.hbm, 113, rfl⟩
abbrev main_cst_14 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_c_15 : Ref sig .tc := ⟨.hbm, 123, rfl⟩
abbrev main_call0_v0 : Ref sig .tc := ⟨.hbm, 124, rfl⟩
abbrev main_v98 : Ref sig .tc := ⟨.hbm, 125, rfl⟩
abbrev main_v99 : Ref sig .tc := ⟨.hbm, 126, rfl⟩

abbrev nD : Nat := 1
abbrev τ : Topo := Topo.v7x

variable {F : FTy → Type} [FloatOps F]
-- ==== Proof.Gate.lean ====
module

public import Idealize.ShloMosaic.Lib.Pipeline.ValueKit

/-! # The logistic function, written as a hyperbolic tangent -/

@[expose] public section

noncomputable section

namespace Cert.Gate

open Idealize.ShloMosaic

/-- The two spellings of the logistic function on a real number. -/
theorem sigmoid_real (r : ℝ) : 1 / 2 * Real.tanh (1 / 2 * r) + 1 / 2 = 1 / (1 + Real.exp (-r)) := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have hb : a = 1 / b := by field_simp; exact h2
  subst hb
  field_simp
  ring

/-- The same on the extended reals: at both infinities the two agree. -/
theorem sigmoid (x : EReal) :
    ((1 / 2 : ℝ) : EReal) * Ideal.tanh (((1 / 2 : ℝ) : EReal) * x) + ((1 / 2 : ℝ) : EReal)
      = Ideal.div 1 (1 + Ideal.exp (-x)) := by
  induction x with
  | bot =>
    rw [EReal.coe_mul_bot_of_pos (by norm_num), EReal.neg_bot]
    show ((1 / 2 : ℝ) : EReal) * (-1) + ((1 / 2 : ℝ) : EReal) = Ideal.div 1 (1 + ⊤)
    rw [show (1 : EReal) + ⊤ = ⊤ from rfl, Ideal.div, if_neg (by simp), EReal.inv_top, mul_zero]
    rw [show (-1 : EReal) = ((-1 : ℝ) : EReal) from rfl, ← EReal.coe_mul, ← EReal.coe_add]
    norm_num
  | top =>
    rw [EReal.coe_mul_top_of_pos (by norm_num), EReal.neg_top]
    show ((1 / 2 : ℝ) : EReal) * 1 + ((1 / 2 : ℝ) : EReal) = Ideal.div 1 (1 + 0)
    rw [add_zero, mul_one, ← EReal.coe_add, Ideal.div, if_neg (by simp), inv_one, mul_one]
    norm_num
  | coe r =>
    have hp : (1 : ℝ) + Real.exp (-r) ≠ 0 := by positivity
    have e1 : Ideal.exp (-(r : EReal)) = ((Real.exp (-r) : ℝ) : EReal) := rfl
    have e2 : Ideal.tanh (((1 / 2 : ℝ) : EReal) * (r : EReal)) = ((Real.tanh (1 / 2 * r) : ℝ) : EReal) := rfl
    rw [e1, e2, ← EReal.coe_one, ← EReal.coe_add, Ideal.div, if_neg (by exact_mod_cast hp),
      ← EReal.coe_inv, ← EReal.coe_mul, ← EReal.coe_mul, ← EReal.coe_add, sigmoid_real, one_div, one_mul]

/-- The word of one half. -/
theorem half_word : Ideal.ofBits .f32 0x3F000000#32 = ((1 / 2 : ℝ) : EReal) := by
  simp [Ideal.ofBits, Ideal.ieee, -EReal.coe_mul]; norm_num

/-- `sigmoid` with its halves as words. -/
theorem sigmoid_words (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_word, sigmoid]

end Cert.Gate

end
-- ==== Proof.InProj.lean ====
module

public import proofs.«01_k».proof.Proof.Gen.Kernel2Ideal.Value
public import proofs.«01_k».proof.Proof.Gen.Reference2Ideal.Run
public import proofs.«01_k».proof.Proof.Gate
public import Idealize.ShloMosaic.Lib.Pipeline.ValueKit
public import Idealize.ShloMosaic.Lib.Pipeline.ValueKit.Held
public import Idealize.ShloMosaic.Lib.Pipeline.ReadBack

/-! # The normed input projection -/

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen

variable (m : (ℓ : Loc nD τ sig) → Buf (Elt Ideal) ℓ)

open Cert.Reference2Ideal.Gen in
/-- The reference's term. -/
abbrev REF (X : FVec Ideal S16384x2048 .f32) (N : FVec Ideal S2048 .f32)
    (W : FVec Ideal S2048x14384 .f32) : FVec Ideal S16384x14336 .bf16 :=
  let D : FVec Ideal Cert.Reference2Ideal.S16384x14384 .f32 := Host.dotGeneral Cert.Reference2Ideal.dot_S16384x2048_S2048x14384_S16384x14384_1_0_0_1_n_n none (mulf (mulf X (broadcastInDim Cert.Reference2Ideal.S16384x2048 ![0, 1] bcast_S16384x1_S16384x2048_0_1 (Host.rsqrt (addf (Host.divf (broadcastInDim Cert.Reference2Ideal.S16384x1 ![0] bcast_S16384_S16384x1_0 (Host.reduceAdd (mulf X X) (constant Cert.Reference2Ideal.S_ .f32 0x00000000#32) reducesTo_S16384x2048_S16384_d1 h_S_)) (broadcastInDim Cert.Reference2Ideal.S16384x1 ![] bcast_S_S16384x1 (constant Cert.Reference2Ideal.S_ .f32 0x45000000#32))) (broadcastInDim Cert.Reference2Ideal.S16384x1 ![] bcast_S_S16384x1 (constant Cert.Reference2Ideal.S_ .f32 0x358637BD#32)))))) (broadcastInDim Cert.Reference2Ideal.S16384x2048 ![0, 1] bcast_S1x2048_S16384x2048_0_1 (broadcastInDim Cert.Reference2Ideal.S1x2048 ![1] bcast_S2048_S1x2048_1 N))) W
  truncf .bf16 (concatenate Cert.Reference2Ideal.S16384x14336 1 [⟨Cert.Reference2Ideal.S16384x10240, (extractStridedSlice Cert.Reference2Ideal.S16384x10240 ![0, 0] D slices_S16384x14384_S16384x10240_0_0)⟩, ⟨Cert.Reference2Ideal.S16384x4096, (extractStridedSlice Cert.Reference2Ideal.S16384x4096 ![0, 10288] D slices_S16384x14384_S16384x4096_0_10288)⟩] concatenates_S16384x10240_S16384x4096_S16384x14336_d1) Cert.Reference2Ideal.Gen.bitsLt_bf16_f32

/-- The windows' block indices, over the whole grid. -/
theorem idx : ∀ t : Fin cfg0.N, win0_0.index t = ![t.val / 14, 0]
    ∧ win0_1.index t = ![0, 0]
    ∧ win0_2.index t = ![0, t.val % 14]
    ∧ win0_3.index t = ![t.val / 14, t.val % 14] :=
  (by decide +kernel : ∀ t : Fin grid0.N, _)

/-- The first column block of a row of blocks fills the scratch with the normed rows. -/
theorem scratch_first (c : Dev nD) (t : Fin cfg0.N) (h : t.val % 14 = 0) :
    (outsAt0 m c t.val t.isLt).2 = k0_pay1 (iblk m c 0 t) (iblk m c 1 t) := by
  rw [outsAt0_A m c t h]
  frame_out

/-- The later column blocks leave it as it is. -/
theorem scratch_later (c : Dev nD) (t : Fin cfg0.N) (h : ¬t.val % 14 = 0) :
    (outsAt0 m c t.val t.isLt).2
      = (outsAt0 m c (t.val - 1) (Nat.lt_of_le_of_lt (Nat.sub_le _ _) t.isLt)).2 := by
  rw [outsAt0_B m c t h]
  rfl

/-- So the scratch holds the normed rows of the row of blocks at every point. -/
theorem scratch (c : Dev nD) (t : Fin cfg0.N) :
    (outsAt0 m c t.val t.isLt).2
      = k0_pay1 (iblk m c 0 ⟨14 * (t.val / 14), Pipeline.run_start_lt t⟩)
          (iblk m c 1 ⟨14 * (t.val / 14), Pipeline.run_start_lt t⟩) :=
  Pipeline.eq_of_write_hold (fun n h => (outsAt0 m c n h).2) 14
    (fun t => k0_pay1 (iblk m c 0 t) (iblk m c 1 t))
    (scratch_first m c) (scratch_later m c) t

/-- A point's output block is the product of the scratch with its block of weights. -/
theorem out_scratch (c : Dev nD) (t : Fin cfg0.N) :
    (outsAt0 m c t.val t.isLt).1 = k0_pay2 (outsAt0 m c t.val t.isLt).2 (iblk m c 2 t) := by
  by_cases h : t.val % 14 = 0
  · rw [scratch_first m c t h, outsAt0_A m c t h]
    frame_out
  · rw [scratch_later m c t h, outsAt0_B m c t h]
    frame_out
    rw [read_unread_whole]

/-- The gain row, as the kernel finds it. -/
theorem gain (c : Dev nD) (t : Fin cfg0.N) (x : Fin 2048) :
    iblk m c 1 t (ix2 0 x) = m ((c : Thread nD τ).loc main_arg1) (ix1 x) := by
  blk_simp [iblk, idx t]
  entry_read
  pointwise
  blk_ext [idx t]

/-- The weights, as the kernel finds them: the first columns and the last, side by side. -/
theorem weights (c : Dev nD) (k : Fin 2048) (n : Fin 14336) :
    V m c main_v3 (ix2 k n) = if h : n.val < 10240
      then m ((c : Thread nD τ).loc main_arg2) (ix2 k ⟨n.val, by omega⟩)
      else m ((c : Thread nD τ).loc main_arg2) (ix2 k ⟨10288 + (n.val - 10240), by omega⟩) := by
  entry_read
  pointwise

/-- A block of the weights at its indices. -/
theorem weights_block (c : Dev nD) (t : Fin cfg0.N) (k : Fin 2048) (n : Fin 1024) :
    iblk m c 2 t (ix2 k n) = if h : t.val % 14 * 1024 + n.val < 10240
      then m ((c : Thread nD τ).loc main_arg2) (ix2 k ⟨t.val % 14 * 1024 + n.val, by omega⟩)
      else m ((c : Thread nD τ).loc main_arg2)
        (ix2 k ⟨10288 + (t.val % 14 * 1024 + n.val - 10240), by omega⟩) :=
  Eq.trans (b := V m c main_v3 (ix2 k ⟨t.val % 14 * 1024 + n.val, by omega⟩))
    (by blk_ext [iblk, idx t]) (weights m c k _)

/-- What a grid point stores at an index of its block. -/
theorem point (c : Dev nD) (t : Fin cfg0.N) (y) :
    k0_pay2 (k0_pay1 (iblk m c 0 ⟨14 * (t.val / 14), Pipeline.run_start_lt t⟩)
        (iblk m c 1 ⟨14 * (t.val / 14), Pipeline.run_start_lt t⟩)) (iblk m c 2 t) y
      = REF (m ((c : Thread nD τ).loc main_arg0)) (m ((c : Thread nD τ).loc main_arg1))
          (m ((c : Thread nD τ).loc main_arg2)) (((cfg0.win 3).blk t).view.emb y) := by
  pointwise [k0_pay1, k0_pay2, REF]
  set_option backward.isDefEq.respectTransparency false in
  simp only [gain, weights_block]
  blk_simp [idx t]
  split
  · blk_point [iblk, V, idx t, idx ⟨14 * (t.val / 14), Pipeline.run_start_lt t⟩]
  · blk_point [iblk, V, idx t, idx ⟨14 * (t.val / 14), Pipeline.run_start_lt t⟩]

/-- The result array after the run. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, out_scratch, scratch]
  exact point m c t y

end Cert.Kernel2Ideal.InProj

end
-- ==== Proof.Merge.lean ====
module

public import proofs.«01_k».proof.Proof.Gen.Kernel3Ideal.Value
public import proofs.«01_k».proof.Proof.Gen.Reference3Ideal.Run
public import proofs.«01_k».proof.Proof.Gate
public import Idealize.ShloMosaic.Lib.Pipeline.ValueKit

/-! # The two branches, gated and summed -/

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

variable (m : (ℓ : Loc nD τ sig) → Buf (Elt Ideal) ℓ)

open Cert.Reference3Ideal.Gen in
/-- The reference's term. -/
abbrev REF (A : FVec Ideal S16384x2560 .bf16) (W : FVec Ideal S2560x2048 .f32)
    (B : FVec Ideal S16384x2048 .bf16) (W' : FVec Ideal S2048x2048 .f32)
    (P : FVec Ideal S16384x14336 .bf16) : FVec Ideal S16384x2048 .bf16 :=
  let G : FVec Ideal Cert.Reference3Ideal.S16384x4096 .f32 := Host.divf (broadcastInDim Cert.Reference3Ideal.S16384x4096 ![] bcast_S_S16384x4096 (constant Cert.Reference3Ideal.S_ .f32 0x3F800000#32)) (addf (broadcastInDim Cert.Reference3Ideal.S16384x4096 ![] bcast_S_S16384x4096 (constant Cert.Reference3Ideal.S_ .f32 0x3F800000#32)) (Host.exp (Host.negf (extf .f32 (extractStridedSlice Cert.Reference3Ideal.S16384x4096 ![0, 10240] P Cert.Reference3Ideal.Gen.slices_S16384x14336_S16384x4096_0_10240) Cert.Reference3Ideal.Gen.bitsLt_bf16_f32))))
  truncf .bf16 (addf
    (mulf (shapeCast _ (extractStridedSlice Cert.Reference3Ideal.S16384x1x2048 ![0, 0, 0] (shapeCast _ G shapeCasts_S16384x4096_S16384x2x2048) slices_S16384x2x2048_S16384x1x2048_0_0_0) shapeCasts_S16384x1x2048_S16384x2048)
      (Host.dotGeneral Cert.Reference3Ideal.dot_S16384x2560_S2560x2048_S16384x2048_1_0_0_1_n_n none (extf .f32 A Cert.Reference3Ideal.Gen.bitsLt_bf16_f32) W))
    (mulf (shapeCast _ (extractStridedSlice Cert.Reference3Ideal.S16384x1x2048 ![0, 1, 0] (shapeCast _ G shapeCasts_S16384x4096_S16384x2x2048) slices_S16384x2x2048_S16384x1x2048_0_1_0) shapeCasts_S16384x1x2048_S16384x2048)
      (Host.dotGeneral Cert.Reference3Ideal.dot_S16384x2048_S2048x2048_S16384x2048_1_0_0_1_n_n none (extf .f32 B Cert.Reference3Ideal.Gen.bitsLt_bf16_f32) W'))) Cert.Reference3Ideal.Gen.bitsLt_bf16_f32

/-- The windows' block indices, over the whole grid. -/
theorem idx : ∀ t : Fin cfg0.N, win0_0.index t = ![(grid0.coords t 0).val, 0]
    ∧ win0_1.index t = ![0, (grid0.coords t 1).val]
    ∧ win0_2.index t = ![(grid0.coords t 0).val, 0]
    ∧ win0_3.index t = ![0, (grid0.coords t 1).val]
    ∧ win0_4.index t = ![(grid0.coords t 0).val, 10 + (grid0.coords t 1).val]
    ∧ win0_5.index t = ![(grid0.coords t 0).val, 12 + (grid0.coords t 1).val]
    ∧ win0_6.index t = ![(grid0.coords t 0).val, (grid0.coords t 1).val] :=
  (by decide +kernel : ∀ t : Fin grid0.N, _)

/-- What a grid point stores at an index of its block. -/
theorem point (c : Dev nD) (t : Fin cfg0.N) (y) :
    k0_pay1 (iblk m c 0 t) (iblk m c 1 t) (iblk m c 2 t) (iblk m c 3 t) (iblk m c 4 t) (iblk m c 5 t) y
      = REF (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 6).blk t).view.emb y) := by
  pointwise [k0_pay1, REF]
  set_option backward.isDefEq.respectTransparency false in
  simp only [Cert.Gate.sigmoid_words]
  blk_point [iblk, V, idx t]

/-- The result array after the run. -/
theorem final (c : Dev nD) : (dats m 0 c).arrAt 6 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 6 _ (by decide +kernel) fun t _ y => ?_
  blk_simp
  rw [after0_6]; frame_out
  exact point m c t y

end Cert.Kernel3Ideal.Merge

end
-- ==== Proof.Mix.lean ====
module

public import proofs.«01_k».proof.Proof.Gen.Kernel4Ideal.Value
public import proofs.«01_k».proof.Proof.Gen.Reference4Ideal.Run
public import Idealize.ShloMosaic.Lib.Pipeline.ValueKit

/-! # The output projection with its residual

The result array of the tiled kernel is the residual plus the full matrix product. -/

@[expose] public section

set_option maxRecDepth 16384

noncomputable section

open Idealize.ShloMosaic Idealize.ShloMosaic.TcCoe Idealize.SL.Sem
open Idealize.ShloMosaic.Pipeline (Dat)

namespace Cert.Kernel4Ideal.Mix

open Cert.Kernel4Ideal Cert.Kernel4Ideal.Gen

variable (m : (ℓ : Loc nD τ sig) → Buf (Elt Ideal) ℓ)

/-- The reference's term. -/
abbrev REF (X : FVec Ideal S16384x2048 .bf16) (W : FVec Ideal S2048x2048 .f32)
    (R : FVec Ideal S16384x2048 .f32) : FVec Ideal S16384x2048 .f32 :=
  addf R (Host.dotGeneral Cert.Reference4Ideal.dot_S16384x2048_S2048x2048_S16384x2048_1_0_0_1_n_n none
    (extf .f32 X Cert.Reference4Ideal.Gen.bitsLt_bf16_f32) W)

/-- The windows' block indices, over the whole grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- What a grid point stores at an index of its block. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1))
          (m ((c : Thread nD τ).loc main_arg2)) (((cfg0.win 3).blk t).view.emb y) := by
  pointwise [k0_pay1, REF]
  blk_point [iblk, V, idx t]

/-- The result array after the run. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.Kernel4Ideal.Mix

end
-- ==== Proof.Ple.lean ====
module

public import proofs.«01_k».proof.Proof.Gen.Kernel5Ideal.Value
public import proofs.«01_k».proof.Proof.Gen.Reference5Ideal.Run
public import proofs.«01_k».proof.Proof.Gate
public import Idealize.ShloMosaic.Lib.Pipeline.ValueKit

/-! # The normed projection of the per-layer embedding -/

@[expose] public section

set_option maxRecDepth 16384

noncomputable section

open Idealize.ShloMosaic Idealize.ShloMosaic.TcCoe Idealize.SL.Sem
open Idealize.ShloMosaic.Pipeline (Dat)

namespace Cert.Kernel5Ideal.Ple

open Cert.Kernel5Ideal Cert.Kernel5Ideal.Gen

variable (m : (ℓ : Loc nD τ sig) → Buf (Elt Ideal) ℓ)

open Cert.Reference5Ideal.Gen in
/-- The reference's term. -/
abbrev REF (X : FVec Ideal S16384x256 .f32) (W : FVec Ideal S256x2048 .f32)
    (N : FVec Ideal S2048 .f32) : FVec Ideal S16384x2048 .bf16 :=
  let D : FVec Ideal S16384x2048 .f32 := Host.dotGeneral Cert.Reference5Ideal.dot_S16384x256_S256x2048_S16384x2048_1_0_0_1_n_n none X W
  truncf .bf16 (mulf (mulf D (broadcastInDim Cert.Reference5Ideal.S16384x2048 ![0, 1] bcast_S16384x1_S16384x2048_0_1 (Host.rsqrt (addf (Host.divf (broadcastInDim Cert.Reference5Ideal.S16384x1 ![0] bcast_S16384_S16384x1_0 (Host.reduceAdd (mulf D D) (constant Cert.Reference5Ideal.S_ .f32 0x00000000#32) reducesTo_S16384x2048_S16384_d1 h_S_)) (broadcastInDim Cert.Reference5Ideal.S16384x1 ![] bcast_S_S16384x1 (constant Cert.Reference5Ideal.S_ .f32 0x45000000#32))) (broadcastInDim Cert.Reference5Ideal.S16384x1 ![] bcast_S_S16384x1 (constant Cert.Reference5Ideal.S_ .f32 0x358637BD#32)))))) (broadcastInDim Cert.Reference5Ideal.S16384x2048 ![0, 1] bcast_S1x2048_S16384x2048_0_1 (broadcastInDim Cert.Reference5Ideal.S1x2048 ![1] bcast_S2048_S1x2048_1 N))) Cert.Reference5Ideal.Gen.bitsLt_bf16_f32

/-- The windows' block indices, over the whole grid. -/
theorem idx : ∀ t : Fin cfg0.N, win0_0.index t = ![(grid0.coords t 0).val, 0]
    ∧ win0_1.index t = ![0, 0]
    ∧ win0_2.index t = ![0, 0]
    ∧ win0_3.index t = ![(grid0.coords t 0).val, 0] :=
  (by decide +kernel : ∀ t : Fin grid0.N, _)

/-- What a grid point stores at an index of its block. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1))
          (m ((c : Thread nD τ).loc main_arg2)) (((cfg0.win 3).blk t).view.emb y) := by
  pointwise [k0_pay1, REF]
  blk_point [iblk, V, idx t]

/-- The result array after the run. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.Kernel5Ideal.Ple

end
-- ==== Proof.PleGate.lean ====
module

public import proofs.«01_k».proof.Proof.Gen.Kernel6Ideal.Value
public import proofs.«01_k».proof.Proof.Gen.Reference6Ideal.Run
public import proofs.«01_k».proof.Proof.Gate
public import Idealize.ShloMosaic.Lib.Pipeline.ValueKit
public import Idealize.ShloMosaic.Lib.Pipeline.ValueKit.Held
public import Idealize.ShloMosaic.Lib.Pipeline.ReadBack

/-! # The gated addition of the per-layer embedding -/

@[expose] public section

set_option maxRecDepth 16384

noncomputable section

open Idealize.ShloMosaic Idealize.ShloMosaic.TcCoe Idealize.SL.Sem
open Idealize.ShloMosaic.Pipeline (Dat)

namespace Cert.Kernel6Ideal.PleGate

open Cert.Kernel6Ideal Cert.Kernel6Ideal.Gen

variable (m : (ℓ : Loc nD τ sig) → Buf (Elt Ideal) ℓ)

open Cert.Reference6Ideal.Gen in
/-- The reference's term. -/
abbrev REF (X : FVec Ideal S16384x2048 .f32) (W : FVec Ideal S2048x2048 .f32)
    (P : FVec Ideal S16384x2048 .bf16) : FVec Ideal S16384x2048 .f32 :=
  addf X (mulf (Host.divf (broadcastInDim Cert.Reference6Ideal.S16384x2048 ![] bcast_S_S16384x2048 (constant Cert.Reference6Ideal.S_ .f32 0x3F800000#32)) (addf (broadcastInDim Cert.Reference6Ideal.S16384x2048 ![] bcast_S_S16384x2048 (constant Cert.Reference6Ideal.S_ .f32 0x3F800000#32)) (Host.exp (Host.negf (Host.dotGeneral Cert.Reference6Ideal.dot_S16384x2048_S2048x2048_S16384x2048_1_0_0_1_n_n none X W))))) (extf .f32 P Cert.Reference6Ideal.Gen.bitsLt_bf16_f32))

/-- The windows' block indices, over the whole grid. -/
theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2]
    ∧ win0_4.index t = ![t.val / 2, t.val % 2] :=
  (by decide +kernel : ∀ t : Fin grid0.N, _)

/-- The first column block of a row of blocks fills the scratch with the rows. -/
theorem scratch_first (c : Dev nD) (t : Fin cfg0.N) (h : t.val % 2 = 0) :
    (outsAt0 m c t.val t.isLt).2 = k0_pay1 (iblk m c 0 t) := by
  rw [outsAt0_A m c t h]
  frame_out

/-- The later column block leaves it as it is. -/
theorem scratch_later (c : Dev nD) (t : Fin cfg0.N) (h : ¬t.val % 2 = 0) :
    (outsAt0 m c t.val t.isLt).2
      = (outsAt0 m c (t.val - 1) (Nat.lt_of_le_of_lt (Nat.sub_le _ _) t.isLt)).2 := by
  rw [outsAt0_B m c t h]
  rfl

/-- So the scratch holds the rows of the row of blocks at every point. -/
theorem scratch (c : Dev nD) (t : Fin cfg0.N) :
    (outsAt0 m c t.val t.isLt).2
      = k0_pay1 (iblk m c 0 ⟨2 * (t.val / 2), Pipeline.run_start_lt t⟩) :=
  Pipeline.eq_of_write_hold (fun n h => (outsAt0 m c n h).2) 2 (fun t => k0_pay1 (iblk m c 0 t))
    (scratch_first m c) (scratch_later m c) t

/-- A point's output block, from the scratch and its blocks. -/
theorem out_scratch (c : Dev nD) (t : Fin cfg0.N) :
    (outsAt0 m c t.val t.isLt).1
      = k0_pay2 (outsAt0 m c t.val t.isLt).2 (iblk m c 1 t) (iblk m c 2 t) (iblk m c 3 t) := by
  by_cases h : t.val % 2 = 0
  · rw [scratch_first m c t h, outsAt0_A m c t h]
    frame_out
  · rw [scratch_later m c t h, outsAt0_B m c t h]
    frame_out
    rw [read_unread_whole]

/-- What a grid point stores at an index of its block. -/
theorem point (c : Dev nD) (t : Fin cfg0.N) (y) :
    k0_pay2 (k0_pay1 (iblk m c 0 ⟨2 * (t.val / 2), Pipeline.run_start_lt t⟩))
        (iblk m c 1 t) (iblk m c 2 t) (iblk m c 3 t) y
      = REF (m ((c : Thread nD τ).loc main_arg0)) (m ((c : Thread nD τ).loc main_arg1))
          (m ((c : Thread nD τ).loc main_arg2)) (((cfg0.win 4).blk t).view.emb y) := by
  pointwise [k0_pay1, k0_pay2, REF]
  set_option backward.isDefEq.respectTransparency false in
  simp only [Cert.Gate.sigmoid_words]
  blk_point [iblk, V, idx t, idx ⟨2 * (t.val / 2), Pipeline.run_start_lt t⟩]

/-- The result array after the run. -/
theorem final (c : Dev nD) : (dats m 0 c).arrAt 4 (cfgs 0).N
    = REF (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4, out_scratch, scratch]
  exact point m c t y

end Cert.Kernel6Ideal.PleGate

end
-- ==== Proof.Projections.lean ====
module

public import proofs.«01_k».proof.Defs
public import proofs.«01_k».proof.Proof.InProj
public import proofs.«01_k».proof.Proof.Merge
public import proofs.«01_k».proof.Proof.Mix
public import proofs.«01_k».proof.Proof.Ple
public import proofs.«01_k».proof.Proof.PleGate
public import Idealize.ShloMosaic.Lib.Claim

/-! # The projections: each call computes its reference's term -/

@[expose] public section

set_option maxRecDepth 16384

noncomputable section

namespace Cert.Proof

open Idealize.ShloMosaic Idealize.SL.Sem

/-- The input projection and its reference compute the same array. -/
theorem algebraic2 : Cert.algebraic_Kernel2Ideal_Reference2Ideal
    (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    refine Eq.trans (b := Cert.Kernel2Ideal.InProj.REF (m (c.tc.loc Cert.Kernel2Ideal.main_arg0))
      (m (c.tc.loc Cert.Kernel2Ideal.main_arg1)) (m' (c.tc.loc Cert.Reference2Ideal.main_arg2))) rfl ?_
    exact (congrArg (Cert.Kernel2Ideal.InProj.REF _ _) (hagree c).2.2).trans
      (Cert.Kernel2Ideal.InProj.final m c).symm

/-- The branch merge and its reference compute the same array. -/
theorem algebraic3 : Cert.algebraic_Kernel3Ideal_Reference3Ideal
    (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    exact (Cert.Kernel3Ideal.Merge.final m c).symm

/-- The output projection and its reference compute the same array. -/
theorem algebraic4 : Cert.algebraic_Kernel4Ideal_Reference4Ideal
    (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    exact (Cert.Kernel4Ideal.Mix.final m c).symm

/-- The per-layer projection and its reference compute the same array. -/
theorem algebraic5 : Cert.algebraic_Kernel5Ideal_Reference5Ideal
    (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    exact (Cert.Kernel5Ideal.Ple.final m c).symm

/-- The per-layer gate and its reference compute the same array. -/
theorem algebraic6 : Cert.algebraic_Kernel6Ideal_Reference6Ideal
    (hKernel6Ideal := Cert.Kernel6Ideal.Gen.facts)
    (hReference6Ideal := Cert.Reference6Ideal.Gen.facts) := by
  pair_intro
  · run_from Cert.Kernel6Ideal.Gen.run_main m g
  · run_from Cert.Reference6Ideal.Value.run m' g'
    exact (Cert.Kernel6Ideal.PleGate.final m c).symm

end Cert.Proof

end
-- ==== Proof.CmpWords.lean ====
module

public import Idealize.ShloMosaic.Lib.Pipeline.ValueKit
public import Idealize.ShloMosaic.Lib.WordCmp

/-! # The index words of the compressed attention -/

@[expose] public section

noncomputable section

namespace Cert.CmpWords

open Idealize.ShloMosaic Idealize.ShloMosaic.WordCmp

/-- The last position of a compressed block … -/
theorem block_end (c : ℕ) : IntOp.addi (IntOp.muli (BitVec.ofNat 32 c) 16#32) 31#32 = BitVec.ofNat 32 (c * 16 + 31) := by
  rw [IntOp.addi, IntOp.muli, BitVec.ofNat_add, BitVec.ofNat_mul]

/-- … also written as one less than its end. -/
theorem block_end' (c : ℕ) : IntOp.subi (IntOp.addi (IntOp.muli (BitVec.ofNat 32 c) 16#32) 32#32) 1#32
    = BitVec.ofNat 32 (c * 16 + 31) := by
  rw [IntOp.subi, IntOp.addi, IntOp.muli, show c * 16 + 31 = c * 16 + 31 from rfl, BitVec.ofNat_add, BitVec.ofNat_mul,
    show (32#32 : BitVec 32) = 31#32 + 1#32 from rfl, ← BitVec.add_assoc, BitVec.add_sub_cancel]

/-- The first position of a tile of queries. -/
theorem tile (i : ℕ) : Scalar.muli (BitVec.ofNat 32 i) 256#32 = BitVec.ofNat 32 (i * 256) := by
  rw [Scalar.muli, IntOp.muli, BitVec.ofNat_mul]

/-- A difference of two small words, as an integer. -/
theorem toInt_subi (a b : ℕ) (ha : a < 2 ^ 31) (hb : b < 2 ^ 31) :
    (IntOp.subi (BitVec.ofNat 32 a) (BitVec.ofNat 32 b)).toInt = (a : ℤ) - b := by
  rw [IntOp.subi, BitVec.toInt_sub, toInt_ofNat_of_lt (by simpa using ha), toInt_ofNat_of_lt (by simpa using hb), Int.bmod_def]
  norm_num
  omega

/-- The same as an extended real. -/
theorem sitofp_subi (a b : ℕ) (ha : a < 2 ^ 31) (hb : b < 2 ^ 31) :
    FloatOps.sitofp (F := Ideal) .f32 (IntOp.subi (BitVec.ofNat 32 a) (BitVec.ofNat 32 b)) = (((a : ℝ) - b : ℝ) : EReal) := by
  show (((BitVec.toInt _ : ℤ) : ℝ) : EReal) = _
  rw [toInt_subi a b ha hb]
  push_cast
  rfl

/-- The mask of a tile at a query and a block: the block has ended and is not the padding. -/
theorem mask (c i r : ℕ) (hc : c < 256) (hi : i < 16) (hr : r < 256) :
    IntOp.andi (IntOp.cmpi .sle (IntOp.addi (IntOp.muli (BitVec.ofNat 32 c) 16#32) 31#32)
        (IntOp.addi (Scalar.muli (BitVec.ofNat 32 i) 256#32) (BitVec.ofNat 32 r)))
      (IntOp.cmpi .slt (BitVec.ofNat 32 c) 255#32)
      = BitVec.ofBool (decide (c * 16 + 31 ≤ i * 256 + r ∧ c < 255)) := by
  rw [block_end, tile, IntOp.addi, ← BitVec.ofNat_add, cmpi_sle_eq, cmpi_slt_eq,
    toInt_ofNat_of_lt (by norm_num; omega), toInt_ofNat_of_lt (by norm_num; omega), toInt_ofNat_of_lt (by norm_num; omega),
    show (255#32 : BitVec 32).toInt = ((255 : ℕ) : ℤ) from rfl, IntOp.andi]
  by_cases h1 : c * 16 + 31 ≤ i * 256 + r <;> by_cases h2 : c < 255 <;>
    simp only [Nat.cast_le, Nat.cast_lt, h1, h2, and_self, and_true, and_false, true_and, false_and, decide_true, decide_false] <;> decide

/-- A selection under a decided bit. -/
theorem select_ofBool {α : Type} (p : Prop) [Decidable p] (a b : α) :
    Scalar.select (BitVec.ofBool (decide p)) a b = if p then a else b := by
  by_cases h : p <;> simp [Scalar.select, h]

end Cert.CmpWords

end
-- ==== Proof.Softmax.lean ====
module

public import Idealize.ShloMosaic.Lib.Pipeline.ValueKit

/-! # A masked softmax, and the same softmax of shifted scores -/

@[expose] public section

noncomputable section

namespace Cert.Softmax

open Idealize.ShloMosaic

variable {n : ℕ}

/-- A row's scores with `⊥` where the mask is off. -/
def masked (ok : Fin n → Prop) [DecidablePred ok] (s : Fin n → EReal) (c : Fin n) : EReal :=
  if ok c then s c else ⊥

/-- The largest of them. -/
def top (ok : Fin n → Prop) [DecidablePred ok] (s : Fin n → EReal) : EReal :=
  Finset.fold max ⊥ (masked ok s) Finset.univ

/-- The exponentials of the masked scores below their maximum. -/
def weight (ok : Fin n → Prop) [DecidablePred ok] (s : Fin n → EReal) (c : Fin n) : EReal :=
  Ideal.exp (masked ok s c - top ok s)

theorem exp_nonneg (x : EReal) : 0 ≤ Ideal.exp x := by
  induction x with
  | bot => exact le_refl _
  | top => exact le_top
  | coe r => exact EReal.coe_nonneg.2 (Real.exp_pos r).le

/-- Where the scores under the mask are real and there is one, their maximum is real. -/
theorem top_real (ok : Fin n → Prop) [DecidablePred ok] (s : Fin n → EReal)
    (fin : ∀ c, ok c → ∃ x : ℝ, s c = x) (a : Fin n) (ha : ok a) : ∃ x : ℝ, top ok s = x := by
  obtain ⟨y, hy⟩ := fin a ha
  have lo : (y : EReal) ≤ top ok s := by
    refine (Finset.le_fold_max _).2 (Or.inr ⟨a, Finset.mem_univ _, ?_⟩)
    rw [masked, if_pos ha, hy]
  have hi : top ok s < ⊤ := by
    refine (Finset.fold_max_lt _).2 ⟨bot_lt_top, fun c _ => ?_⟩
    unfold masked
    split_ifs with h
    · obtain ⟨x, hx⟩ := fin c h
      rw [hx]; exact EReal.coe_lt_top x
    · exact bot_lt_top
  refine ⟨(top ok s).toReal, (EReal.coe_toReal hi.ne ?_).symm⟩
  exact ((EReal.bot_lt_coe y).trans_le lo).ne'

/-- A shift of the scores by a real number shifts their maximum. -/
theorem top_shift (ok : Fin n → Prop) [DecidablePred ok] (s : Fin n → EReal) (r : ℝ) :
    top ok (fun c => s c + r) = top ok s + r := by
  have key : ∀ (s : Fin n → EReal) (r : ℝ), top ok (fun c => s c + r) ≤ top ok s + r := by
    intro s r
    refine (Finset.fold_max_le _).2 ⟨bot_le, fun c _ => ?_⟩
    have h : masked ok (fun c => s c + r) c = masked ok s c + r := by
      unfold masked; split_ifs <;> simp
    rw [h]
    exact add_le_add_left ((Finset.le_fold_max _).2 (Or.inr ⟨c, Finset.mem_univ _, le_refl _⟩)) _
  refine le_antisymm (key s r) ?_
  have h := key (fun c => s c + r) (-r)
  have e : (fun c => s c + (r : EReal) + ((-r : ℝ) : EReal)) = s := by
    funext c
    rw [add_assoc, ← EReal.coe_add, add_neg_cancel, EReal.coe_zero, add_zero]
  rw [e] at h
  have h2 := add_le_add_left h (r : EReal)
  rwa [add_assoc, ← EReal.coe_add, neg_add_cancel, EReal.coe_zero, add_zero] at h2

/-- The exponentials under the mask do not see the shift. -/
theorem weight_shift (ok : Fin n → Prop) [DecidablePred ok] (s : Fin n → EReal) (r : ℝ)
    (fin : ∀ c, ok c → ∃ x : ℝ, s c = x) (c : Fin n) (hc : ok c) :
    weight ok (fun c => s c + r) c = weight ok s c := by
  obtain ⟨M, hM⟩ := top_real ok s fin c hc
  obtain ⟨x, hx⟩ := fin c hc
  unfold weight masked
  rw [top_shift, if_pos hc, if_pos hc, hM, hx]
  show Ideal.exp (s c + (r : EReal) - ((M : EReal) + r)) = _
  rw [hx, ← EReal.coe_add, ← EReal.coe_add, ← EReal.coe_sub, ← EReal.coe_sub]
  congr 2
  ring

/-- Where the mask is on for some column, the exponentials under it are positive … -/
theorem weight_pos (ok : Fin n → Prop) [DecidablePred ok] (s : Fin n → EReal)
    (fin : ∀ c, ok c → ∃ x : ℝ, s c = x) (c : Fin n) (hc : ok c) : 0 < weight ok s c := by
  obtain ⟨M, hM⟩ := top_real ok s fin c hc
  obtain ⟨x, hx⟩ := fin c hc
  unfold weight masked
  rw [if_pos hc, hM, hx, ← EReal.coe_sub]
  exact EReal.coe_pos.2 (Real.exp_pos _)

/-- … and off it they are zero. -/
theorem weight_off (ok : Fin n → Prop) [DecidablePred ok] (s : Fin n → EReal)
    (fin : ∀ c, ok c → ∃ x : ℝ, s c = x) (a : Fin n) (ha : ok a) (c : Fin n) (hc : ¬ok c) : weight ok s c = 0 := by
  obtain ⟨M, hM⟩ := top_real ok s fin a ha
  unfold weight masked
  rw [if_neg hc, hM]
  exact congrArg Ideal.exp (EReal.bot_sub (M : EReal))

/-- A column whose mask is off adds nothing to the maximum. -/
theorem top_last (ok : Fin (n + 1) → Prop) [DecidablePred ok] (s : Fin (n + 1) → EReal) (last : ¬ok (Fin.last n)) :
    top ok s = top (fun c : Fin n => ok c.castSucc) (fun c => s c.castSucc) := by
  refine le_antisymm ((Finset.fold_max_le _).2 ⟨bot_le, fun c _ => ?_⟩)
    ((Finset.fold_max_le _).2 ⟨bot_le, fun c _ => (Finset.le_fold_max _).2
      (Or.inr ⟨c.castSucc, Finset.mem_univ _, le_refl _⟩)⟩)
  induction c using Fin.lastCases with
  | last => rw [masked, if_neg last]; exact bot_le
  | cast c => exact (Finset.le_fold_max _).2 (Or.inr ⟨c, Finset.mem_univ _, le_refl _⟩)

/-- The attention row of a tiled kernel, whose scores carry a shift and whose last column is off, is the plain
    softmax's over the columns before it. -/
theorem row (ok : Fin (n + 1) → Prop) [DecidablePred ok] (s v : Fin (n + 1) → EReal) (r : ℝ)
    (last : ¬ok (Fin.last n)) (fin : ∀ c, ok c → ∃ x : ℝ, s c = x) (den : EReal)
    (hden : den = ∑ c, if ok c then weight ok (fun c => s c + r) c else 0) :
    ∑ c, Ideal.div (if ok c then weight ok (fun c => s c + r) c else 0) (if 0 < den then den else 1) * v c
      = ∑ c : Fin n, v c.castSucc * (Ideal.div (weight (fun c : Fin n => ok c.castSucc) (fun c => s c.castSucc) c)
          (∑ c : Fin n, weight (fun c : Fin n => ok c.castSucc) (fun c => s c.castSucc) c)
          * (if ok c.castSucc then 1 else 0)) := by
  have hz : ∀ x : EReal, Ideal.div 0 (if 0 < den then den else 1) * x = 0 := fun x => by
    rw [Ideal.zero_div, zero_mul]
    split_ifs with h
    · exact h.ne'
    · exact one_ne_zero
  rw [Fin.sum_univ_castSucc, if_neg last, hz, add_zero]
  refine Finset.sum_congr rfl fun c _ => ?_
  by_cases hc : ok c.castSucc
  · rw [if_pos hc, if_pos hc, mul_one, weight_shift ok s r fin _ hc, mul_comm]
    have fin' : ∀ c : Fin n, ok c.castSucc → ∃ x : ℝ, s c.castSucc = x := fun c h => fin _ h
    have hd : den = ∑ c : Fin n, weight (fun c : Fin n => ok c.castSucc) (fun c => s c.castSucc) c := by
      rw [hden, Fin.sum_univ_castSucc, if_neg last, add_zero]
      refine Finset.sum_congr rfl fun a _ => ?_
      by_cases ha : ok a.castSucc
      · rw [if_pos ha, weight_shift ok s r fin _ ha]
        unfold weight masked
        rw [top_last ok s last]
      · rw [if_neg ha, weight_off (fun c : Fin n => ok c.castSucc) _ fin' c hc a ha]
    have pos : 0 < den := by
      rw [hd]
      exact (weight_pos (fun c : Fin n => ok c.castSucc) _ fin' c hc).trans_le
        (Finset.single_le_sum (f := weight (fun c : Fin n => ok c.castSucc) (fun c => s c.castSucc))
          (fun a _ => exp_nonneg _) (Finset.mem_univ c))
    rw [if_pos pos, ← hd]
    congr 2
    unfold weight masked
    rw [top_last ok s last]
  · rw [if_neg hc, if_neg hc, hz, mul_zero, mul_zero]

end Cert.Softmax

end
-- ==== Proof.Heads.lean ====
module

public import proofs.«01_k».proof.Proof.Gen.KernelIdeal.Value
public import proofs.«01_k».proof.Proof.CmpWords
public import proofs.«01_k».proof.Proof.Softmax
public import proofs.«01_k».proof.Proof.Gate
public import Idealize.ShloMosaic.Lib.Pipeline.ValueKit

/-! # The heads of the compressed attention -/

@[expose] public section

set_option maxRecDepth 16384

noncomputable section

open Idealize.ShloMosaic Idealize.ShloMosaic.TcCoe Idealize.SL.Sem
open Idealize.ShloMosaic.Pipeline (Dat)

namespace Cert.KernelIdeal.Heads

open Cert.KernelIdeal Cert.KernelIdeal.Gen

/-- The sum of a row's squares. -/
abbrev squares (q : FVec Ideal S256x128 .f32) : FVec Ideal S256x1 .f32 :=
  shapeCast S256x1 (multiReduction .add [1] S256 (mulf q q) 0x00000000#32 reduces_S256x128_S256 (.inl rfl) rfl)
    shapeCasts_S256_S256x1

/-- A head's gate logit, selected from the row of logits by its column. -/
abbrev picked (w : BitVec 32) (gl : Vec Ideal S256x128 .f32) : FVec Ideal S256x128 .f32 :=
  select (cmpi .eq (iota .tc S256x128 32 [1] iota_S256x128_d1_w32) (broadcast S256x128 w)) gl
    (broadcast S256x128 (Scalar.ofBits .f32 0x00000000#32))

/-- What the body computes for one head, from its queries. -/
def head (i : grid0.Coords) (q : FVec Ideal S256x128 .f32) (gn : FVec Ideal S1x128 .f32)
    (kc vc : Vec Ideal S1x1x1x256x128 .bf16) (sl : Vec Ideal S1x1x1 .f32) (gl : Vec Ideal S256x128 .f32)
    (w : BitVec 32) : FVec Ideal S256x128 .bf16 :=
  k0_pay17 (k0_pay15 (k0_pay3 kc) (k0_pay4 vc) (k0_pay7 i) (k0_pay8 i) q (k0_pay11 gn) (squares q) k0_pay13 sl)
    (picked w gl)

/-- The column of a head's gate logit. -/
abbrev column (i : grid0.Coords) (h : BitVec 32) : BitVec 32 :=
  Scalar.addi (Scalar.muli (BitVec.ofNat 32 (i 1).val) 4#32) h

theorem piece0 (i : grid0.Coords) (x0 x1 x2 x3 x4 x5 x6) :
    k0_pay17 (F := Ideal) (k0_pay15 (k0_pay395 i x0 x1 x2 x3 x4 x5 x6) (k0_pay396 i x0 x1 x2 x3 x4 x5 x6)
        (k0_pay398 i x0 x1 x2 x3 x4 x5 x6) (k0_pay399 i x0 x1 x2 x3 x4 x5 x6) (k0_pay400 i x0 x1 x2 x3 x4 x5 x6)
        (k0_pay401 i x0 x1 x2 x3 x4 x5 x6) (k0_pay402 i x0 x1 x2 x3 x4 x5 x6) (k0_pay403 i x0 x1 x2 x3 x4 x5 x6)
        (View.ld x6 r0_4)) (k0_pay16 (BitVec.ofNat 32 (i 1).val) (View.ld x4 r0_2))
      = head i (extractStridedSlice S256x128 ![0, 0] (k0_pay2 (View.ld x0 r0_0)) slices_S256x512_o0_0_S256x128)
          (View.ld x3 r0_3) (View.ld x1 r0_1) (View.ld x2 r0_1) (View.ld x6 r0_4) (View.ld x4 r0_2) (column i 0#32) := rfl

theorem piece1 (i : grid0.Coords) (x0 x1 x2 x3 x4 x5 x6) :
    k0_pay22 (F := Ideal) (BitVec.ofNat 32 (i 1).val) (k0_pay396 i x0 x1 x2 x3 x4 x5 x6) (View.ld x4 r0_2)
        (k0_pay398 i x0 x1 x2 x3 x4 x5 x6) (k0_pay404 i x0 x1 x2 x3 x4 x5 x6) (k0_pay405 i x0 x1 x2 x3 x4 x5 x6)
      = head i (extractStridedSlice S256x128 ![0, 128] (k0_pay2 (View.ld x0 r0_0)) slices_S256x512_o0_128_S256x128)
          (View.ld x3 r0_3) (View.ld x1 r0_1) (View.ld x2 r0_1) (View.ld x6 r0_6) (View.ld x4 r0_2) (column i 1#32) := rfl

theorem piece2 (i : grid0.Coords) (x0 x1 x2 x3 x4 x5 x6) :
    k0_pay27 (F := Ideal) (BitVec.ofNat 32 (i 1).val) (k0_pay396 i x0 x1 x2 x3 x4 x5 x6) (View.ld x4 r0_2)
        (k0_pay406 i x0 x1 x2 x3 x4 x5 x6) (k0_pay407 i x0 x1 x2 x3 x4 x5 x6)
      = head i (extractStridedSlice S256x128 ![0, 256] (k0_pay2 (View.ld x0 r0_0)) slices_S256x512_o0_256_S256x128)
          (View.ld x3 r0_3) (View.ld x1 r0_1) (View.ld x2 r0_1) (View.ld x6 r0_8) (View.ld x4 r0_2) (column i 2#32) := rfl

theorem piece3 (i : grid0.Coords) (x0 x1 x2 x3 x4 x5 x6) :
    k0_pay34 (F := Ideal) (k0_pay31 (k0_pay395 i x0 x1 x2 x3 x4 x5 x6) (k0_pay396 i x0 x1 x2 x3 x4 x5 x6)
        (k0_pay398 i x0 x1 x2 x3 x4 x5 x6) (k0_pay399 i x0 x1 x2 x3 x4 x5 x6) (k0_pay408 i x0 x1 x2 x3 x4 x5 x6)
        (View.ld x6 r0_10)) (k0_pay32 (BitVec.ofNat 32 (i 1).val) (View.ld x4 r0_2)) (k0_pay33 (F := Ideal))
      = head i (extractStridedSlice S256x128 ![0, 384] (k0_pay2 (View.ld x0 r0_0)) slices_S256x512_o0_384_S256x128)
          (View.ld x3 r0_3) (View.ld x1 r0_1) (View.ld x2 r0_1) (View.ld x6 r0_10) (View.ld x4 r0_2) (column i 3#32) := rfl

/-- The mask's word, named. -/
theorem mask_word : Named.named (F := Ideal) κ "mask" (φ := .f32) 0xF149F2CA#32 = ⊥ :=
  IdealRules.named_const.ideal_named_scalar _ _ _ _ rfl

/-- The word of minus infinity. -/
theorem bot_word : Ideal.ofBits .f32 0xFF800000#32 = ⊥ := by
  simp [Ideal.ofBits, Ideal.ieee]

/-- Where a tile's query sees a block: it has ended, and it is not the padding. -/
abbrev sees (i : grid0.Coords) (r : Fin 256) (c : Fin 256) : Prop :=
  c.val * 16 + 31 ≤ (i 2).val * 256 + r.val ∧ c.val < 255

/-- A query's score against a block, its slope measured from the tile's first query. -/
abbrev score (i : grid0.Coords) (q : FVec Ideal S256x128 .f32) (gn : FVec Ideal S1x128 .f32)
    (kc : Vec Ideal S1x1x1x256x128 .bf16) (sl : Vec Ideal S1x1x1 .f32) (r : Fin 256) (c : Fin 256) : EReal :=
  (∑ x : Fin 128, q (ix2 r x) * Ideal.rsqrt (Ideal.div (∑ x : Fin 128, q (ix2 r x) * q (ix2 r x))
      (Ideal.ofBits FTy.f32 0x43000000#32) + Ideal.ofBits FTy.f32 0x358637BD#32) * gn (ix2 0 x)
      * Ideal.ofBits FTy.f32 0x3DB504F3#32 * kc (ix5 0 0 0 c x))
    + sl (ix3 0 0 0) * (((((c.val * 16 + 31 : ℕ) : ℝ) - (((i 2).val * 256 : ℕ) : ℝ) : ℝ)) : EReal)

open Cert.Softmax in
/-- A head's row at an entry: a masked softmax over the blocks, gated. -/
theorem head_at (i : grid0.Coords) (q : FVec Ideal S256x128 .f32) (gn : FVec Ideal S1x128 .f32)
    (kc vc : Vec Ideal S1x1x1x256x128 .bf16) (sl : Vec Ideal S1x1x1 .f32) (gl : Vec Ideal S256x128 .f32)
    (w : BitVec 32) (r : Fin 256) (d : Fin 128) (den : EReal)
    (hden : den = ∑ c, if sees i r c then weight (sees i r) (score i q gn kc sl r) c else 0) :
    head i q gn kc vc sl gl w (ix2 r d)
      = (∑ c, Ideal.div (if sees i r c then weight (sees i r) (score i q gn kc sl r) c else 0)
            (if 0 < den then den else 1) * vc (ix5 0 0 0 c d))
        * Ideal.div 1 (1 + Ideal.exp (-∑ x : Fin 128, if BitVec.ofNat 32 x.val = w then gl (ix2 r x) else 0)) := by
  have hi : (i 2).val < 16 := (i 2).isLt
  have M : ∀ c : Fin 256, _ := fun c => Cert.CmpWords.mask c.val (i 2).val r.val c.isLt hi r.isLt
  have R : ∀ c : Fin 256, FloatOps.sitofp (F := Ideal) FTy.f32
      (IntOp.subi (IntOp.addi (IntOp.muli (BitVec.ofNat 32 c.val) 16#32) 31#32) (Scalar.muli (BitVec.ofNat 32 (i 2).val) 256#32))
        = (((((c.val * 16 + 31 : ℕ) : ℝ) - (((i 2).val * 256 : ℕ) : ℝ) : ℝ)) : EReal) := fun c => by
    rw [Cert.CmpWords.block_end, Cert.CmpWords.tile, Cert.CmpWords.sitofp_subi _ _ (by omega) (by omega)]
  rw [hden]
  unfold weight top masked
  pointwise [head, squares, picked, k0_pay17, k0_pay15, k0_pay14, k0_pay3, k0_pay4, k0_pay7, k0_pay8, k0_pay5, k0_pay6, k0_pay11, k0_pay13]
  set_option backward.isDefEq.respectTransparency false in
  simp only [M, R, Cert.CmpWords.select_ofBool, mask_word, bot_word, Cert.Gate.sigmoid_words, WordCmp.cmpi_eq_eq]

end Cert.KernelIdeal.Heads

end
-- ==== Proof.CmpRef.lean ====
module

public import proofs.«01_k».proof.Proof.Gen.ReferenceIdeal.Run
public import Idealize.ShloMosaic.Lib.Pipeline.ValueKit

/-! # The compressed attention's reference, operation by operation -/

@[expose] public section

set_option maxRecDepth 16384

noncomputable section

open Idealize.ShloMosaic Idealize.ShloMosaic.TcCoe Idealize.SL.Sem

namespace Cert.ReferenceIdeal.Cmp

open Cert.ReferenceIdeal Cert.ReferenceIdeal.Gen

/-- The queries, in heads. -/
abbrev heads (P : FVec Ideal S16384x14336 .bf16) : FVec Ideal S4x4096x16x128 .f32 :=
  shapeCast S4x4096x16x128 (extf .f32 (extractStridedSlice S16384x2048 ![0, 5120] P slices_S16384x14336_S16384x2048_0_5120) bitsLt_bf16_f32) shapeCasts_S16384x2048_S4x4096x16x128

/-- The queries, normed and in groups. -/
def queries (P : FVec Ideal S16384x14336 .bf16) (N : FVec Ideal S128 .f32) : FVec Ideal S4x4096x4x4x128 .f32 :=
  shapeCast S4x4096x4x4x128 (mulf (mulf (heads P) (broadcastInDim S4x4096x16x128 ![0, 1, 2, 3] bcast_S4x4096x16x1_S4x4096x16x128_0_1_2_3 (Host.rsqrt (addf (Host.divf (broadcastInDim S4x4096x16x1 ![0, 1, 2] bcast_S4x4096x16_S4x4096x16x1_0_1_2 (Host.reduceAdd (mulf (heads P) (heads P)) (constant S_ .f32 0x00000000#32) reducesTo_S4x4096x16x128_S4x4096x16_d3 h_S_)) (broadcastInDim S4x4096x16x1 ![] bcast_S_S4x4096x16x1 (constant S_ .f32 0x43000000#32))) (broadcastInDim S4x4096x16x1 ![] bcast_S_S4x4096x16x1 (constant S_ .f32 0x358637BD#32)))))) (broadcastInDim S4x4096x16x128 ![0, 1, 2, 3] bcast_S1x1x1x128_S4x4096x16x128_0_1_2_3 (broadcastInDim S1x1x1x128 ![3] bcast_S128_S1x1x1x128_3 N))) shapeCasts_S4x4096x16x128_S4x4096x4x4x128

/-- The compressed keys. -/
def keys (K : FVec Ideal S4x2x4x256x128 .bf16) : FVec Ideal S4x4x255x128 .f32 :=
  extf .f32 (shapeCast S4x4x255x128 (extractStridedSlice S4x1x4x255x128 ![0, 0, 0, 0, 0] K slices_S4x2x4x256x128_S4x1x4x255x128_0_0_0_0_0) shapeCasts_S4x1x4x255x128_S4x4x255x128) bitsLt_bf16_f32

/-- The compressed values. -/
def values (K : FVec Ideal S4x2x4x256x128 .bf16) : FVec Ideal S4x4x255x128 .f32 :=
  extf .f32 (shapeCast S4x4x255x128 (extractStridedSlice S4x1x4x255x128 ![0, 1, 0, 0, 0] K slices_S4x2x4x256x128_S4x1x4x255x128_0_1_0_0_0) shapeCasts_S4x1x4x255x128_S4x4x255x128) bitsLt_bf16_f32

/-- The distance from each query to the end of each compressed block. -/
def dist : FVec Ideal S4096x255 .f32 :=
  sitofp .f32 (subi (broadcastInDim S4096x255 ![0, 1] bcast_S4096x1_S4096x255_0_1 (broadcastInDim S4096x1 ![0] bcast_S4096_S4096x1_0 (iotaInDim S4096 32 0))) (broadcastInDim S4096x255 ![0, 1] bcast_S1x255_S4096x255_0_1 (broadcastInDim S1x255 ![1] bcast_S255_S1x255_1 (subi (addi (muli (iotaInDim S255 32 0) (broadcastInDim S255 ![] bcast_S_S255 (constantI S_ 32 16#32))) (broadcastInDim S255 ![] bcast_S_S255 (constantI S_ 32 32#32))) (broadcastInDim S255 ![] bcast_S_S255 (constantI S_ 32 1#32))))))

/-- Where the block has ended. -/
def ended : IVec S4096x255 1 :=
  cmpf .oge dist (broadcastInDim S4096x255 ![] bcast_S_S4096x255 (constant S_ .f32 0x00000000#32))

/-- The slopes of the heads. -/
def slopes : FVec Ideal S4x4 .f32 :=
  shapeCast S4x4 (fun i => FloatOps.ofBits .f32 (lit0 (S16.rowMajor i))) shapeCasts_S16_S4x4

/-- The scores before the mask. -/
def scores (Q : FVec Ideal S4x4096x4x4x128 .f32) (K : FVec Ideal S4x4x255x128 .f32) : FVec Ideal S4x4x4x4096x255 .f32 :=
  subf (mulf (transpose S4x4x4x4096x255 [0, 1, 4, 3, 2] (Host.dotGeneral dot_S4x4x255x128_S4x4096x4x4x128_S4x4x255x4096x4_3_4_2_13_01_02 none K Q) transposes_S4x4x255x4096x4_S4x4x4x4096x255_0_1_4_3_2) (broadcastInDim S4x4x4x4096x255 ![] bcast_S_S4x4x4x4096x255 (constant S_ .f32 0x3DB504F3#32))) (broadcastInDim S4x4x4x4096x255 ![0, 1, 2, 3, 4] bcast_S1x4x4x4096x255_S4x4x4x4096x255_0_1_2_3_4 (mulf (broadcastInDim S1x4x4x4096x255 ![0, 1, 2, 3, 4] bcast_S1x4x4x1x1_S1x4x4x4096x255_0_1_2_3_4 (broadcastInDim S1x4x4x1x1 ![1, 2] bcast_S4x4_S1x4x4x1x1_1_2 slopes)) (broadcastInDim S1x4x4x4096x255 ![0, 1, 2, 3, 4] bcast_S1x1x1x4096x255_S1x4x4x4096x255_0_1_2_3_4 (broadcastInDim S1x1x1x4096x255 ![3, 4] bcast_S4096x255_S1x1x1x4096x255_3_4 dist))))

/-- The masked scores. -/
def masked (o : IVec S4096x255 1) (s : FVec Ideal S4x4x4x4096x255 .f32) : FVec Ideal S4x4x4x4096x255 .f32 :=
  select (broadcastInDim S4x4x4x4096x255 ![3, 4] bcast_S4096x255_S4x4x4x4096x255_3_4 o) s
    (broadcastInDim S4x4x4x4096x255 ![] bcast_S_S4x4x4x4096x255 (id (constant S_ .f32 0xFF800000#32)))

/-- The largest score of each row. -/
def largest (s : FVec Ideal S4x4x4x4096x255 .f32) : FVec Ideal S4x4x4x4096 .f32 :=
  Host.reduce FloatOps.maximumf s (constant S_ .f32 0xFF800000#32) reducesTo_S4x4x4x4096x255_S4x4x4x4096_d4 h_S_

/-- The exponentials of the masked scores below their maximum. -/
def weights (s : FVec Ideal S4x4x4x4096x255 .f32) (t : FVec Ideal S4x4x4x4096 .f32) : FVec Ideal S4x4x4x4096x255 .f32 :=
  Host.exp (subf s (broadcastInDim S4x4x4x4096x255 ![0, 1, 2, 3, 4] bcast_S4x4x4x4096x1_S4x4x4x4096x255_0_1_2_3_4 (broadcastInDim S4x4x4x4096x1 ![0, 1, 2, 3] bcast_S4x4x4x4096_S4x4x4x4096x1_0_1_2_3 (maximumf (broadcastInDim S4x4x4x4096 ![] bcast_S_S4x4x4x4096 (constant S_ .f32 0xFF800000#32)) t))))

/-- The softmax, with the blocks that have not ended set to zero. -/
def softmax (o : IVec S4096x255 1) (e : FVec Ideal S4x4x4x4096x255 .f32) : FVec Ideal S4x4x4x4096x255 .f32 :=
  select (broadcastInDim S4x4x4x4096x255 ![3, 4] bcast_S4096x255_S4x4x4x4096x255_3_4 o)
    (Host.divf e (broadcastInDim S4x4x4x4096x255 ![0, 1, 2, 3, 4] bcast_S4x4x4x4096x1_S4x4x4x4096x255_0_1_2_3_4 (broadcastInDim S4x4x4x4096x1 ![0, 1, 2, 3] bcast_S4x4x4x4096_S4x4x4x4096x1_0_1_2_3 (Host.reduceAdd e (constant S_ .f32 0x00000000#32) reducesTo_S4x4x4x4096x255_S4x4x4x4096_d4 h_S_))))
    (broadcastInDim S4x4x4x4096x255 ![] bcast_S_S4x4x4x4096x255 (id (constant S_ .f32 0x00000000#32)))

/-- The heads' gates. -/
def gates (G : FVec Ideal S16384x128 .f32) : FVec Ideal S4x4096x4x4x1 .f32 :=
  shapeCast S4x4096x4x4x1 (Host.divf (broadcastInDim S16384x16 ![] bcast_S_S16384x16 (constant S_ .f32 0x3F800000#32)) (addf (broadcastInDim S16384x16 ![] bcast_S_S16384x16 (constant S_ .f32 0x3F800000#32)) (Host.exp (Host.negf (extractStridedSlice S16384x16 ![0, 0] G slices_S16384x128_S16384x16_0_0))))) shapeCasts_S16384x16_S4x4096x4x4x1

/-- The gated attention. -/
def gated (p : FVec Ideal S4x4x4x4096x255 .f32) (v : FVec Ideal S4x4x255x128 .f32) (g : FVec Ideal S4x4096x4x4x1 .f32) :
    FVec Ideal S16384x2048 .bf16 :=
  truncf .bf16 (shapeCast S16384x2048 (mulf (broadcastInDim S4x4096x4x4x128 ![0, 1, 2, 3, 4] bcast_S4x4096x4x4x1_S4x4096x4x4x128_0_1_2_3_4 g) (transpose S4x4096x4x4x128 [0, 4, 1, 3, 2] (Host.dotGeneral dot_S4x4x255x128_S4x4x4x4096x255_S4x4x128x4x4096_2_4_3_23_01_01 none v p) transposes_S4x4x128x4x4096_S4x4096x4x4x128_0_4_1_3_2)) shapeCasts_S4x4096x4x4x128_S16384x2048) bitsLt_bf16_f32

/-- The masked scores of the arguments. -/
def maskedScores (P : FVec Ideal S16384x14336 .bf16) (K : FVec Ideal S4x2x4x256x128 .bf16) (N : FVec Ideal S128 .f32) :
    FVec Ideal S4x4x4x4096x255 .f32 :=
  masked ended (scores (queries P N) (keys K))

/-- The reference's term. -/
def REF (P : FVec Ideal S16384x14336 .bf16) (G : FVec Ideal S16384x128 .f32) (K : FVec Ideal S4x2x4x256x128 .bf16)
    (N : FVec Ideal S128 .f32) : FVec Ideal S16384x2048 .bf16 :=
  gated (softmax ended (weights (maskedScores P K N) (largest (maskedScores P K N)))) (values K) (gates G)

end Cert.ReferenceIdeal.Cmp

end
-- ==== Proof.CmpRefAt.lean ====
module

public import proofs.«01_k».proof.Proof.Gen.ReferenceIdeal.Run
public import Idealize.ShloMosaic.Lib.Pipeline.ValueKit
public import proofs.«01_k».proof.Proof.CmpRef

/-! # The compressed attention's reference, entry by entry -/

@[expose] public section

set_option maxRecDepth 16384

noncomputable section

open Idealize.ShloMosaic Idealize.ShloMosaic.TcCoe Idealize.SL.Sem

namespace Cert.ReferenceIdeal.Cmp

open Cert.ReferenceIdeal Cert.ReferenceIdeal.Gen

/-- A position of a sequence, as a row. -/
abbrev row (b : Fin 4) (s : Fin 4096) : Fin 16384 := ⟨b.val * 4096 + s.val, by omega⟩

/-- A head of a group. -/
abbrev lane (g h : Fin 4) : Fin 16 := ⟨g.val * 4 + h.val, by omega⟩

/-- An entry of a head, as a column of the heads. -/
abbrev col (g h : Fin 4) (d : Fin 128) : Fin 2048 := ⟨(g.val * 4 + h.val) * 128 + d.val, by omega⟩

theorem gated_at (p : FVec Ideal S4x4x4x4096x255 .f32) (v : FVec Ideal S4x4x255x128 .f32) (g' : FVec Ideal S4x4096x4x4x1 .f32)
    (b g h : Fin 4) (s : Fin 4096) (d : Fin 128) : gated p v g' (ix2 (row b s) (col g h d))
      = g' (ix5 b s g h 0) * ∑ x : Fin 255, v (ix4 b g x d) * p (ix5 b g h s x) := by
  have e1 : (⟨(b.val * 4096 + s.val) / 4096, by omega⟩ : Fin 4) = b := Fin.ext (by dsimp only; omega)
  have e2 : (⟨(b.val * 4096 + s.val) % 4096, by omega⟩ : Fin 4096) = s := Fin.ext (by dsimp only; omega)
  have e3 : (⟨((g.val * 4 + h.val) * 128 + d.val) / 512, by omega⟩ : Fin 4) = g := Fin.ext (by dsimp only; omega)
  have e4 : (⟨((g.val * 4 + h.val) * 128 + d.val) / 128 % 4, by omega⟩ : Fin 4) = h := Fin.ext (by dsimp only; omega)
  have e5 : (⟨((g.val * 4 + h.val) * 128 + d.val) % 128, by omega⟩ : Fin 128) = d := Fin.ext (by dsimp only; omega)
  pointwise [gated]
  simp only [e1, e2, e3, e4, e5]

theorem softmax_at (o e) (b g h : Fin 4) (s : Fin 4096) (c : Fin 255) : softmax o e (ix5 b g h s c)
    = Scalar.select (o (ix2 s c)) (Ideal.div (e (ix5 b g h s c)) (∑ x : Fin 255, e (ix5 b g h s x))) 0 := by
  pointwise [softmax]
  exact congrArg _ (Ideal.ofBits_zero .f32)

theorem largest_at (e) (b g h : Fin 4) (s : Fin 4096) : largest e (ix4 b g h s)
    = Finset.fold max (Ideal.ofBits FTy.f32 0xFF800000#32) (fun x : Fin 255 => e (ix5 b g h s x)) Finset.univ := by
  pointwise [largest]

theorem weights_at (e t) (b g h : Fin 4) (s : Fin 4096) (c : Fin 255) : weights e t (ix5 b g h s c)
    = Ideal.exp (e (ix5 b g h s c) - max (Ideal.ofBits FTy.f32 0xFF800000#32) (t (ix4 b g h s))) := by
  pointwise [weights]

theorem masked_at (o e) (b g h : Fin 4) (s : Fin 4096) (c : Fin 255) : masked o e (ix5 b g h s c)
    = Scalar.select (o (ix2 s c)) (e (ix5 b g h s c)) (Ideal.ofBits FTy.f32 0xFF800000#32) := by
  pointwise [masked]
  rfl

theorem scores_at (Q K) (b g h : Fin 4) (s : Fin 4096) (c : Fin 255) : scores Q K (ix5 b g h s c)
    = (∑ x : Fin 128, K (ix4 b g c x) * Q (ix5 b s g h x)) * Ideal.ofBits FTy.f32 0x3DB504F3#32
        - slopes (ix2 g h) * dist (ix2 s c) := by
  pointwise [scores]

theorem queries_at (P N) (b g h : Fin 4) (s : Fin 4096) (d : Fin 128) : queries P N (ix5 b s g h d)
    = P (ix2 (row b s) (⟨5120 + (col g h d).val, by omega⟩ : Fin 14336)) * Ideal.rsqrt
        (Ideal.div (∑ x : Fin 128, P (ix2 (row b s) (⟨5120 + (col g h x).val, by omega⟩ : Fin 14336))
            * P (ix2 (row b s) (⟨5120 + (col g h x).val, by omega⟩ : Fin 14336))) (Ideal.ofBits FTy.f32 0x43000000#32)
          + Ideal.ofBits FTy.f32 0x358637BD#32) * N (ix1 d) := by
  pointwise [queries]

theorem keys_at (K) (b g : Fin 4) (s : Fin 255) (d : Fin 128) :
    keys K (ix4 b g s d) = K (ix5 b (0 : Fin 2) g s.castSucc d) := by
  pointwise [keys]
  rfl

theorem values_at (K) (b g : Fin 4) (s : Fin 255) (d : Fin 128) :
    values K (ix4 b g s d) = K (ix5 b (1 : Fin 2) g s.castSucc d) := by
  pointwise [values]
  rfl

theorem gates_at (G) (b g h : Fin 4) (s : Fin 4096) : gates G (ix5 b s g h 0)
    = Ideal.div 1 (1 + Ideal.exp (-G (ix2 (row b s) (⟨(lane g h).val, by omega⟩ : Fin 128)))) := by
  pointwise [gates]

end Cert.ReferenceIdeal.Cmp

end
-- ==== Proof.CmpRefDist.lean ====
module

public import proofs.«01_k».proof.Proof.Gen.ReferenceIdeal.Run
public import Idealize.ShloMosaic.Lib.Pipeline.ValueKit
public import proofs.«01_k».proof.Proof.CmpRefAt
public import proofs.«01_k».proof.Proof.CmpWords

/-! # The compressed attention's reference, its distances and slopes -/

@[expose] public section

set_option maxRecDepth 16384

noncomputable section

open Idealize.ShloMosaic Idealize.ShloMosaic.TcCoe Idealize.SL.Sem

namespace Cert.ReferenceIdeal.Cmp

open Cert.ReferenceIdeal Cert.ReferenceIdeal.Gen

theorem dist_at (s : Fin 4096) (c : Fin 255) : dist (ix2 s c) = (((s.val : ℝ) - ((c.val * 16 + 31 : ℕ) : ℝ) : ℝ) : EReal) := by
  have e : dist (ix2 s c) = FloatOps.sitofp (F := Ideal) FTy.f32 (IntOp.subi (BitVec.ofNat 32 s.val)
      (IntOp.subi (IntOp.addi (IntOp.muli (BitVec.ofNat 32 c.val) 16#32) 32#32) 1#32)) := by
    pointwise [dist]
  rw [e, Cert.CmpWords.block_end', Cert.CmpWords.sitofp_subi _ _ (by omega) (by omega)]

theorem ended_at (s : Fin 4096) (c : Fin 255) :
    ended (ix2 s c) = BitVec.ofBool (decide (c.val * 16 + 31 ≤ s.val)) := by
  have e : ended (ix2 s c) = BitVec.ofBool (decide (0 ≤ dist (ix2 s c))) := by
    pointwise [ended]
  rw [e, dist_at]
  congr 2
  refine propext ?_
  rw [EReal.coe_nonneg, sub_nonneg]
  exact_mod_cast Iff.rfl

theorem slopes_at (g h : Fin 4) : slopes (ix2 g h) = Ideal.ofBits FTy.f32 (lit0 (lane g h)) := by
  have e : slopes (ix2 g h) = Ideal.ofBits FTy.f32 (lit0 (S16.rowMajor (ix1 (lane g h)))) := by
    unfold slopes
    generalize lit0 = l
    pointwise []
  rw [e]
  refine congrArg (fun k : Fin 16 => Ideal.ofBits FTy.f32 (lit0 k)) (Fin.ext ?_)
  exact Shape.rowMajor_val_one _

end Cert.ReferenceIdeal.Cmp

end
-- ==== Proof.CmpScore.lean ====
module

public import Idealize.ShloMosaic.Lib.Pipeline.ValueKit

/-! # A score of normed queries, on real arguments -/

@[expose] public section

noncomputable section

namespace Cert.CmpScore

open Idealize.ShloMosaic

/-- A finite sum of real numbers, as an extended real. -/
theorem coe_sum {n : ℕ} (f : Fin n → ℝ) : ∑ x, (f x : EReal) = ((∑ x, f x : ℝ) : EReal) := by
  induction n with
  | zero => simp
  | succ n ih => rw [Fin.sum_univ_succ, Fin.sum_univ_succ, ih, ← EReal.coe_add]

/-- The words' values that matter: a positive divisor and guard, a real scale. -/
theorem words : Ideal.ofBits .f32 0x43000000#32 = ((128 : ℝ) : EReal)
    ∧ (∃ e : ℝ, 0 < e ∧ Ideal.ofBits .f32 0x358637BD#32 = (e : EReal))
    ∧ ∃ s : ℝ, Ideal.ofBits .f32 0x3DB504F3#32 = (s : EReal) := by
  refine ⟨?_, ⟨8796093 / 8796093022208, by norm_num, ?_⟩, ⟨11863283 / 134217728, ?_⟩⟩ <;>
    simp [Ideal.ofBits, Ideal.ieee, -EReal.coe_mul] <;> norm_num

/-- The reciprocal norm of a row of real numbers is real. -/
theorem norm_real (q : Fin 128 → ℝ) : ∃ ρ : ℝ, Ideal.rsqrt (Ideal.div (∑ x : Fin 128, (q x : EReal) * (q x : EReal))
      (Ideal.ofBits FTy.f32 0x43000000#32) + Ideal.ofBits FTy.f32 0x358637BD#32) = (ρ : EReal) := by
  obtain ⟨h128, ⟨e, he, hε⟩, -⟩ := words
  have hs : ∑ x : Fin 128, (q x : EReal) * (q x : EReal) = ((∑ x, q x * q x : ℝ) : EReal) := by
    rw [← coe_sum]; simp only [EReal.coe_mul]
  have hp : 0 ≤ ∑ x, q x * q x := Finset.sum_nonneg fun x _ => mul_self_nonneg _
  have hpos : 0 < (∑ x, q x * q x) * (1 / 128) + e := by positivity
  rw [h128, hε, hs, Ideal.div_coe (by norm_num), ← EReal.coe_mul, ← EReal.coe_add, Ideal.rsqrt_coe,
    if_neg (not_lt.2 hpos.le), if_neg hpos.ne']
  exact ⟨_, rfl⟩

/-- A normed row is real whatever the row is: a row with an infinite entry is normed to zero. -/
theorem normed_real (q : Fin 128 → EReal) : ∃ u : Fin 128 → ℝ, ∀ x, q x * Ideal.rsqrt (Ideal.div (∑ x : Fin 128, q x * q x)
      (Ideal.ofBits FTy.f32 0x43000000#32) + Ideal.ofBits FTy.f32 0x358637BD#32) = (u x : EReal) := by
  by_cases hq : ∀ x, ∃ a : ℝ, q x = a
  · choose q' hq using hq
    obtain rfl : q = fun x => (q' x : EReal) := funext hq
    obtain ⟨ρ, hρ⟩ := norm_real q'
    exact ⟨fun x => q' x * ρ, fun x => by beta_reduce; rw [hρ, EReal.coe_mul]⟩
  · obtain ⟨y, hy⟩ := not_forall.1 hq
    have sq : ∀ x : EReal, 0 ≤ x * x := fun x => by
      induction x with
      | bot => simp
      | top => simp
      | coe a => rw [← EReal.coe_mul]; exact EReal.coe_nonneg.2 (mul_self_nonneg a)
    have top : q y * q y = ⊤ := by
      induction h : q y with
      | bot => simp
      | top => simp
      | coe a => exact absurd ⟨a, h⟩ hy
    have sum : ∑ x : Fin 128, q x * q x = ⊤ := top_le_iff.1
      (top ▸ Finset.single_le_sum (f := fun x => q x * q x) (fun x _ => sq _) (Finset.mem_univ y))
    obtain ⟨h128, ⟨e, he, hε⟩, -⟩ := words
    refine ⟨fun _ => 0, fun x => ?_⟩
    rw [sum, h128, hε, Ideal.div_coe (by norm_num), EReal.top_mul_coe_of_pos (by norm_num), EReal.top_add_coe]
    exact mul_zero _

/-- The tiled kernel's score is the reference's, real, shifted by a real multiple of the slope. -/
theorem score (q g k : Fin 128 → EReal) (sl : EReal) (hg : ∀ x, ∃ a : ℝ, g x = a)
    (hk : ∀ x, ∃ a : ℝ, k x = a) (σ : ℝ) (hσ : sl = σ) (e t r : ℝ) :
    ∃ s : ℝ, (∑ x, k x * (q x * Ideal.rsqrt (Ideal.div (∑ x : Fin 128, q x * q x)
        (Ideal.ofBits FTy.f32 0x43000000#32) + Ideal.ofBits FTy.f32 0x358637BD#32) * g x))
          * Ideal.ofBits FTy.f32 0x3DB504F3#32 - sl * ((t + r - e : ℝ) : EReal) = (s : EReal)
      ∧ (∑ x, q x * Ideal.rsqrt (Ideal.div (∑ x : Fin 128, q x * q x)
        (Ideal.ofBits FTy.f32 0x43000000#32) + Ideal.ofBits FTy.f32 0x358637BD#32) * g x
          * Ideal.ofBits FTy.f32 0x3DB504F3#32 * k x) + sl * ((e - t : ℝ) : EReal) = ((s : ℝ) : EReal) + ((σ * r : ℝ) : EReal) := by
  choose g' hg using hg
  choose k' hk using hk
  obtain ⟨-, -, c, hc⟩ := words
  obtain ⟨u, hu⟩ := normed_real q
  simp only [hu, hg, hk, hσ, hc, ← EReal.coe_mul, coe_sum, ← EReal.coe_sub, ← EReal.coe_add]
  refine ⟨_, rfl, ?_⟩
  refine congrArg _ ?_
  have : ∑ x, u x * g' x * c * k' x = (∑ x, k' x * (u x * g' x)) * c := by
    rw [Finset.sum_mul]
    exact Finset.sum_congr rfl fun x _ => by ring
  rw [this]
  ring

end Cert.CmpScore

end
-- ==== Proof.CmpBlocks.lean ====
module

public import proofs.«01_k».proof.Proof.Heads
public import proofs.«01_k».proof.Proof.CmpRefDist
public import proofs.«01_k».proof.Proof.CmpScore

/-! # The blocks a tile of the compressed attention loads -/

@[expose] public section

set_option maxRecDepth 16384

noncomputable section

open Idealize.ShloMosaic Idealize.ShloMosaic.TcCoe Idealize.SL.Sem
open Idealize.ShloMosaic.Pipeline (Dat)

namespace Cert.KernelIdeal.Cmp

open Cert.KernelIdeal Cert.KernelIdeal.Gen Cert.ReferenceIdeal.Cmp

variable (m : (ℓ : Loc nD τ sig) → Buf (Elt Ideal) ℓ)

/-- The windows' block indices, over the whole grid. -/
theorem idx : ∀ t : Fin cfg0.N,
    win0_0.index t = ![(grid0.coords t 0).val * 16 + (grid0.coords t 2).val, 10 + (grid0.coords t 1).val]
    ∧ win0_1.index t = ![(grid0.coords t 0).val, 0, (grid0.coords t 1).val, 0, 0]
    ∧ win0_2.index t = ![(grid0.coords t 0).val, 1, (grid0.coords t 1).val, 0, 0]
    ∧ win0_3.index t = ![0, 0]
    ∧ win0_4.index t = ![(grid0.coords t 0).val * 16 + (grid0.coords t 2).val, 0]
    ∧ win0_6.index t = ![(grid0.coords t 1).val, 0, 0]
    ∧ win0_7.index t = ![(grid0.coords t 0).val * 16 + (grid0.coords t 2).val, (grid0.coords t 1).val] :=
  (by decide +kernel : ∀ t : Fin grid0.N, _)

/-- A point's sequence, group and tile. -/
abbrev seq (t : Fin cfg0.N) : Fin 4 := ⟨(grid0.coords t 0).val, (grid0.coords t 0).isLt⟩
abbrev grp (t : Fin cfg0.N) : Fin 4 := ⟨(grid0.coords t 1).val, (grid0.coords t 1).isLt⟩
abbrev til (t : Fin cfg0.N) : Fin 16 := ⟨(grid0.coords t 2).val, (grid0.coords t 2).isLt⟩

/-- A tile's row, as a position of its sequence. -/
abbrev pos (t : Fin cfg0.N) (r : Fin 256) : Fin 4096 := ⟨(til t).val * 256 + r.val, by omega⟩

/-- The queries of head `h` of a tile. -/
abbrev qblk (c : Dev nD) (t : Fin cfg0.N) : FVec Ideal S256x512 .f32 := k0_pay2 (View.ld (iblk m c 0 t) r0_0)

theorem qblk_at (c : Dev nD) (t : Fin cfg0.N) (h : Fin 4) (r : Fin 256) (x : Fin 128) :
    qblk m c t (ix2 r (⟨h.val * 128 + x.val, by omega⟩ : Fin 512))
      = m ((c : Thread nD τ).loc main_arg0) (ix2 (row (seq t) (pos t r)) (⟨5120 + (col (grp t) h x).val, by omega⟩ : Fin 14336)) := by
  pointwise [qblk, k0_pay2]
  blk_ext [iblk, V, idx t]

theorem keys_block (c : Dev nD) (t : Fin cfg0.N) (k : Fin 256) (x : Fin 128) :
    View.ld (iblk m c 1 t) r0_1 (ix5 0 0 0 k x)
      = m ((c : Thread nD τ).loc main_arg2) (ix5 (seq t) (0 : Fin 2) (grp t) k x) := by
  pointwise
  blk_ext [iblk, V, idx t]

theorem values_block (c : Dev nD) (t : Fin cfg0.N) (k : Fin 256) (x : Fin 128) :
    View.ld (iblk m c 2 t) r0_1 (ix5 0 0 0 k x)
      = m ((c : Thread nD τ).loc main_arg2) (ix5 (seq t) (1 : Fin 2) (grp t) k x) := by
  pointwise
  blk_ext [iblk, V, idx t]

theorem gain_block (c : Dev nD) (t : Fin cfg0.N) (x : Fin 128) :
    View.ld (iblk m c 3 t) r0_3 (ix2 0 x) = m ((c : Thread nD τ).loc main_arg3) (ix1 x) := by
  pointwise
  blk_simp [iblk, idx t]
  entry_read
  pointwise
  blk_ext [idx t]

theorem gates_block (c : Dev nD) (t : Fin cfg0.N) (r : Fin 256) (x : Fin 128) :
    View.ld (iblk m c 4 t) r0_2 (ix2 r x)
      = m ((c : Thread nD τ).loc main_arg1) (ix2 (row (seq t) (pos t r)) x) := by
  pointwise
  blk_ext [iblk, V, idx t]

theorem slope_word (c : Dev nD) (g : Fin 4) (h : Fin 128) :
    V m c main_cst_0 (ix3 g 0 h) = Ideal.ofBits .f32 (lit1 ⟨g.val * 128 + h.val, by omega⟩) := by
  entry_read
  exact congrArg (fun i => Ideal.ofBits .f32 (lit1 i)) (Fin.ext (by rw [Shape.rowMajor_val_three]; simp))

/-- The kernel's table of slopes holds the reference's, group by group. -/
theorem slope_words : ∀ g h : Fin 4, lit1 ⟨g.val * 128 + h.val, by omega⟩ = Cert.ReferenceIdeal.lit0 (lane g h) := by
  decide +kernel

/-- A head's slope, as a tile loads it. -/
theorem slope_block (c : Dev nD) (t : Fin cfg0.N) (h : Fin 4) :
    iblk m c 6 t (ix3 0 0 (⟨h.val, by omega⟩ : Fin 128)) = slopes (ix2 (grp t) h) := by
  rw [slopes_at, ← slope_words, ← slope_word m c (grp t) ⟨h.val, by omega⟩]
  blk_ext [iblk, V, idx t]

/-- The slopes are real numbers. -/
theorem slopes_real : ∀ g h : Fin 4, ∃ σ : ℝ, slopes (ix2 g h) = σ := by
  intro g h
  rw [slopes_at]
  have e : ((Cert.ReferenceIdeal.lit0 (lane g h)).extractLsb' 23 8).toNat ≠ 255 := by
    revert g h; decide +kernel
  show ∃ σ : ℝ, Ideal.ieee 8 23 _ = σ
  unfold Ideal.ieee
  dsimp only
  rw [if_neg (by simpa using e)]
  split_ifs <;> exact ⟨_, rfl⟩

end Cert.KernelIdeal.Cmp

end
-- ==== Proof.CmpHead.lean ====
module

public import proofs.«01_k».proof.Proof.CmpBlocks

/-! # A head of a tile is the reference's -/

@[expose] public section

set_option maxRecDepth 16384

noncomputable section

open Idealize.ShloMosaic Idealize.ShloMosaic.TcCoe Idealize.SL.Sem

namespace Cert.KernelIdeal.Cmp

open Cert.KernelIdeal Cert.KernelIdeal.Gen Cert.KernelIdeal.Heads Cert.ReferenceIdeal.Cmp Cert.Softmax

/-- A block that is not the padding is seen where it has ended. -/
theorem sees_iff (i : grid0.Coords) (r : Fin 256) (c : Fin 255) (s : Fin 4096) (hs : s.val = (i 2).val * 256 + r.val) :
    sees i r c.castSucc ↔ c.val * 16 + 31 ≤ s.val :=
  ⟨fun h => hs ▸ h.1, fun h => ⟨hs ▸ h, c.isLt⟩⟩

/-- The reference's masked scores of a row. -/
theorem masked_row (i : grid0.Coords) (r : Fin 256) (s : Fin 4096) (hs : s.val = (i 2).val * 256 + r.val) (e)
    (b g h : Fin 4) (c : Fin 255) : Cert.ReferenceIdeal.Cmp.masked ended e (ix5 b g h s c)
      = Cert.Softmax.masked (fun c : Fin 255 => sees i r c.castSucc) (fun c => e (ix5 b g h s c)) c := by
  rw [masked_at, ended_at, Cert.CmpWords.select_ofBool, bot_word]
  exact if_congr (sees_iff i r c s hs).symm rfl rfl

/-- The reference's weights of a row. -/
theorem weights_row (i : grid0.Coords) (r : Fin 256) (s : Fin 4096) (hs : s.val = (i 2).val * 256 + r.val) (e)
    (b g h : Fin 4) (c : Fin 255) :
    weights (Cert.ReferenceIdeal.Cmp.masked ended e) (largest (Cert.ReferenceIdeal.Cmp.masked ended e)) (ix5 b g h s c)
      = weight (fun c : Fin 255 => sees i r c.castSucc) (fun c => e (ix5 b g h s c)) c := by
  rw [weights_at, largest_at, bot_word, max_eq_right bot_le]
  simp only [masked_row i r s hs]
  rfl

variable (P : FVec Ideal Cert.ReferenceIdeal.S16384x14336 .bf16) (G : FVec Ideal Cert.ReferenceIdeal.S16384x128 .f32)
  (K : FVec Ideal Cert.ReferenceIdeal.S4x2x4x256x128 .bf16) (N : FVec Ideal Cert.ReferenceIdeal.S128 .f32)

/-- What the body computes for a head of a tile, from blocks that hold the arguments' entries. -/
theorem head_ref (i : grid0.Coords) (b g h : Fin 4) (r : Fin 256) (s : Fin 4096) (hs : s.val = (i 2).val * 256 + r.val)
    (q : FVec Ideal S256x128 .f32) (gn : FVec Ideal S1x128 .f32)
    (kc vc : Vec Ideal S1x1x1x256x128 .bf16) (sl : Vec Ideal S1x1x1 .f32) (gl : Vec Ideal S256x128 .f32) (w : BitVec 32)
    (hq : ∀ x : Fin 128, q (ix2 r x) = P (ix2 (row b s) (⟨5120 + (col g h x).val, by omega⟩ : Fin 14336)))
    (hgn : ∀ x : Fin 128, gn (ix2 0 x) = N (ix1 x))
    (hkc : ∀ (k : Fin 256) (x : Fin 128), kc (ix5 0 0 0 k x) = K (ix5 b (0 : Fin 2) g k x))
    (hvc : ∀ (k : Fin 256) (x : Fin 128), vc (ix5 0 0 0 k x) = K (ix5 b (1 : Fin 2) g k x))
    (hsl : sl (ix3 0 0 0) = slopes (ix2 g h))
    (hgl : ∀ x : Fin 128, gl (ix2 r x) = G (ix2 (row b s) x))
    (hw : w = BitVec.ofNat 32 (lane g h).val)
    (σ : ℝ) (hσ : slopes (ix2 g h) = σ)
    (fK : ∀ (b g : Fin 4) (c : Fin 256) (d : Fin 128), ∃ a : ℝ, K (ix5 b (0 : Fin 2) g c d) = a)
    (fN : ∀ d : Fin 128, ∃ a : ℝ, N (ix1 d) = a) (d : Fin 128) :
    head i q gn kc vc sl gl w (ix2 r d) = REF P G K N (ix2 (row b s) (col g h d)) := by
  have key : ∀ c : Fin 256, ∃ x : ℝ, (∑ x, K (ix5 b (0 : Fin 2) g c x) * queries P N (ix5 b s g h x))
        * Ideal.ofBits FTy.f32 0x3DB504F3#32
        - slopes (ix2 g h) * (((s.val : ℝ) - ((c.val * 16 + 31 : ℕ) : ℝ) : ℝ) : EReal) = (x : EReal)
      ∧ score i q gn kc sl r c = (x : EReal) + ((σ * (r.val : ℝ) : ℝ) : EReal) := fun c => by
    obtain ⟨x, hx, hx'⟩ := Cert.CmpScore.score
      (fun x => P (ix2 (row b s) (⟨5120 + (col g h x).val, by omega⟩ : Fin 14336))) (fun x => N (ix1 x))
      (fun x => K (ix5 b (0 : Fin 2) g c x)) (slopes (ix2 g h)) fN (fK b g c) σ hσ
      ((c.val * 16 + 31 : ℕ) : ℝ) (((i 2).val * 256 : ℕ) : ℝ) (r.val : ℝ)
    refine ⟨x, ?_, ?_⟩
    · rw [← hx, hs]
      simp only [queries_at, Nat.cast_add]
    · rw [← hx']
      simp only [score, hq, hgn, hkc, hsl]
  choose S hS hS' using key
  have hsc : score i q gn kc sl r = fun c => (S c : EReal) + ((σ * (r.val : ℝ) : ℝ) : EReal) := funext hS'
  have href : ∀ c : Fin 255, scores (queries P N) (keys K) (ix5 b g h s c) = (S c.castSucc : EReal) := fun c => by
    rw [scores_at, dist_at, ← hS]
    simp only [keys_at, Fin.val_castSucc]
  have hgate : (∑ x : Fin 128, if BitVec.ofNat 32 x.val = w then gl (ix2 r x) else 0)
      = G (ix2 (row b s) (⟨(lane g h).val, by omega⟩ : Fin 128)) := by
    rw [Finset.sum_eq_single (⟨(lane g h).val, by omega⟩ : Fin 128), if_pos hw.symm, hgl]
    · intro x _ hx
      refine if_neg fun hxw => hx (Fin.ext ?_)
      have := congrArg BitVec.toNat (hxw.trans hw)
      rw [BitVec.toNat_ofNat, BitVec.toNat_ofNat, Nat.mod_eq_of_lt (by omega), Nat.mod_eq_of_lt (by omega)] at this
      exact this
    · exact fun hx => absurd (Finset.mem_univ _) hx
  have hlast : ¬ sees i r (Fin.last 255) := fun hh => absurd hh.2 (by simp)
  rw [head_at i q gn kc vc sl gl w r d _ rfl, hsc,
    row (sees i r) (fun c => (S c : EReal)) (fun c => vc (ix5 0 0 0 c d)) (σ * (r.val : ℝ)) hlast (fun c _ => ⟨S c, rfl⟩) _ rfl]
  unfold REF maskedScores
  rw [gated_at, gates_at, mul_comm]
  congr 1
  · rw [hgate]
  · refine Finset.sum_congr rfl fun c _ => ?_
    rw [softmax_at, values_at, hvc, ended_at, Cert.CmpWords.select_ofBool]
    simp only [weights_row i r s hs, href]
    rw [mul_ite, mul_one, mul_zero]
    exact congrArg _ (if_congr (sees_iff i r c s hs) rfl rfl)

end Cert.KernelIdeal.Cmp

end
-- ==== Proof.CmpOut.lean ====
module

public import proofs.«01_k».proof.Proof.Gen.ReferenceIdeal.Run
public import Idealize.ShloMosaic.Lib.Pipeline.ValueKit
public import proofs.«01_k».proof.Proof.CmpRef

/-! # The compressed attention's reference computes its term -/

@[expose] public section

set_option maxRecDepth 16384

noncomputable section

open Idealize.ShloMosaic Idealize.ShloMosaic.TcCoe Idealize.SL.Sem

namespace Cert.ReferenceIdeal.Cmp

open Cert.ReferenceIdeal Cert.ReferenceIdeal.Gen

variable (m : (ℓ : Loc nD τ sig) → Buf (Elt Ideal) ℓ)

theorem out_eq (c : Dev nD) : Cert.ReferenceIdeal.Value.res_out0 m c
    = REF (m (c.tc.loc main_arg0)) (m (c.tc.loc main_arg1)) (m (c.tc.loc main_arg2)) (m (c.tc.loc main_arg3)) := by
  unfold Cert.ReferenceIdeal.Value.res_out0 Cert.ReferenceIdeal.Value.res_main_v77
  unfold REF gated softmax weights largest maskedScores
  unfold masked
  unfold scores queries keys values gates slopes ended
  unfold dist
  rfl

end Cert.ReferenceIdeal.Cmp

end
-- ==== Proof.CmpFinite.lean ====
module

public import proofs.«01_k».proof.Defs
public import proofs.«01_k».proof.Proof.Gen.KernelIdeal.Value
public import proofs.«01_k».proof.Proof.Gen.Pre_finite_inputs
public import Idealize.ShloMosaic.Lib.Pipeline.ValueKit
public import Idealize.ShloMosaic.Lib.ReduceAll

/-! # What the precondition says of the arguments -/

@[expose] public section

set_option maxRecDepth 16384

noncomputable section

open Idealize.ShloMosaic Idealize.SL.Sem

namespace Cert.Pre_finite_inputs.Read

open Cert.Pre_finite_inputs

theorem top_word : Ideal.ofBits .f32 0x7F800000#32 = ⊤ := by
  simp [Ideal.ofBits, Ideal.ieee]

/-- A value whose size tests below infinity is a real number. -/
theorem real_of_abs (x : EReal)
    (h : BitVec.ofBool (decide (FloatOps.absf (F := Ideal) (φ := .f32) x < Ideal.ofBits .f32 0x7F800000#32)) = 1#1) :
    ∃ a : ℝ, x = a := by
  rw [top_word] at h
  have h' : max x (-x) < ⊤ := by
    by_contra hn
    rw [show FloatOps.absf (F := Ideal) (φ := .f32) x = max x (-x) from rfl, decide_eq_false hn] at h
    exact absurd h (by decide)
  induction x with
  | bot => exact absurd h' (by simp)
  | top => exact absurd h' (by simp)
  | coe r => exact ⟨r, rfl⟩

/-- The precondition, read: the keys and the gain are real. -/
theorem finite (P : FVec Ideal S16384x14336 .bf16) (G : FVec Ideal S16384x128 .f32) (K : FVec Ideal S4x2x4x256x128 .bf16)
    (N : FVec Ideal S128 .f32) (h : fn (F := Ideal) P G K N ix0 = 1#1) :
    (∀ (b g : Fin 4) (c : Fin 256) (d : Fin 128), ∃ a : ℝ, K (ix5 b (0 : Fin 2) g c d) = a)
      ∧ ∀ d : Fin 128, ∃ a : ℝ, N (ix1 d) = a := by
  dsimp only [fn] at h
  obtain ⟨h2, h3⟩ := IntOp.andi_eq_one.1 h
  refine ⟨fun b g c d => ?_, fun d => ?_⟩
  · have e := Host.reduce_andi_all _ _ _ _ _ h2 (ix4 b g c d)
    pointwise [] at e
    exact real_of_abs _ e
  · have e := Host.reduce_andi_all _ _ _ _ _ h3 (ix1 d)
    pointwise [] at e
    exact real_of_abs _ e

end Cert.Pre_finite_inputs.Read

end
-- ==== Proof.Cmp.lean ====
module

public import proofs.«01_k».proof.Proof.CmpHead
public import proofs.«01_k».proof.Proof.CmpOut
public import proofs.«01_k».proof.Proof.CmpFinite
public import Idealize.ShloMosaic.Lib.Pipeline.ReadBack

/-! # The compressed attention's result -/

@[expose] public section

set_option maxRecDepth 16384

noncomputable section

open Idealize.ShloMosaic Idealize.ShloMosaic.TcCoe Idealize.SL.Sem
open Idealize.ShloMosaic.Pipeline (Dat)

namespace Cert.KernelIdeal.Cmp

open Cert.KernelIdeal Cert.KernelIdeal.Gen Cert.KernelIdeal.Heads Cert.ReferenceIdeal.Cmp

variable (m : (ℓ : Loc nD τ sig) → Buf (Elt Ideal) ℓ)

/-- The reference's term of the arguments. -/
abbrev result (c : Dev nD) : FVec Ideal Cert.ReferenceIdeal.S16384x2048 .bf16 :=
  REF (m ((c : Thread nD τ).loc main_arg0)) (m ((c : Thread nD τ).loc main_arg1))
    (m ((c : Thread nD τ).loc main_arg2)) (m ((c : Thread nD τ).loc main_arg3))

/-- The column of a head's gate, as a number. -/
theorem column_word (t : Fin cfg0.N) (h : Fin 4) :
    column (grid0.coords t) (BitVec.ofNat 32 h.val) = BitVec.ofNat 32 (lane (grp t) h).val := by
  show BitVec.ofNat 32 (grp t).val * 4#32 + BitVec.ofNat 32 h.val = _
  revert h
  generalize grp t = g
  revert g
  decide +kernel

/-- A head of a tile computes the reference's entries. -/
theorem head_tile (c : Dev nD)
    (pre : Cert.Pre_finite_inputs.fn (F := Ideal) (m ((c : Thread nD τ).loc main_arg0)) (m ((c : Thread nD τ).loc main_arg1))
      (m ((c : Thread nD τ).loc main_arg2)) (m ((c : Thread nD τ).loc main_arg3)) ix0 = 1#1)
    (t : Fin cfg0.N) (h : Fin 4) (q : FVec Ideal S256x128 .f32)
    (hq : ∀ (r : Fin 256) (x : Fin 128), q (ix2 r x) = qblk m c t (ix2 r (⟨h.val * 128 + x.val, by omega⟩ : Fin 512)))
    (sl : Vec Ideal S1x1x1 .f32) (hsl : sl (ix3 0 0 0) = iblk m c 6 t (ix3 0 0 (⟨h.val, by omega⟩ : Fin 128)))
    (r : Fin 256) (d : Fin 128) :
    head (grid0.coords t) q (View.ld (iblk m c 3 t) r0_3) (View.ld (iblk m c 1 t) r0_1) (View.ld (iblk m c 2 t) r0_1) sl
        (View.ld (iblk m c 4 t) r0_2) (column (grid0.coords t) (BitVec.ofNat 32 h.val)) (ix2 r d)
      = result m c (ix2 (row (seq t) (pos t r)) (col (grp t) h d)) := by
  obtain ⟨fK, fN⟩ := Cert.Pre_finite_inputs.Read.finite _ _ _ _ pre
  obtain ⟨σ, hσ⟩ := slopes_real (grp t) h
  exact head_ref _ _ _ _ _ (seq t) (grp t) h r (pos t r) rfl q _ _ _ sl _ _
    (fun x => (hq r x).trans (qblk_at m c t h r x)) (gain_block m c t) (keys_block m c t) (values_block m c t)
    (hsl.trans (slope_block m c t h)) (gates_block m c t r) (column_word t h) σ hσ fK fN d

/-- Where a head's entries lie in the result. -/
theorem head_emb (t : Fin cfg0.N) (h : Fin 4) (r : Fin 256) (d : Fin 128) :
    ((cfg0.win 7).blk t).view.emb (ix2 r (⟨h.val * 128 + d.val, by omega⟩ : Fin 512))
      = ix2 (row (seq t) (pos t r)) (col (grp t) h d) := by
  blk_ext [idx t]

/-- The slopes the four heads load from their group's row. -/
theorem slope_ld (x : Vec Ideal S1x1x128 .f32) :
    View.ld x r0_4 (ix3 0 0 0) = x (ix3 0 0 (0 : Fin 128)) ∧ View.ld x r0_6 (ix3 0 0 0) = x (ix3 0 0 (1 : Fin 128))
      ∧ View.ld x r0_8 (ix3 0 0 0) = x (ix3 0 0 (2 : Fin 128)) ∧ View.ld x r0_10 (ix3 0 0 0) = x (ix3 0 0 (3 : Fin 128)) := by
  refine ⟨?_, ?_, ?_, ?_⟩ <;> pointwise

/-- The result array after the run. -/
theorem final (c : Dev nD)
    (pre : Cert.Pre_finite_inputs.fn (F := Ideal) (m ((c : Thread nD τ).loc main_arg0)) (m ((c : Thread nD τ).loc main_arg1))
      (m ((c : Thread nD τ).loc main_arg2)) (m ((c : Thread nD τ).loc main_arg3)) ix0 = 1#1) :
    (dats m 0 c).arrAt 7 cfg0.N = result m c := by
  refine (dats m 0 c).arrAt_eq_of_covers 7 _ (by decide +kernel) fun t _ y => ?_
  rw [after0_7]
  unfold out0_7
  have H := head_tile m c pre t
  refine View.canon_append_of_piecesOf (Val := Elt Ideal) (fun y => result m c (((cfg0.win 7).blk t).view.emb y)) [] _ ?_ y
    (cover0_7 _ _ _ _ y)
  refine ⟨fun x => ?_, fun x => ?_, fun x => ?_, fun x => ?_, trivial⟩
  · rw [piece3]
    idx_vars x
    exact (H 3 _ (fun r x => by pointwise; rfl) _ (slope_ld _).2.2.2 _ _).trans
      (congrArg (result m c) (by rw [← head_emb]; exact congrArg _ (by blk_ext)))
  · rw [piece2]
    idx_vars x
    exact (H 2 _ (fun r x => by pointwise; rfl) _ (slope_ld _).2.2.1 _ _).trans
      (congrArg (result m c) (by rw [← head_emb]; exact congrArg _ (by blk_ext)))
  · rw [piece1]
    idx_vars x
    exact (H 1 _ (fun r x => by pointwise; rfl) _ (slope_ld _).2.1 _ _).trans
      (congrArg (result m c) (by rw [← head_emb]; exact congrArg _ (by blk_ext)))
  · rw [piece0]
    idx_vars x
    exact (H 0 _ (fun r x => by pointwise; rfl) _ (slope_ld _).1 _ _).trans
      (congrArg (result m c) (by rw [← head_emb]; exact congrArg _ (by blk_ext)))

end Cert.KernelIdeal.Cmp

end
-- ==== Proof.CmpClaim.lean ====
module

public import proofs.«01_k».proof.Defs
public import proofs.«01_k».proof.Proof.Cmp
public import Idealize.ShloMosaic.Lib.Claim

/-! # The compressed attention computes its reference's array -/

@[expose] public section

set_option maxRecDepth 16384

noncomputable section

namespace Cert.Proof

open Idealize.ShloMosaic Idealize.SL.Sem

/-- The compressed attention and its reference compute the same array, from finite arguments. -/
theorem algebraic1 : Cert.algebraic_KernelIdeal_ReferenceIdeal_pre_finite_inputs
    (hKernelIdeal := Cert.KernelIdeal.Gen.facts)
    (hReferenceIdeal := Cert.ReferenceIdeal.Gen.facts)
    (hPre_finite_inputs := Cert.Pre_finite_inputs.Gen.facts) := by
  pair_intro
  · run_from Cert.KernelIdeal.Value.run_blocks m g
  · run_from Cert.ReferenceIdeal.Value.run m' g'
    refine (Cert.ReferenceIdeal.Cmp.out_eq m' c).trans ?_
    rw [(hagree c).1, (hagree c).2.1, (hagree c).2.2.1, (hagree c).2.2.2]
    exact (Cert.KernelIdeal.Cmp.final m c (congrFun (hpre c) ix0)).symm

end Cert.Proof

end
-- ==== Proof.DownRun.lean ====
module

public import proofs.«01_k».proof.Proof.Gen.Kernel8Ideal.Launch
public import proofs.«01_k».proof.Proof.Gen.Kernel8Ideal.Skeleton
public import Idealize.ShloMosaic.Lib.Pipeline.Kit
public import Idealize.ShloMosaic.Lib.Pipeline.FrameBody
public import Idealize.ShloMosaic.Lib.Pipeline.ValueKit
public import Idealize.ShloMosaic.Lib.Pipeline.ValueKit.Acc
public import Idealize.ShloMosaic.Lib.Pipeline.ReadBack
public import Idealize.ShloMosaic.Lib.Writes
public import Idealize.ShloMosaic.Lib.Exec
public import Idealize.ShloMosaic.Lib.Tactic
public import Idealize.ShloMosaic.Adequacy
public import Idealize.ShloMosaic.Init

/-! # The experts' second product: the body's three ways, run once each over any table words -/

@[expose] public section

set_option maxRecDepth 16384
set_option Elab.async false

noncomputable section

namespace Cert.Kernel8Ideal.Down

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The separation algebra of the machine these programs run on. -/
abbrev Mach (F : FTy → Type) [FloatOps F] := MT nD τ sig Unit (Elt F) ℕ (UR sig nD τ) ℕ

/-- The table of the row blocks' experts, the number of used row blocks, the scratch for an expert's matrix. -/
abbrev expertsRef : Memref sig .tc .smem S160 .i32 := Memref.whole main_arg0
abbrev usedRef : Memref sig .tc .smem S1 .i32 := Memref.whole main_arg1
abbrev matRef : Memref sig .tc .vmem S2048x2048 .bf16 := Memref.whole cc0_scratch0

/-- The words the body reads at a point: its block's expert, the block before's, the number of used blocks. -/
abbrev expertAt (i : grid0.Coords) (T0 : S160.Idx → Elt F .i32) : BitVec 32 :=
  View.readAt (Elt F) expertsRef.view (Rect.unit (s := S160) (k0_off1 i) S1.size (k0_off1_inb i)).toLoadRect T0 (Shape.Idx.first (numel1_S1.symm ▸ Nat.one_pos))
abbrev expertBefore (i : grid0.Coords) (T0 : S160.Idx → Elt F .i32) : BitVec 32 :=
  View.readAt (Elt F) expertsRef.view (Rect.unit (s := S160) (k0_off2 i) S1.size (k0_off2_inb i)).toLoadRect T0 (Shape.Idx.first (numel1_S1.symm ▸ Nat.one_pos))
abbrev usedCount (T1 : S1.Idx → Elt F .i32) : BitVec 32 :=
  View.readAt (Elt F) usedRef.view (Rect.unit (s := S1) ![0] S1.size inb_S1_S1_0).toLoadRect T1 (Shape.Idx.first (numel1_S1.symm ▸ Nat.one_pos))

/-- The point takes up a new expert's matrix. -/
abbrev Fresh (i : grid0.Coords) (T0 : S160.Idx → Elt F .i32) (T1 : S1.Idx → Elt F .i32) : Prop :=
  Scalar.cmpi .ne (Scalar.extui (Scalar.andi (Scalar.ori (Scalar.cmpi .eq (BitVec.ofNat 32 (i 1).val) 0#32)
    (Scalar.cmpi .ne (expertAt i T0) (expertBefore i T0))) (Scalar.cmpi .slt (BitVec.ofNat 32 (i 1).val) (usedCount T1)))) 0#32 = 1#1
/-- The point's block is used; it is past the used ones. -/
abbrev Used (i : grid0.Coords) (T1 : S1.Idx → Elt F .i32) : Prop := k0_cond2 i (usedCount T1) = 1#1
abbrev Past (i : grid0.Coords) (T1 : S1.Idx → Elt F .i32) : Prop := k0_cond3 i (usedCount T1) = 1#1

/-- What a run starts from and ends in: the staged blocks, the tables, the result block and the scratch. -/
abbrev Held (c : Dev nD) (arg4 : Memref sig .tc .vmem S512x2048 .bf16) (arg5 : Memref sig .tc .vmem S1x2048x2048 .f32)
    (arg6 : Memref sig .tc .vmem S1x1x2048 .f32) (T0 : S160.Idx → Elt F .i32) (T1 : S1.Idx → Elt F .i32)
    (x0 : Vec F S512x2048 .bf16) (x1 : Vec F S1x2048x2048 .f32) (x2 : Vec F S1x1x2048 .f32) (O S : sProp (Mach F)) : sProp (Mach F) :=
  iprop(owns (c : Thread nD τ) arg4 fullShare x0 ∗ owns (c : Thread nD τ) arg5 fullShare x1 ∗ owns (c : Thread nD τ) arg6 fullShare x2
    ∗ (expertsRef.view.loc (c : Thread nD τ) ↦{fullShare.right} T0) ∗ (usedRef.view.loc (c : Thread nD τ) ↦{fullShare.right} T1)
    ∗ O ∗ S)

/-- The body at a point, on any staging buffers. -/
abbrev bodyOn (i : grid0.Coords) (arg4 : Memref sig .tc .vmem S512x2048 .bf16) (harg4 : arg4.IsWhole) (arg5 : Memref sig .tc .vmem S1x2048x2048 .f32) (harg5 : arg5.IsWhole)
    (arg6 : Memref sig .tc .vmem S1x1x2048 .f32) (harg6 : arg6.IsWhole) (arg7 : Memref sig .tc .vmem S512x2048 .f32) (harg7 : arg7.IsWhole) :
    Prog (TpuEff nD τ sig (Elt F) Λ₀ .tc) PUnit :=
  cc0_moe_down i expertsRef (Memref.isWhole_whole _) usedRef (Memref.isWhole_whole _) arg4 harg4 arg5 harg5 arg6 harg6 arg7 harg7 matRef (Memref.isWhole_whole _)

set_option backward.proofsInPublic true in
set_option maxHeartbeats 8000000 in
/-- A used block of a new expert: the scratch takes the expert's matrix, the result block is the product with it. -/
theorem run_fresh (c : Dev nD) (i : grid0.Coords) (arg4 : Memref sig .tc .vmem S512x2048 .bf16) (harg4 : arg4.IsWhole)
    (arg5 : Memref sig .tc .vmem S1x2048x2048 .f32) (harg5 : arg5.IsWhole) (arg6 : Memref sig .tc .vmem S1x1x2048 .f32) (harg6 : arg6.IsWhole)
    (arg7 : Memref sig .tc .vmem S512x2048 .f32) (harg7 : arg7.IsWhole) (T0 : S160.Idx → Elt F .i32) (T1 : S1.Idx → Elt F .i32)
    (x0 : Vec F S512x2048 .bf16) (x1 : Vec F S1x2048x2048 .f32) (x2 : Vec F S1x1x2048 .f32)
    (h1 : Fresh i T0 T1) (h2 : Used i T1) (h3 : ¬Past i T1) (K : PUnit → sProp (Mach F)) :
    iprop(Held c arg4 arg5 arg6 T0 T1 x0 x1 x2 iprop(∃ d, owns (c : Thread nD τ) arg7 fullShare d) (iprop(∃ d, owns (c : Thread nD τ) matRef fullShare d))
      ∗ (Held c arg4 arg5 arg6 T0 T1 x0 x1 x2 (owns (c : Thread nD τ) arg7 fullShare (k0_pay2 x0 (k0_pay1 x1) x2)) (owns (c : Thread nD τ) matRef fullShare (k0_pay1 x1)) -∗ K ⟨⟩))
      ⊢ wp frame (wpE (defs₀ (F := F)) Variants.none c none) Set.univ (bodyOn i arg4 harg4 arg5 harg5 arg6 harg6 arg7 harg7) K := by
  unfold bodyOn
  simp only [cc0_moe_down_eq_skeleton]; unfold cc0_moe_down_skel
  have hS : matRef.IsWhole := Memref.isWhole_whole _
  have hT0 : expertsRef.IsWhole := Memref.isWhole_whole _
  have hT1 : usedRef.IsWhole := Memref.isWhole_whole _
  unfold Held owns
  iintro ⟨⟨⟨%f0, %hf0, H0⟩, ⟨%f1, %hf1, H1⟩, ⟨%f2, %hf2, H2⟩, HT0, HT1, ⟨%d3, %f3, -, H3⟩, ⟨%d4, %f4, -, H4⟩⟩, Hk⟩
  obtain rfl := harg4.eq_unread hf0; obtain rfl := harg5.eq_unread hf1; obtain rfl := harg6.eq_unread hf2
  sl_exec! (disch := first | (guard_target = Scalar.cmpi = _; exact h1) | (guard_target = k0_cond2 _ _ = _; exact h2) | (guard_target = ¬(k0_cond3 _ _ = _); exact h3))
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HT0]; · iexact HT0
  isplitl [HT1]; · iexact HT1
  isplitl [H3]
  · iexists _; isplitr; swap
    · iexact H3
    ipureintro
    frame_out
  iexists _; isplitr; swap
  · iexact H4
  ipureintro
  frame_out

set_option backward.proofsInPublic true in
set_option maxHeartbeats 8000000 in
/-- A used block of the expert before: the product with the matrix the scratch holds. -/
theorem run_same (c : Dev nD) (i : grid0.Coords) (arg4 : Memref sig .tc .vmem S512x2048 .bf16) (harg4 : arg4.IsWhole)
    (arg5 : Memref sig .tc .vmem S1x2048x2048 .f32) (harg5 : arg5.IsWhole) (arg6 : Memref sig .tc .vmem S1x1x2048 .f32) (harg6 : arg6.IsWhole)
    (arg7 : Memref sig .tc .vmem S512x2048 .f32) (harg7 : arg7.IsWhole) (T0 : S160.Idx → Elt F .i32) (T1 : S1.Idx → Elt F .i32)
    (x0 : Vec F S512x2048 .bf16) (x1 : Vec F S1x2048x2048 .f32) (x2 : Vec F S1x1x2048 .f32)
    (xs : Vec F S2048x2048 .bf16) (h1 : ¬Fresh i T0 T1) (h2 : Used i T1) (h3 : ¬Past i T1) (K : PUnit → sProp (Mach F)) :
    iprop(Held c arg4 arg5 arg6 T0 T1 x0 x1 x2 iprop(∃ d, owns (c : Thread nD τ) arg7 fullShare d) (owns (c : Thread nD τ) matRef fullShare xs)
      ∗ (Held c arg4 arg5 arg6 T0 T1 x0 x1 x2 (owns (c : Thread nD τ) arg7 fullShare (k0_pay2 x0 xs x2)) (owns (c : Thread nD τ) matRef fullShare (xs)) -∗ K ⟨⟩))
      ⊢ wp frame (wpE (defs₀ (F := F)) Variants.none c none) Set.univ (bodyOn i arg4 harg4 arg5 harg5 arg6 harg6 arg7 harg7) K := by
  unfold bodyOn
  simp only [cc0_moe_down_eq_skeleton]; unfold cc0_moe_down_skel
  have hS : matRef.IsWhole := Memref.isWhole_whole _
  have hT0 : expertsRef.IsWhole := Memref.isWhole_whole _
  have hT1 : usedRef.IsWhole := Memref.isWhole_whole _
  unfold Held owns
  iintro ⟨⟨⟨%f0, %hf0, H0⟩, ⟨%f1, %hf1, H1⟩, ⟨%f2, %hf2, H2⟩, HT0, HT1, ⟨%d3, %f3, -, H3⟩, ⟨%f4, %hf4, H4⟩⟩, Hk⟩
  obtain rfl := harg4.eq_unread hf0; obtain rfl := harg5.eq_unread hf1; obtain rfl := harg6.eq_unread hf2
  obtain rfl := hS.eq_unread hf4
  sl_exec! (disch := first | (guard_target = ¬(Scalar.cmpi = _); exact h1) | (guard_target = k0_cond2 _ _ = _; exact h2) | (guard_target = ¬(k0_cond3 _ _ = _); exact h3))
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HT0]; · iexact HT0
  isplitl [HT1]; · iexact HT1
  isplitl [H3]
  · iexists _; isplitr; swap
    · iexact H3
    ipureintro
    frame_out
    exact congrArg (fun w => k0_pay2 x0 w x2) hf4
  iexists _; isplitr; swap
  · iexact H4
  ipureintro
  exact hf4

set_option backward.proofsInPublic true in
set_option maxHeartbeats 8000000 in
/-- A block past the used ones: zeros, the scratch as it was. -/
theorem run_past (c : Dev nD) (i : grid0.Coords) (arg4 : Memref sig .tc .vmem S512x2048 .bf16) (harg4 : arg4.IsWhole)
    (arg5 : Memref sig .tc .vmem S1x2048x2048 .f32) (harg5 : arg5.IsWhole) (arg6 : Memref sig .tc .vmem S1x1x2048 .f32) (harg6 : arg6.IsWhole)
    (arg7 : Memref sig .tc .vmem S512x2048 .f32) (harg7 : arg7.IsWhole) (T0 : S160.Idx → Elt F .i32) (T1 : S1.Idx → Elt F .i32)
    (x0 : Vec F S512x2048 .bf16) (x1 : Vec F S1x2048x2048 .f32) (x2 : Vec F S1x1x2048 .f32)
    (xs : Vec F S2048x2048 .bf16) (h1 : ¬Fresh i T0 T1) (h2 : ¬Used i T1) (h3 : Past i T1) (K : PUnit → sProp (Mach F)) :
    iprop(Held c arg4 arg5 arg6 T0 T1 x0 x1 x2 iprop(∃ d, owns (c : Thread nD τ) arg7 fullShare d) (owns (c : Thread nD τ) matRef fullShare xs)
      ∗ (Held c arg4 arg5 arg6 T0 T1 x0 x1 x2 (owns (c : Thread nD τ) arg7 fullShare (k0_pay3)) (owns (c : Thread nD τ) matRef fullShare (xs)) -∗ K ⟨⟩))
      ⊢ wp frame (wpE (defs₀ (F := F)) Variants.none c none) Set.univ (bodyOn i arg4 harg4 arg5 harg5 arg6 harg6 arg7 harg7) K := by
  unfold bodyOn
  simp only [cc0_moe_down_eq_skeleton]; unfold cc0_moe_down_skel
  have hS : matRef.IsWhole := Memref.isWhole_whole _
  have hT0 : expertsRef.IsWhole := Memref.isWhole_whole _
  have hT1 : usedRef.IsWhole := Memref.isWhole_whole _
  unfold Held owns
  iintro ⟨⟨⟨%f0, %hf0, H0⟩, ⟨%f1, %hf1, H1⟩, ⟨%f2, %hf2, H2⟩, HT0, HT1, ⟨%d3, %f3, -, H3⟩, ⟨%f4, %hf4, H4⟩⟩, Hk⟩
  obtain rfl := harg4.eq_unread hf0; obtain rfl := harg5.eq_unread hf1; obtain rfl := harg6.eq_unread hf2
  obtain rfl := hS.eq_unread hf4
  sl_exec! (disch := first | (guard_target = ¬(Scalar.cmpi = _); exact h1) | (guard_target = ¬(k0_cond2 _ _ = _); exact h2) | (guard_target = k0_cond3 _ _ = _; exact h3))
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HT0]; · iexact HT0
  isplitl [HT1]; · iexact HT1
  isplitl [H3]
  · iexists _; isplitr; swap
    · iexact H3
    ipureintro
    frame_out
  iexists _; isplitr; swap
  · iexact H4
  ipureintro
  exact hf4

end Cert.Kernel8Ideal.Down

end
-- ==== Proof.TableWords.lean ====
module

public import Idealize.ShloMosaic.PureOps
public import Idealize.ShloMosaic.Lib.WordCmp

/-! # Comparisons of table words, read as propositions -/

@[expose] public section

namespace Cert.TableWords

open Idealize.ShloMosaic

/-- A widened comparison is nonzero exactly where the comparison holds. -/
theorem widened_iff (x : BitVec 1) : Scalar.cmpi .ne (Scalar.extui x : BitVec 32) 0#32 = 1#1 ↔ x = 1#1 := by
  revert x; decide

theorem ofBool_iff (b : Bool) : BitVec.ofBool b = 1#1 ↔ b = true := by revert b; decide

theorem lt_iff (a b : BitVec 32) : Scalar.cmpi .slt a b = 1#1 ↔ a.toInt < b.toInt :=
  (ofBool_iff _).trans decide_eq_true_iff

theorem ge_iff (a b : BitVec 32) : Scalar.cmpi .sge a b = 1#1 ↔ ¬a.toInt < b.toInt :=
  (ofBool_iff _).trans (decide_eq_true_iff.trans Int.not_lt.symm)

theorem eq_iff (a b : BitVec 32) : Scalar.cmpi .eq a b = 1#1 ↔ a = b := by
  rw [show Scalar.cmpi .eq a b = _ from WordCmp.cmpi_eq_eq a b, ofBool_iff, decide_eq_true_iff]

theorem ne_iff (a b : BitVec 32) : Scalar.cmpi .ne a b = 1#1 ↔ a ≠ b := by
  rw [show Scalar.cmpi .ne a b = _ from WordCmp.cmpi_ne_eq a b, ofBool_iff, decide_eq_true_iff]

theorem and_iff (x y : BitVec 1) : Scalar.andi x y = 1#1 ↔ x = 1#1 ∧ y = 1#1 := by revert x y; decide

theorem or_iff (x y : BitVec 1) : Scalar.ori x y = 1#1 ↔ x = 1#1 ∨ y = 1#1 := by revert x y; decide

/-- A small number's word is zero only at zero, and reads signed as the number. -/
theorem ofNat_eq_zero_iff {n : ℕ} (h : n < 160) : BitVec.ofNat 32 n = 0#32 ↔ n = 0 := by
  rw [← BitVec.toNat_inj, BitVec.toNat_ofNat, Nat.mod_eq_of_lt (by omega)]; rfl

theorem ofNat_toInt {n : ℕ} (h : n < 160) : (BitVec.ofNat 32 n).toInt = n := by
  rw [BitVec.toInt_ofNat', Int.bmod_eq_of_le] <;> omega

end Cert.TableWords
-- ==== Proof.DownWords.lean ====
module

public import proofs.«01_k».proof.Proof.DownRun
public import proofs.«01_k».proof.Proof.TableWords

/-! # The experts' second product: the words its body decides by -/

@[expose] public section

noncomputable section

namespace Cert.Kernel8Ideal.Down

open Cert.Kernel8Ideal Cert.Kernel8Ideal.Gen Cert.TableWords
open Idealize.ShloMosaic Idealize.ShloMosaic.TcCoe

variable {F : FTy → Type} [FloatOps F]

theorem used_iff (i : grid0.Coords) (n : BitVec 32) : k0_cond2 i n = 1#1 ↔ ((i 1).val : ℤ) < n.toInt := by
  rw [← ofNat_toInt (i 1).isLt]; exact (widened_iff _).trans (lt_iff _ _)

/-- A block is past the used ones exactly where it is not used. -/
theorem past_iff (i : grid0.Coords) (n : BitVec 32) : k0_cond3 i n = 1#1 ↔ ¬k0_cond2 i n = 1#1 := by
  rw [used_iff, ← ofNat_toInt (i 1).isLt]; exact (widened_iff _).trans (ge_iff _ _)

/-- A point is fresh where its block is used, and is the first or has another expert than the one before. -/
theorem fresh_iff (i : grid0.Coords) (T0 : S160.Idx → Elt F .i32) (T1 : S1.Idx → Elt F .i32) :
    Fresh i T0 T1 ↔ ((i 1).val = 0 ∨ expertAt i T0 ≠ expertBefore i T0) ∧ Used i T1 := by
  rw [show Used i T1 ↔ Scalar.cmpi .slt (BitVec.ofNat 32 (i 1).val) (usedCount T1) = 1#1 from widened_iff _,
    ← ofNat_eq_zero_iff (i 1).isLt, ← eq_iff, ← ne_iff, ← or_iff, ← and_iff]
  exact widened_iff _

end Cert.Kernel8Ideal.Down

end
-- ==== Proof.DownFrame.lean ====
module

public import proofs.«01_k».proof.Proof.DownWords
public import Idealize.ShloMosaic.Lib.Pipeline.TableIdle

/-! # The experts' second product: the pipeline at any tables it admits

The launch, over any contents of the two tables whose blocks lie inside the arrays and whose count of used blocks
is at least one: every block of the result is the product with the scratch's matrix, or zeros past the used blocks. -/

@[expose] public section

set_option maxRecDepth 16384
set_option Elab.async false

noncomputable section

namespace Cert.Kernel8Ideal.Down

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

abbrev EP : Emb (UR sig nD τ) (Mach F) := emb₁

variable (a : (pcfg0 (F := F)).Adm)

/-- The tables, at their types. -/
abbrev experts : S160.Idx → Elt F .i32 := a.1 0
abbrev count : S1.Idx → Elt F .i32 := a.1 1

abbrev cfgA : Cfg sig Λ₀ := cfg0 a
abbrev pcs : Fin 1 → Cfg sig Λ₀ := Pipeline.pin (pcfgs (F := F)) fun _ => a
abbrev crd (t : Fin (cfgA a).N) : (cfgA a).grid.Coords := (cfgA a).grid.coords t

theorem N_pos : 0 < (cfgA a).N := lt_of_lt_of_eq (by decide : 0 < 160) N_0.symm

/-- Each window's staging buffer at a point. -/
abbrev ms0 (t : Fin (cfgA a).N) : Memref sig .tc .vmem S512x2048 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x2048 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x1x2048 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S512x2048 .f32 := spec0_3.stage ((cfgA a).slots t (3 : Fin 4))
abbrev hs3 (t : Fin (cfgA a).N) : (ms3 a t).IsWhole := hstage0_3 (((cfgA a).slots t (3 : Fin 4)).cast nbuf0_3)

variable (m : (ℓ : Loc nD τ sig) → Buf (Elt F) ℓ) (ρ : Dev nD → PrngReg)

/-- A window's block at a point, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-! ## What the scratch and the result block hold -/

/-- The scratch before position `n`: the matrix the last fresh point before it took up. -/
def mat (c : Dev nD) : ℕ → Vec F S2048x2048 .bf16
  | 0 => k0_pay1 (iblk a m c (1 : Fin 4) ⟨0, N_pos a⟩)
  | n + 1 => if h : n < (cfgA a).N then
      (haveI := Classical.propDecidable (Fresh (crd a ⟨n, h⟩) (experts a) (count a))
       if Fresh (crd a ⟨n, h⟩) (experts a) (count a) then k0_pay1 (iblk a m c (1 : Fin 4) ⟨n, h⟩) else mat c n)
    else mat c n

theorem mat_fresh (c : Dev nD) (t : Fin (cfgA a).N) (h : Fresh (crd a t) (experts a) (count a)) :
    mat a m c (t.val + 1) = k0_pay1 (iblk a m c (1 : Fin 4) t) := by
  show (if h : t.val < (cfgA a).N then _ else _) = _
  rw [dif_pos t.isLt]; exact if_pos h
theorem mat_same (c : Dev nD) (t : Fin (cfgA a).N) (h : ¬Fresh (crd a t) (experts a) (count a)) :
    mat a m c (t.val + 1) = mat a m c t.val := by
  show (if h : t.val < (cfgA a).N then _ else _) = _
  rw [dif_pos t.isLt]; exact if_neg h

/-- The result block of a point. -/
def res (c : Dev nD) (t : Fin (cfgA a).N) : Vec F S512x2048 .f32 :=
  haveI := Classical.propDecidable (Used (crd a t) (count a))
  if Used (crd a t) (count a) then k0_pay2 (iblk a m c (0 : Fin 4) t) (mat a m c (t.val + 1)) (iblk a m c (2 : Fin 4) t) else k0_pay3

theorem res_used (c : Dev nD) (t : Fin (cfgA a).N) (h : Used (crd a t) (count a)) :
    res a m c t = k0_pay2 (iblk a m c (0 : Fin 4) t) (mat a m c (t.val + 1)) (iblk a m c (2 : Fin 4) t) := if_pos h
theorem res_past (c : Dev nD) (t : Fin (cfgA a).N) (h : ¬Used (crd a t) (count a)) : res a m c t = k0_pay3 := if_neg h

/-- What holds between points: the scratch at its matrix (anything before the first point), the tables. -/
def Phi (c : Dev nD) (t : Fin ((cfgA a).N + 1)) : sProp (Mach F) :=
  iprop((∃ d, ⌜t.val ≠ 0 → d = mat a m c t.val⌝ ∗ owns (c : Thread nD τ) matRef fullShare d)
    ∗ (expertsRef.view.loc (c : Thread nD τ) ↦{fullShare.right} experts a) ∗ (usedRef.view.loc (c : Thread nD τ) ↦{fullShare.right} count a))

/-- The proof data of the pipeline on a core. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 4) t
    | ⟨1, _⟩ => iblk a m c (1 : Fin 4) t
    | ⟨2, _⟩ => iblk a m c (2 : Fin 4) t
    | ⟨3, _⟩ => res a m c t
  Φ t := Phi a m c t
  q _ := fullShare
  owed _ := 0

theorem after0 (c : Dev nD) (t : Fin (cfgA a).N) : (dats a m 0 c).after (0 : Fin 4) t = iblk a m c (0 : Fin 4) t := rfl
theorem after1 (c : Dev nD) (t : Fin (cfgA a).N) : (dats a m 0 c).after (1 : Fin 4) t = iblk a m c (1 : Fin 4) t := rfl
theorem after2 (c : Dev nD) (t : Fin (cfgA a).N) : (dats a m 0 c).after (2 : Fin 4) t = iblk a m c (2 : Fin 4) t := rfl
theorem after3 (c : Dev nD) (t : Fin (cfgA a).N) : (dats a m 0 c).after (3 : Fin 4) t = res a m c t := rfl

/-- An input's staging buffer holds its block when the body runs. -/
theorem before0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after2]; unfold Dat.blockOf iblk; rfl) t d).trans
    (by unfold Dat.fetched Dat.blockOf iblk; rfl)

/-- The result's block is stored at every point. -/
theorem live3 (t : Fin (cfgA a).N) : (cfgA a).idle (3 : Fin 4) ((cfgA a).grid.coords t) = false := by
  show (!(k0_cond2 _ _ == 1#1) && !(k0_cond3 _ _ == 1#1)) = false
  by_cases h : k0_cond2 ((cfgA a).grid.coords t) (a.1.atD 1 ![0]) = 1#1
  · rw [h]; rfl
  · rw [(past_iff _ _).mpr h]; simp

/-- The first point is fresh, where a block is used at all. -/
abbrev FirstFresh : Prop := Fresh (crd a ⟨0, N_pos a⟩) (experts a) (count a)

/-- The body at a point, as the pipeline calls it. -/
abbrev bodyAt (t : Fin (cfgA a).N) : Prog (TpuEff nD τ sig (Elt F) Λ₀ .tc) PUnit :=
  bodyOn (crd a t) (ms0 a t) (hs0 a t) (ms1 a t) (hs1 a t) (ms2 a t) (hs2 a t) (ms3 a t) (hs3 a t)

set_option maxHeartbeats 4000000 in
/-- The body at a point keeps what holds between points and leaves every window as stated. -/
theorem sound_body (hf : FirstFresh a) (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 4) t d))
        ∗ (∃ d, owns (c : Thread nD τ) (ms1 a t) fullShare ((dats a m 0 c).before (1 : Fin 4) t d))
        ∗ (∃ d, owns (c : Thread nD τ) (ms2 a t) fullShare ((dats a m 0 c).before (2 : Fin 4) t d))
        ∗ (∃ d, owns (c : Thread nD τ) (ms3 a t) fullShare ((dats a m 0 c).before (3 : Fin 4) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0, live3]
  simp only [before0, before1, before2, after0, after1, after2, after3]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi; simp only [Fin.val_castSucc, Fin.val_succ]
  iintro ⟨⟨⟨%x, %hx, HS⟩, HT0, HT1⟩, Ho, ⟨%d0, H0⟩, ⟨%d1, H1⟩, ⟨%d2, H2⟩, ⟨%d3, H3⟩⟩
  by_cases h1 : Fresh (crd a t) (experts a) (count a)
  · have h2 := ((fresh_iff _ _ _).mp h1).2
    have h3 : ¬Past (crd a t) (count a) := fun h => (past_iff _ _).mp h h2
    iapply (run_fresh c (crd a t) (ms0 a t) (hs0 a t) (ms1 a t) (hs1 a t) (ms2 a t) (hs2 a t) (ms3 a t) (hs3 a t) (experts a) (count a)
      (iblk a m c (0 : Fin 4) t) (iblk a m c (1 : Fin 4) t) (iblk a m c (2 : Fin 4) t) h1 h2 h3 _)
    isplitl [H0 H1 H2 H3 HS HT0 HT1]
    · isplitl [H0]; · iexact H0
      isplitl [H1]; · iexact H1
      isplitl [H2]; · iexact H2
      isplitl [HT0]; · iexact HT0
      isplitl [HT1]; · iexact HT1
      isplitl [H3]; · iexists _; iexact H3
      iexists _; iexact HS
    iintro ⟨H0, H1, H2, HT0, HT1, H3, HS⟩
    rw [res_used a m c t h2, mat_fresh a m c t h1]
    isplitl [HS HT0 HT1]
    · isplitl [HS]
      · iexists _; isplitr; swap
        · iexact HS
        · ipureintro; intro _; rfl
      isplitl [HT0]; · iexact HT0
      iexact HT1
    isplitl [Ho]; · iexact Ho
    isplitl [H0]; · iexact H0
    isplitl [H1]; · iexact H1
    isplitl [H2]; · iexact H2
    iexact H3
  · have h0 : t.val ≠ 0 := fun h0 => h1 (by
      have e : t = ⟨0, N_pos a⟩ := Fin.ext h0
      rw [e]; exact hf)
    obtain rfl := hx h0
    by_cases h2 : Used (crd a t) (count a)
    · have h3 : ¬Past (crd a t) (count a) := fun h => (past_iff _ _).mp h h2
      iapply (run_same c (crd a t) (ms0 a t) (hs0 a t) (ms1 a t) (hs1 a t) (ms2 a t) (hs2 a t) (ms3 a t) (hs3 a t) (experts a) (count a)
        (iblk a m c (0 : Fin 4) t) (iblk a m c (1 : Fin 4) t) (iblk a m c (2 : Fin 4) t) (mat a m c t.val) h1 h2 h3 _)
      isplitl [H0 H1 H2 H3 HS HT0 HT1]
      · isplitl [H0]; · iexact H0
        isplitl [H1]; · iexact H1
        isplitl [H2]; · iexact H2
        isplitl [HT0]; · iexact HT0
        isplitl [HT1]; · iexact HT1
        isplitl [H3]; · iexists _; iexact H3
        iexact HS
      iintro ⟨H0, H1, H2, HT0, HT1, H3, HS⟩
      rw [res_used a m c t h2, mat_same a m c t h1]
      isplitl [HS HT0 HT1]
      · isplitl [HS]
        · iexists _; isplitr; swap
          · iexact HS
          · ipureintro; intro _; rfl
        isplitl [HT0]; · iexact HT0
        iexact HT1
      isplitl [Ho]; · iexact Ho
      isplitl [H0]; · iexact H0
      isplitl [H1]; · iexact H1
      isplitl [H2]; · iexact H2
      iexact H3
    · iapply (run_past c (crd a t) (ms0 a t) (hs0 a t) (ms1 a t) (hs1 a t) (ms2 a t) (hs2 a t) (ms3 a t) (hs3 a t) (experts a) (count a)
        (iblk a m c (0 : Fin 4) t) (iblk a m c (1 : Fin 4) t) (iblk a m c (2 : Fin 4) t) (mat a m c t.val) h1 h2 ((past_iff _ _).mpr h2) _)
      isplitl [H0 H1 H2 H3 HS HT0 HT1]
      · isplitl [H0]; · iexact H0
        isplitl [H1]; · iexact H1
        isplitl [H2]; · iexact H2
        isplitl [HT0]; · iexact HT0
        isplitl [HT1]; · iexact HT1
        isplitl [H3]; · iexists _; iexact H3
        iexact HS
      iintro ⟨H0, H1, H2, HT0, HT1, H3, HS⟩
      rw [res_past a m c t h2, mat_same a m c t h1]
      isplitl [HS HT0 HT1]
      · isplitl [HS]
        · iexists _; isplitr; swap
          · iexact HS
          · ipureintro; intro _; rfl
        isplitl [HT0]; · iexact HT0
        iexact HT1
      isplitl [Ho]; · iexact Ho
      isplitl [H0]; · iexact H0
      isplitl [H1]; · iexact H1
      isplitl [H2]; · iexact H2
      iexact H3

theorem body_obligation (hf : FirstFresh a) (c : Dev nD) : BodyObligation (dats a m 0 c) (defs₀ (F := F)) Variants.none () Set.univ := fun t => by
  rw [bigSep_W0]
  exact sound_body a m hf c t

/-! ## The launch -/

theorem share_eq (c : Dev nD) (w : Fin (cfgA a).W) : (dats a m 0 c).share w = fullShare := by unfold Dat.share; split <;> rfl

/-- The tables as the launch hands them over, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp (Mach F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The scratch's points are its whole buffer. -/
theorem hS_eq (c : Dev nD) (f : Buf (Elt F) ((c : Thread nD τ).loc cc0_scratch0)) :
    (iprop(((c : Thread nD τ).loc cc0_scratch0) ↦{fullShare} f) : sProp (Mach F))
      = iprop(matRef.view.loc (c : Thread nD τ) ↦[matRef.view.set]{fullShare} f) := by
  rw [(Memref.isWhole_whole _).set_eq_univ]

/-- The scratch buffer at some contents is the scratch at some matrix. -/
theorem owns_of_scratch (c : Dev nD) : iprop(∃ f : Buf (Elt F) ((c : Thread nD τ).loc cc0_scratch0), ((c : Thread nD τ).loc cc0_scratch0) ↦{fullShare} f)
    ⊢ (iprop(∃ d, owns (c : Thread nD τ) matRef fullShare d) : sProp (Mach F)) := by
  unfold owns
  iintro ⟨%f, HS⟩
  iexists (matRef.view.read (Elt F) f); iexists f; isplitr
  · ipureintro; rfl
  iapply (Entails.of_eq (hS_eq c f)); iexact HS

theorem scratch_of_owns (c : Dev nD) (d : Vec F S2048x2048 .bf16) : (owns (c : Thread nD τ) matRef fullShare d : sProp (Mach F))
    ⊢ iprop(∃ f : Buf (Elt F) ((c : Thread nD τ).loc cc0_scratch0), ((c : Thread nD τ).loc cc0_scratch0) ↦{fullShare} f) := by
  unfold owns
  iintro ⟨%f, -, HS⟩
  iexists f
  iapply (Entails.of_eq (hS_eq c f).symm); iexact HS

theorem enter (c : Dev nD) :
    iprop(BI.emp ∗ Pipeline.prefHeld pre0 c (fun _ => fullShare.right) a.1 ∗ Pipeline.scopedRest spec0 c) ⊢ Phi a m c 0 := by
  rw [tables_eq, scopedRest0_eq]
  unfold Phi
  refine (sep_mono .rfl (sep_mono .rfl (owns_of_scratch c))).trans ?_
  iintro ⟨-, ⟨HT0, HT1⟩, ⟨%d, HS⟩⟩
  isplitl [HS]
  · iexists d; isplitr
    · ipureintro; intro h; exact absurd rfl h
    iexact HS
  isplitl [HT0]
  · iexact HT0
  iexact HT1

theorem leave (c : Dev nD) : Phi a m c (Fin.last (cfgA a).N) ⊢ iprop(BI.emp ∗ Pipeline.scopedRest spec0 c) := by
  rw [scopedRest0_eq]
  unfold Phi
  iintro ⟨⟨%x, -, HS⟩, -, -⟩
  isplitr; · iempintro
  iapply (scratch_of_owns c x); iexact HS

set_option backward.isDefEq.respectTransparency.types false in
set_option maxHeartbeats 4000000 in
/-- Every run ends, with each array at what the pipeline computes, the tables as they were, every counter at zero. -/
theorem run_main (hf : FirstFresh a) (ha : ∀ (c : Dev nD) (j : Fin 2), m ((c : Thread nD τ).loc (pre0.ref j)) = a.1 j) :
    θ_run (defs (F := F)) (onTc (τ := τ) (main (F := F))) ⟨m, fun _ => 0, ρ⟩ (fun r =>
      (∀ c : Dev nD, (∀ w : Fin (cfgA a).W, r.2.mem (((cfgA a).win w).arr.view.loc (c : Thread nD τ)) = (dats a m 0 c).arrAt w (cfgA a).N)
        ∧ ∀ j, r.2.mem ((c : Thread nD τ).loc (pre0.ref j)) = a.1 j) ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (body_obligation a m hf c).loose) (hne := (launch0 (F := F)).block_pos)
    (harr := (launch0 (F := F)).arr_whole) (hstage := (launch0 (F := F)).stage_whole) (howed := fun _ _ => rfl)
    (u₀ := initOf (Pipeline.cells (pcs a) ((launch0 (F := F)).cellOf_inj fun _ => a))
      (Pipeline.launchToks (pcs a) ((launch0 (F := F)).cellOf_inj fun _ => a))) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := ha)
    (X := fun _ => iprop(emp)) (Y := fun _ => iprop(emp)) (Z := fun _ => iprop(emp))
    (hX := fun c => by rw [unscopedRestP0_eq]; iintro -; isplitr <;> iempintro)
    (hin := enter a m)
    (hout := leave a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged, the result as the pipeline computes it, every counter at zero. -/
theorem run_kept (hf : FirstFresh a) (ha : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = (dats a m 0 c).arrAt (3 : Fin 4) (cfgA a).N)
      ∧ r.2.sem = fun _ => 0) :=
  (θ_run defs _ _).mono (fun _ h => ⟨fun c => ⟨⟨((h.1 c).2 0).trans (ha c 0).symm, ((h.1 c).2 1).trans (ha c 1).symm,
    ((h.1 c).1 (0 : Fin 4)).trans ((dats a m 0 c).arrAt_in (0 : Fin 4) rfl _),
    ((h.1 c).1 (1 : Fin 4)).trans ((dats a m 0 c).arrAt_in (1 : Fin 4) rfl _),
    ((h.1 c).1 (2 : Fin 4)).trans ((dats a m 0 c).arrAt_in (2 : Fin 4) rfl _)⟩, (h.1 c).1 (3 : Fin 4)⟩, h.2⟩) (run_main a m ρ hf ha)

end Cert.Kernel8Ideal.Down

end
-- ==== Proof.DownTables.lean ====
module

public import proofs.«01_k».proof.Proof.DownWords
public import proofs.«01_k».proof.Proof.Gen.Pre_moe_down_tables
public import Idealize.ShloMosaic.Lib.Pipeline.ValueKit
public import Idealize.ShloMosaic.Lib.ReduceAll

/-! # The experts' second product: what the tables' ranges give

The precondition read as ranges of the two tables, and from the ranges the blocks the index maps name: each lies
inside its array, and a used point's activations are the point's own block. -/

@[expose] public section

set_option maxRecDepth 16384

noncomputable section

namespace Cert.Kernel8Ideal.Down

open Cert.Kernel8Ideal Cert.Kernel8Ideal.Gen Cert.TableWords
open Idealize.ShloMosaic Idealize.ShloMosaic.TcCoe

variable {F : FTy → Type} [FloatOps F]

/-- The tables name experts that there are, and at least one block is used. -/
structure InRange (T0 : IVec S160 32) (T1 : IVec S1 32) : Prop where
  low : ∀ b : Fin 160, 0 ≤ (T0 (ix1 b)).toInt
  high : ∀ b : Fin 160, (T0 (ix1 b)).toInt < 32
  some : 1 ≤ (T1 (ix1 (0 : Fin 1))).toInt

/-- The precondition, read. -/
theorem inRange (T0 : IVec S160 32) (T1 : IVec S1 32) (H : FVec F S81920x2048 .bf16) (W : FVec F S32x2048x2048 .f32)
    (B : FVec F S32x1x2048 .f32) (h : Cert.Pre_moe_down_tables.fn (F := F) T0 T1 H W B Idealize.ShloMosaic.ix0 = 1#1) : InRange T0 T1 := by
  dsimp only [Cert.Pre_moe_down_tables.fn] at h
  obtain ⟨h12, h3⟩ := IntOp.andi_eq_one.1 h
  obtain ⟨h1, h2⟩ := IntOp.andi_eq_one.1 h12
  refine ⟨fun b => ?_, fun b => ?_, ?_⟩
  · exact Int.not_lt.mp ((ge_iff _ _).mp (Host.reduce_andi_all _ _ _ _ _ h1 (ix1 b)))
  · exact (lt_iff _ _).mp (Host.reduce_andi_all _ _ _ _ _ h2 (ix1 b))
  · exact Int.not_lt.mp ((ge_iff _ _).mp (Host.reduce_andi_all _ _ _ _ _ h3 (ix1 (0 : Fin 1))))

/-! ## The words, at their indices -/

/-- The point's block. -/
abbrev blockOf (i : grid0.Coords) : Fin 160 := ⟨(i 1).val, (i 1).isLt⟩

theorem off1_eq (i : grid0.Coords) : k0_off1 i = ![(i 1).val] := by
  have h : (i 1).val < 160 := (i 1).isLt
  show ![(BitVec.ofNat 32 (i 1).val).toNat] = _
  rw [BitVec.toNat_ofNat, Nat.mod_eq_of_lt (by omega)]

theorem table_at (pf : pre0.Contents (Elt F)) (i : grid0.Coords) :
    pf.at 0 (Rect.unit (s := S160) (k0_off1 i) S1.size (k0_off1_inb i)) numel1_S1 = pf 0 (ix1 (blockOf i)) := by
  refine congrArg (pf 0) (funext fun x => ?_)
  fin_cases x
  refine Fin.ext ?_
  show k0_off1 i 0 + 0 * 1 = (i 1).val
  rw [off1_eq]; rfl

theorem count_at (pf : pre0.Contents (Elt F)) :
    pf.at 1 (Rect.unit (s := S1) ![0] S1.size inb_S1_S1_0) numel1_S1 = pf 1 (ix1 (0 : Fin 1)) := by
  refine congrArg (pf 1) (funext fun x => ?_)
  fin_cases x
  rfl

theorem expertAt_eq (i : grid0.Coords) (T0 : S160.Idx → Elt F .i32) : expertAt i T0 = T0 (ix1 (blockOf i)) := by
  refine congrArg T0 (funext fun x => ?_)
  fin_cases x
  refine Fin.ext ?_
  show k0_off1 i 0 + 0 * 1 = (i 1).val
  rw [off1_eq]; rfl

theorem off2_eq (i : grid0.Coords) (n : ℕ) (hn : (i 1).val = n + 1) : k0_off2 i = ![n] := by
  have h : (i 1).val < 160 := (i 1).isLt
  have e : Scalar.subi (BitVec.ofNat 32 (i 1).val) 1#32 = BitVec.ofNat 32 n := by
    rw [hn]
    show BitVec.ofNat 32 (n + 1) - 1#32 = _
    apply BitVec.eq_of_toNat_eq
    simp only [BitVec.toNat_sub, BitVec.toNat_ofNat]
    omega
  show ![(Scalar.maxsi (Scalar.subi (BitVec.ofNat 32 (i 1).val) 1#32) 0#32).toNat] = _
  rw [e]
  have hi : (BitVec.ofNat 32 n).toInt = n := ofNat_toInt (by omega)
  have : Scalar.maxsi (BitVec.ofNat 32 n) 0#32 = BitVec.ofNat 32 n := by
    show (if (0#32).slt (BitVec.ofNat 32 n) then BitVec.ofNat 32 n else 0#32) = BitVec.ofNat 32 n
    rcases Nat.eq_zero_or_pos n with rfl | hp
    · exact if_neg (by decide)
    · refine if_pos ?_
      rw [BitVec.slt_eq_decide, hi]
      exact decide_eq_true (by show (0 : ℤ) < n; omega)
  rw [this, BitVec.toNat_ofNat, Nat.mod_eq_of_lt (by omega)]

theorem expertBefore_eq (i : grid0.Coords) (T0 : S160.Idx → Elt F .i32) (n : Fin 160) (hn : (i 1).val = n.val + 1) :
    expertBefore i T0 = T0 (ix1 n) := by
  refine congrArg T0 (funext fun x => ?_)
  fin_cases x
  refine Fin.ext ?_
  show k0_off2 i 0 + 0 * 1 = n.val
  rw [off2_eq i n.val hn]; rfl

theorem usedCount_eq (T1 : S1.Idx → Elt F .i32) : usedCount T1 = T1 (ix1 (0 : Fin 1)) := by
  refine congrArg T1 (funext fun x => ?_)
  fin_cases x
  rfl

/-! ## The blocks the index maps name -/

theorem toNat_of_range (w : BitVec 32) (h0 : 0 ≤ w.toInt) : (w.toNat : ℤ) = w.toInt := by
  rw [BitVec.toInt_eq_toNat_cond] at h0 ⊢
  split at h0 <;> split <;> omega

/-- The block of activations a point takes up is one of the array's, and the point's own where that block is used. -/
theorem clamp {n : ℕ} (hn : n < 160) (w : BitVec 32) (hw : 1 ≤ w.toInt) :
    (Scalar.minsi (BitVec.ofNat 32 n) (Scalar.subi w 1#32)).toNat < 160
      ∧ ((n : ℤ) < w.toInt → (Scalar.minsi (BitVec.ofNat 32 n) (Scalar.subi w 1#32)).toNat = n) := by
  have hi : (BitVec.ofNat 32 n).toInt = n := ofNat_toInt hn
  have hN : (BitVec.ofNat 32 n).toNat = n := by rw [BitVec.toNat_ofNat, Nat.mod_eq_of_lt (by omega)]
  have hb := BitVec.toInt_lt (x := w)
  have hs : (Scalar.subi w 1#32).toInt = w.toInt - 1 := by
    show (w - 1#32).toInt = _
    rw [BitVec.toInt_sub, Int.bmod_eq_of_le] <;> simp <;> omega
  have hsn := toNat_of_range (Scalar.subi w 1#32) (by omega)
  simp only [Scalar.minsi, IntOp.minsi, BitVec.slt_eq_decide, hi, hs]
  split <;> rename_i h <;> simp only [decide_eq_true_eq] at h
  · exact ⟨by omega, fun _ => hN⟩
  · exact ⟨by omega, fun _ => by omega⟩

theorem transform0_eq (pf : pre0.Contents (Elt F)) (i : grid0.Coords) : cc0_transform_0 inb_S1_S1_0 numel1_S1 pf i
    = ![(Scalar.minsi (BitVec.ofNat 32 (i 1).val) (Scalar.subi (pf 1 (ix1 (0 : Fin 1))) 1#32)).toNat, 0] :=
  congrArg (fun w : BitVec 32 => ![(Scalar.minsi (BitVec.ofNat 32 (i 1).val) (Scalar.subi w 1#32)).toNat, 0]) (count_at pf)

theorem coord0 (i : grid0.Coords) : (i 0).val = 0 := by
  have h : (i 0).val < 1 := (i 0).isLt
  omega

theorem transform1_eq (pf : pre0.Contents (Elt F)) (i : grid0.Coords) :
    cc0_transform_1 k0_off1_inb numel1_S1 pf i = ![(pf 0 (ix1 (blockOf i)) : BitVec 32).toNat, 0, 0] := by
  refine Eq.trans (b := ![_, 0, (BitVec.ofNat 32 (i 0).val).toNat]) rfl ?_
  rw [coord0]
  exact congrArg (fun w : BitVec 32 => ![w.toNat, 0, 0]) (table_at pf i)

theorem transform2_eq (pf : pre0.Contents (Elt F)) (i : grid0.Coords) :
    cc0_transform_2 k0_off1_inb numel1_S1 pf i = ![(pf 0 (ix1 (blockOf i)) : BitVec 32).toNat, 0, 0] := by
  refine Eq.trans (b := ![_, 0, (BitVec.ofNat 32 (i 0).val).toNat]) rfl ?_
  rw [coord0]
  exact congrArg (fun w : BitVec 32 => ![w.toNat, 0, 0]) (table_at pf i)

theorem expert_lt {T0 : IVec S160 32} {T1 : IVec S1 32} (h : InRange T0 T1) (b : Fin 160) : (T0 (ix1 b)).toNat < 32 := by
  have := toNat_of_range _ (h.low b); have := h.high b; omega

/-- Tables in their ranges are admitted. -/
theorem ok_of_range (pf : pre0.Contents (Elt F)) (h : InRange (pf 0) (pf 1)) : ok0 pf := by
  refine ⟨fun i => ?_, fun i => ?_, fun i => ?_⟩
  · refine ⟨fun x => ?_, .inr (Affine.block_words_dvd (s := S81920x2048) (p := EltTy.packing .bf16) (by decide) (by decide))⟩
    have hc := (clamp (i 1).isLt (pf 1 (ix1 (0 : Fin 1))) h.some).1
    rw [transform0_eq]
    fin_cases x
    · show ((Scalar.minsi (BitVec.ofNat 32 (i 1).val) (Scalar.subi (pf 1 (ix1 (0 : Fin 1))) 1#32)).toNat + 1) * 512 ≤ 81920
      omega
    · show (0 + 1) * 2048 ≤ 2048
      omega
  · refine ⟨fun x => ?_, .inl rfl⟩
    have hc := expert_lt h (blockOf i)
    rw [transform1_eq]
    fin_cases x
    · show (BitVec.toNat (pf 0 (ix1 (blockOf i))) + 1) * 1 ≤ 32
      omega
    · show (0 + 1) * 2048 ≤ 2048
      omega
    · show (0 + 1) * 2048 ≤ 2048
      omega
  · refine ⟨fun x => ?_, .inl rfl⟩
    have hc := expert_lt h (blockOf i)
    rw [transform2_eq]
    fin_cases x
    · show (BitVec.toNat (pf 0 (ix1 (blockOf i))) + 1) * 1 ≤ 32
      omega
    · show (0 + 1) * 1 ≤ 1
      omega
    · show (0 + 1) * 2048 ≤ 2048
      omega

end Cert.Kernel8Ideal.Down

end
-- ==== Proof.TableGather.lean ====
module

public import Idealize.ShloMosaic.PureOps
public import Idealize.ShloMosaic.Lib.Pipeline.ValueKit

/-! # One expert's matrix per row block, read at an entry -/

@[expose] public section

noncomputable section

namespace Cert.TableWords

open Idealize.ShloMosaic

/-- Taking rows of a stack of matrices by a table of indices, one matrix per row block. -/
abbrev takeDims (A B : ℕ) (wf : GatherDims.WF ⟨3, ![32, A, B]⟩ ⟨2, ![160, 1]⟩ ⟨3, ![160, A, B]⟩ [1, 2] [0] [] [0] [] 1 ![1, A, B]) :
    GatherDims ⟨3, ![32, A, B]⟩ ⟨2, ![160, 1]⟩ ⟨3, ![160, A, B]⟩ where
  offsetDims := [1, 2]
  collapsedSliceDims := [0]
  operandBatchingDims := []
  startIndicesBatchingDims := []
  startIndexMap := [0]
  indexVectorDim := 1
  sliceSizes := ![1, A, B]
  wf := wf

theorem take_at {α : Type} (A B : ℕ) (wf) (x : (⟨3, ![32, A, B]⟩ : Shape).Idx → α) (idx : IVec ⟨2, ![160, 1]⟩ 32)
    (b : Fin 160) (r : Fin A) (k : Fin B) (n : Fin 32) (hn : (idx (ix2 b (0 : Fin 1))).toInt = n.val) :
    Host.gather (takeDims A B wf) x idx (ix3 b r k) = x (ix3 n r k) := by
  refine congrArg x (funext fun a => ?_)
  fin_cases a
  · refine Fin.ext ?_
    refine Eq.trans (b := min (idx (ix2 b (0 : Fin 1))).toInt.toNat (32 - 1) + 0 + 0) ?_ ?_
    · refine congrArg (fun w : BitVec 32 => min w.toInt.toNat (32 - 1) + 0 + 0) (congrArg idx (funext fun e => ?_))
      fin_cases e <;> rfl
    · rw [hn]
      have := n.isLt
      show min n.val 31 + 0 + 0 = n.val
      omega
  · refine Fin.ext ?_
    show 0 + 0 + r.val = r.val
    omega
  · refine Fin.ext ?_
    show 0 + 0 + k.val = k.val
    omega

end Cert.TableWords

end
-- ==== Proof.DownRef.lean ====
module

public import proofs.«01_k».proof.Proof.Gen.Reference8Ideal.Run
public import proofs.«01_k».proof.Proof.TableGather
public import proofs.«01_k».proof.Proof.TableWords
public import Idealize.ShloMosaic.Lib.Pipeline.ValueKit

/-! # The experts' second product: the reference's array at an entry -/

@[expose] public section

set_option maxRecDepth 16384

noncomputable section

open Idealize.ShloMosaic Idealize.ShloMosaic.TcCoe Idealize.SL.Sem

namespace Cert.Reference8Ideal.Down

open Cert.Reference8Ideal Cert.Reference8Ideal.Gen Cert.TableWords

variable (T0 : IVec S160 32) (T1 : IVec S1 32) (H : FVec Ideal S81920x2048 .bf16) (W : FVec Ideal S32x2048x2048 .f32)
  (B : FVec Ideal S32x1x2048 .f32)

/-- The table of experts as the reference indexes by it. -/
abbrev taken : IVec S160x1 32 :=
  broadcastInDim S160x1 ![0] bcast_S160_S160x1_0 (select (cmpi .slt T0 (broadcastInDim S160 ![] bcast_S_S160 (constantI S_ 32 0#32)))
    (addi T0 (broadcastInDim S160 ![] bcast_S_S160 (constantI S_ 32 32#32))) T0)

/-- One matrix, and one bias row, per row block. -/
def mats : FVec Ideal S160x2048x2048 .f32 :=
  Host.gather gather_S32x2048x2048_S160x1_S160x2048x2048_12_0_n_n_0_1_120482048 W (taken T0)
def rows : FVec Ideal S160x1x2048 .f32 :=
  Host.gather gather_S32x1x2048_S160x1_S160x1x2048_12_0_n_n_0_1_112048 B (taken T0)

/-- The reference's term. -/
abbrev REF : FVec Ideal S81920x2048 .f32 :=
  shapeCast S81920x2048 (select (broadcastInDim S160x512x2048 ![0, 1, 2] bcast_S160x1x1_S160x512x2048_0_1_2
      (broadcastInDim S160x1x1 ![0] bcast_S160_S160x1x1_0 (cmpi .slt (iotaInDim S160 32 0) (broadcastInDim S160 ![0] bcast_S1_S160_0 T1))))
    (addf (Host.dotGeneral dot_S160x512x2048_S160x2048x2048_S160x512x2048_2_1_1_2_0_0 none
        (extf .f32 (shapeCast S160x512x2048 H shapeCasts_S81920x2048_S160x512x2048) bitsLt_bf16_f32) (mats T0 W))
      (broadcastInDim S160x512x2048 ![0, 1, 2] bcast_S160x1x2048_S160x512x2048_0_1_2 (rows T0 B)))
    (broadcastInDim S160x512x2048 ![] bcast_S_S160x512x2048 (id (constant S_ .f32 0x00000000#32)))) shapeCasts_S160x512x2048_S81920x2048

/-- An expert that there is, is taken as the table names it. -/
theorem taken_at (b : Fin 160) (h : 0 ≤ (T0 (ix1 b)).toInt) : taken T0 (ix2 b (0 : Fin 1)) = T0 (ix1 b) := by
  have hz : ¬IntOp.cmpi .slt (T0 (ix1 b)) 0#32 = 1#1 := fun e => absurd ((lt_iff _ _).mp e) (by
    show ¬_ < (0 : ℤ); omega)
  pointwise [taken]
  exact if_neg hz

variable {n : Fin 32} {b : Fin 160} (hn : (T0 (ix1 b)).toInt = n.val)
include hn

theorem mats_at (k C : Fin 2048) : mats T0 W (ix3 b k C) = W (ix3 n k C) :=
  take_at 2048 2048 _ W (taken T0) b k C n (by rw [taken_at T0 b (by omega)]; exact hn)

theorem rows_at (C : Fin 2048) : rows T0 B (ix3 b (0 : Fin 1) C) = B (ix3 n (0 : Fin 1) C) :=
  take_at 1 2048 _ B (taken T0) b 0 C n (by rw [taken_at T0 b (by omega)]; exact hn)

/-- The reference's array at an entry of a block of rows. -/
theorem ref_at (r : Fin 512) (C : Fin 2048) : REF T0 T1 H W B (ix2 ⟨b.val * 512 + r.val, by omega⟩ C)
    = if (b.val : ℤ) < (T1 (ix1 (0 : Fin 1))).toInt
      then (∑ k : Fin 2048, H (ix2 ⟨b.val * 512 + r.val, by omega⟩ k) * W (ix3 n k C)) + B (ix3 n (0 : Fin 1) C) else 0 := by
  have hm := mats_at T0 W hn
  have hr := rows_at T0 B hn
  unfold REF
  generalize mats T0 W = M at hm ⊢
  generalize rows T0 B = R at hr ⊢
  pointwise []
  have hw : IntOp.cmpi .slt (BitVec.ofNat 32 b.val) (T1 (ix1 (0 : Fin 1))) = 1#1 ↔ (b.val : ℤ) < (T1 (ix1 (0 : Fin 1))).toInt := by
    rw [← ofNat_toInt b.isLt]; exact lt_iff _ _
  simp only [hm, hr]
  by_cases h : (b.val : ℤ) < (T1 (ix1 (0 : Fin 1))).toInt
  · rw [if_pos h]; exact if_pos (hw.mpr h)
  · rw [if_neg h]
    exact (if_neg fun e => h (hw.mp e)).trans (Ideal.ofBits_zero .f32)

end Cert.Reference8Ideal.Down

end
-- ==== Proof.DownValue.lean ====
module

public import proofs.«01_k».proof.Proof.DownFrame
public import proofs.«01_k».proof.Proof.DownTables
public import proofs.«01_k».proof.Proof.DownRef

/-! # The experts' second product: the result array is the reference's -/

@[expose] public section

set_option maxRecDepth 16384

noncomputable section

open Idealize.ShloMosaic Idealize.ShloMosaic.TcCoe Idealize.SL.Sem
open Idealize.ShloMosaic.Pipeline (Dat)

namespace Cert.Kernel8Ideal.Down

open Cert.Kernel8Ideal Cert.Kernel8Ideal.Gen

section
variable {F : FTy → Type} [FloatOps F] (a : (pcfg0 (F := F)).Adm)

/-- A point's block is its position. -/
theorem coord1 : ∀ t : Fin grid0.N, (grid0.coords t 1).val = t.val := by decide +kernel

theorem lt160 (t : Fin (cfgA a).N) : t.val < 160 := lt_of_lt_of_eq t.isLt N_0

/-- A point's block, as a row block of the tables. -/
abbrev at160 (t : Fin (cfgA a).N) : Fin 160 := ⟨t.val, lt160 a t⟩

theorem blockOf_crd (t : Fin (cfgA a).N) : blockOf (crd a t) = at160 a t := Fin.ext (coord1 t)

theorem used_at (t : Fin (cfgA a).N) : Used (crd a t) (count a) ↔ (t.val : ℤ) < (count a (ix1 (0 : Fin 1)) : BitVec 32).toInt := by
  refine (used_iff _ _).trans ?_
  rw [usedCount_eq]
  exact iff_of_eq (congrArg (fun x : ℕ => (x : ℤ) < (count a (ix1 (0 : Fin 1)) : BitVec 32).toInt) (coord1 t))

/-- The first point is fresh where a block is used. -/
theorem first_fresh (h : InRange (experts a) (count a)) : FirstFresh a :=
  (fresh_iff _ _ _).mpr ⟨.inl (coord1 _), (used_at a _).mpr (by have := h.some; show ((0 : ℕ) : ℤ) < _; omega)⟩

/-! ## The blocks a point takes up -/

theorem index1 (t : Fin (cfgA a).N) : ((cfgA a).win (1 : Fin 4)).index t = ![(experts a (ix1 (at160 a t)) : BitVec 32).toNat, 0, 0] :=
  (transform1_eq a.1 (crd a t)).trans (by rw [blockOf_crd])
theorem index2 (t : Fin (cfgA a).N) : ((cfgA a).win (2 : Fin 4)).index t = ![(experts a (ix1 (at160 a t)) : BitVec 32).toNat, 0, 0] :=
  (transform2_eq a.1 (crd a t)).trans (by rw [blockOf_crd])
theorem index3 (t : Fin (cfgA a).N) : ((cfgA a).win (3 : Fin 4)).index t = ![t.val, 0] := by
  have h := lt160 a t
  refine Eq.trans (b := ![(BitVec.ofNat 32 (grid0.coords t 1).val).toNat, (BitVec.ofNat 32 (grid0.coords t 0).val).toNat]) rfl ?_
  rw [coord1, coord0, BitVec.toNat_ofNat, Nat.mod_eq_of_lt (by omega)]; rfl
theorem index0 (h : InRange (experts a) (count a)) (t : Fin (cfgA a).N) (hu : Used (crd a t) (count a)) :
    ((cfgA a).win (0 : Fin 4)).index t = ![t.val, 0] := by
  have e := (clamp (lt160 a t) (count a (ix1 (0 : Fin 1))) h.some).2 ((used_at a t).mp hu)
  refine (transform0_eq a.1 (crd a t)).trans ?_
  rw [coord1]
  exact congrArg (fun n => ![n, 0]) e

end

variable (a : (pcfg0 (F := Ideal)).Adm) (m : (ℓ : Loc nD τ sig) → Buf (Elt Ideal) ℓ)

theorem matrix_at (c : Dev nD) (t : Fin (cfgA a).N) (n : Fin 32) (hn : (experts a (ix1 (at160 a t)) : BitVec 32).toNat = n.val)
    (k C : Fin 2048) : iblk a m c (1 : Fin 4) t (ix3 (0 : Fin 1) k C) = m ((c : Thread nD τ).loc main_arg3) (ix3 n k C) := by
  blk_ext [iblk, index1 a t, hn]

theorem bias_at (c : Dev nD) (t : Fin (cfgA a).N) (n : Fin 32) (hn : (experts a (ix1 (at160 a t)) : BitVec 32).toNat = n.val)
    (C : Fin 2048) : iblk a m c (2 : Fin 4) t (ix3 (0 : Fin 1) (0 : Fin 1) C) = m ((c : Thread nD τ).loc main_arg4) (ix3 n (0 : Fin 1) C) := by
  blk_ext [iblk, index2 a t, hn]

theorem acts_at (h : InRange (experts a) (count a)) (c : Dev nD) (t : Fin (cfgA a).N) (hu : Used (crd a t) (count a)) (r : Fin 512) (k : Fin 2048) :
    iblk a m c (0 : Fin 4) t (ix2 r k) = m ((c : Thread nD τ).loc main_arg2) (ix2 ⟨t.val * 512 + r.val, by have := lt160 a t; omega⟩ k) := by
  blk_ext [iblk, index0 a h t hu]

/-! ## The scratch and the result -/

/-- At a used point the scratch holds the point's own expert's matrix. -/
theorem mat_used (h : InRange (experts a) (count a)) (c : Dev nD) (t : Fin (cfgA a).N) (hu : Used (crd a t) (count a)) :
    mat a m c (t.val + 1) = k0_pay1 (iblk a m c (1 : Fin 4) t) := by
  obtain ⟨n, hlt⟩ := t
  induction n with
  | zero =>
    exact mat_fresh a m c ⟨0, hlt⟩ (first_fresh a h)
  | succ n ih =>
    by_cases hf : Fresh (crd a ⟨n + 1, hlt⟩) (experts a) (count a)
    · exact mat_fresh a m c ⟨n + 1, hlt⟩ hf
    · have h160 : n + 1 < 160 := lt160 a ⟨n + 1, hlt⟩
      have hn : n < (cfgA a).N := Nat.lt_of_succ_lt hlt
      have same : expertAt (crd a ⟨n + 1, hlt⟩) (experts a) = expertBefore (crd a ⟨n + 1, hlt⟩) (experts a) := by
        by_contra hne
        exact hf ((fresh_iff _ _ _).mpr ⟨.inr hne, hu⟩)
      rw [expertAt_eq, expertBefore_eq _ _ ⟨n, by omega⟩ (coord1 _), blockOf_crd] at same
      have hu' : Used (crd a ⟨n, hn⟩) (count a) := (used_at a _).mpr (by
        have := (used_at a _).mp hu
        simp only at this ⊢
        omega)
      refine (mat_same a m c ⟨n + 1, hlt⟩ hf).trans ((ih hn hu').trans (congrArg k0_pay1 (funext fun y => ?_)))
      have e1 : (experts a (ix1 (at160 a ⟨n + 1, hlt⟩)) : BitVec 32).toNat < 32 := expert_lt h _
      idx_vars y
      have y0e : y0 = 0 := Subsingleton.elim _ _
      subst y0e
      rw [matrix_at a m c ⟨n + 1, hlt⟩ ⟨_, e1⟩ rfl]
      exact matrix_at a m c ⟨n, hn⟩ ⟨_, e1⟩ (congrArg BitVec.toNat same.symm) _ _

/-- The float arguments, at their types. -/
abbrev acts (c : Dev nD) : FVec Ideal S81920x2048 .bf16 := m ((c : Thread nD τ).loc main_arg2)
abbrev stacked (c : Dev nD) : FVec Ideal S32x2048x2048 .f32 := m ((c : Thread nD τ).loc main_arg3)
abbrev biases (c : Dev nD) : FVec Ideal S32x1x2048 .f32 := m ((c : Thread nD τ).loc main_arg4)

/-- What a used point stores at an entry of its block. -/
theorem used_point (h : InRange (experts a) (count a)) (c : Dev nD) (t : Fin (cfgA a).N) (hu : Used (crd a t) (count a)) (n : Fin 32)
    (hn : (experts a (ix1 (at160 a t)) : BitVec 32).toNat = n.val) (r : Fin 512) (C : Fin 2048) : res a m c t (ix2 r C)
      = (∑ k : Fin 2048, acts m c (ix2 ⟨t.val * 512 + r.val, by have := lt160 a t; omega⟩ k) * stacked m c (ix3 n k C))
        + biases m c (ix3 n (0 : Fin 1) C) := by
  rw [res_used a m c t hu, mat_used a m h c t hu]
  have hm := matrix_at a m c t n hn
  have hb := bias_at a m c t n hn
  have hx := acts_at a m h c t hu
  generalize iblk a m c (1 : Fin 4) t = M at hm ⊢
  generalize iblk a m c (2 : Fin 4) t = B at hb ⊢
  generalize iblk a m c (0 : Fin 4) t = X at hx ⊢
  pointwise [k0_pay1, k0_pay2]
  simp only [hm, hb, hx]

/-- A point past the used blocks stores zeros. -/
theorem past_point (c : Dev nD) (t : Fin (cfgA a).N) (hu : ¬Used (crd a t) (count a)) (r : Fin 512) (C : Fin 2048) :
    res a m c t (ix2 r C) = (0 : EReal) := by
  rw [res_past a m c t hu]
  pointwise [k0_pay3]

/-- Some tables: every row block of the first expert, one of them used. -/
def plain : (pcfg0 (F := Ideal)).Adm :=
  ⟨fun | 0 => fun _ => (0#32 : BitVec 32) | 1 => fun _ => (1#32 : BitVec 32),
    ok_of_range _ ⟨fun _ => (by decide : 0 ≤ (0#32).toInt), fun _ => (by decide : (0#32).toInt < 32), (by decide : 1 ≤ (1#32).toInt)⟩⟩

theorem covers_plain : ((cfgA plain).win (3 : Fin 4)).Covers := by decide +kernel

/-- The result's blocks are written one by one, and are all of its rows. -/
theorem covers : ((cfgA a).win (3 : Fin 4)).Covers := covers_plain

/-- The result array after the run. -/
theorem final (h : InRange (experts a) (count a)) (ha : ∀ (c : Dev nD) (j : Fin 2), m ((c : Thread nD τ).loc (pre0.ref j)) = a.1 j) (c : Dev nD) :
    (dats a m 0 c).arrAt (3 : Fin 4) (cfgA a).N
      = Cert.Reference8Ideal.Down.REF (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats a m 0 c).arrAt_eq_of_covers (3 : Fin 4) _ (covers a) fun t _ y => ?_
  blk_simp
  rw [after3]
  idx_vars y
  have hlt := lt160 a t
  have he : (experts a (ix1 (at160 a t)) : BitVec 32).toNat < 32 := expert_lt h _
  have hi : (experts a (ix1 (at160 a t)) : BitVec 32).toInt = ((experts a (ix1 (at160 a t)) : BitVec 32).toNat : ℤ) :=
    (toNat_of_range _ (h.low _)).symm
  rw [show m ((c : Thread nD τ).loc main_arg0) = experts a from ha c 0, show m ((c : Thread nD τ).loc main_arg1) = count a from ha c 1]
  refine Eq.trans ?_ ((Cert.Reference8Ideal.Down.ref_at (experts a) (count a) (m ((c : Thread nD τ).loc main_arg2)) (m ((c : Thread nD τ).loc main_arg3))
    (m ((c : Thread nD τ).loc main_arg4)) (n := ⟨_, he⟩) (b := at160 a t) hi y0 y1).symm.trans (congrArg _ ?_))
  · by_cases hu : Used (crd a t) (count a)
    · rw [used_point a m h c t hu ⟨_, he⟩ rfl]
      exact (if_pos ((used_at a t).mp hu)).symm
    · rw [past_point a m c t hu]
      exact (if_neg fun e => hu ((used_at a t).mpr e)).symm
  · blk_ext [index3 a t]

end Cert.Kernel8Ideal.Down

end
-- ==== Proof.DownClaim.lean ====
module

public import proofs.«01_k».proof.Defs
public import proofs.«01_k».proof.Proof.DownValue
public import proofs.«01_k».proof.Proof.Gen.Kernel8
public import proofs.«01_k».proof.Proof.Gen.Kernel8.Launch
public import Idealize.ShloMosaic.Lib.Claim
public import Idealize.ShloMosaic.Lib.Ring

/-! # The experts' second product computes its reference's array -/

@[expose] public section

set_option maxRecDepth 16384

noncomputable section

open Idealize.ShloMosaic Idealize.ShloMosaic.TcCoe Idealize.ShloMosaic.Tactic Idealize.SL.Sem

namespace Cert.Kernel8Ideal.Down

open Cert.Kernel8Ideal Cert.Kernel8Ideal.Gen

variable {F : FTy → Type} [FloatOps F]

/-- The precondition of a memory, at any floats. -/
abbrev Admits (m : (ℓ : Loc nD τ sig) → Buf (Elt F) ℓ) : Prop := ∀ c : Dev nD,
  Cert.Pre_moe_down_tables.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1

/-- Its tables, which are then in range. -/
theorem tables_of (m : (ℓ : Loc nD τ sig) → Buf (Elt F) ℓ) (h : Admits m) : ∃ a : (pcfg0 (F := F)).Adm,
    InRange (experts a) (count a) ∧ ∀ (c : Dev nD) (j : Fin 2), m ((c : Thread nD τ).loc (pre0.ref j)) = a.1 j := by
  have hr := inRange _ _ _ _ _ (congrFun (h 0) Idealize.ShloMosaic.ix0)
  refine ⟨⟨fun j => m (((0 : Dev nD) : Thread nD τ).loc (pre0.ref j)), ok_of_range _ hr⟩, hr, fun c j => ?_⟩
  rw [show c = 0 from Subsingleton.elim _ _]

theorem frame_any (m : (ℓ : Loc nD τ sig) → Buf (Elt F) ℓ) (ρ : Dev nD → PrngReg) (h : Admits m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  obtain ⟨a, hr, ha⟩ := tables_of m h
  exact (θ_run defs _ _).mono (fun _ h => ⟨fun c => (h.1 c).1, h.2⟩) (run_kept a m ρ (first_fresh a hr) ha)

/-- The result, with the arguments unchanged. -/
theorem run_value (m : (ℓ : Loc nD τ sig) → Buf (Elt Ideal) ℓ) (ρ : Dev nD → PrngReg) (h : Admits m) :
    θ_run (defs (F := Ideal)) (onTc (τ := τ) (main (F := Ideal))) ⟨m, fun _ => 0, ρ⟩ (fun r => ∀ c : Dev nD,
      r.2.mem ((c.tc : Thread nD τ).loc main_v0) = Cert.Reference8Ideal.Down.REF (m ((c : Thread nD τ).loc main_arg0))
        (m ((c : Thread nD τ).loc main_arg1)) (m ((c : Thread nD τ).loc main_arg2)) (m ((c : Thread nD τ).loc main_arg3))
        (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  obtain ⟨a, hr, ha⟩ := tables_of m h
  exact (θ_run defs _ _).mono (fun _ h c => ⟨(h.1 c).2.trans (final a m hr ha c), (h.1 c).1⟩) (run_kept a m ρ (first_fresh a hr) ha)

end Cert.Kernel8Ideal.Down

namespace Cert.Proof

instance : Cert.Kernel8.Facts := Cert.Kernel8.Gen.facts
instance : Cert.Kernel8Ideal.Facts := Cert.Kernel8Ideal.Gen.facts
instance : Cert.Pre_moe_down_tables.Facts := Cert.Pre_moe_down_tables.Gen.facts

/-- The kernel's frame, said of the idealized text at the machine's floats: the two texts are one. -/
def Frame8AtBits : Prop :=
  ∀ (m : (ℓ : Loc Cert.Kernel8Ideal.nD Cert.Kernel8Ideal.τ Cert.Kernel8Ideal.sig) → Buf (Elt Bits) ℓ) (g : Dev Cert.Kernel8Ideal.nD → PrngReg),
    Cert.Kernel8Ideal.Down.Admits m →
    θ_run (Cert.Kernel8Ideal.defs (F := Bits)) (onTc (τ := Cert.Kernel8Ideal.τ) (Cert.Kernel8Ideal.main (F := Bits))) ⟨m, fun _ => 0, g⟩
      (fun r => (∀ c : Dev Cert.Kernel8Ideal.nD,
        r.2.mem (c.tc.loc Cert.Kernel8Ideal.main_arg0) = m (c.tc.loc Cert.Kernel8Ideal.main_arg0)
        ∧ r.2.mem (c.tc.loc Cert.Kernel8Ideal.main_arg1) = m (c.tc.loc Cert.Kernel8Ideal.main_arg1)
        ∧ r.2.mem (c.tc.loc Cert.Kernel8Ideal.main_arg2) = m (c.tc.loc Cert.Kernel8Ideal.main_arg2)
        ∧ r.2.mem (c.tc.loc Cert.Kernel8Ideal.main_arg3) = m (c.tc.loc Cert.Kernel8Ideal.main_arg3)
        ∧ r.2.mem (c.tc.loc Cert.Kernel8Ideal.main_arg4) = m (c.tc.loc Cert.Kernel8Ideal.main_arg4))
        ∧ r.2.sem = fun _ => 0)

set_option maxRecDepth 65536 in
theorem frame8_eq : Cert.quiescent_Kernel8 = Frame8AtBits := by sl_kernel_rfl

theorem frame8 : Cert.quiescent_Kernel8 (hKernel8 := Cert.Kernel8.Gen.facts) (hPre_moe_down_tables := Cert.Pre_moe_down_tables.Gen.facts) :=
  frame8_eq.mpr fun m g h => Cert.Kernel8Ideal.Down.frame_any m g h

theorem frame8Ideal : Cert.quiescent_Kernel8Ideal (hKernel8Ideal := Cert.Kernel8Ideal.Gen.facts)
    (hPre_moe_down_tables := Cert.Pre_moe_down_tables.Gen.facts) :=
  fun m g h => Cert.Kernel8Ideal.Down.frame_any m g h

/-- The experts' second product and its reference compute the same array, from tables in range. -/
theorem algebraic8 : Cert.algebraic_Kernel8Ideal_Reference8Ideal
    (hKernel8Ideal := Cert.Kernel8Ideal.Gen.facts)
    (hReference8Ideal := Cert.Reference8Ideal.Gen.facts)
    (hPre_moe_down_tables := Cert.Pre_moe_down_tables.Gen.facts) := by
  pair_intro
  · run_from Cert.Kernel8Ideal.Down.run_value m g hpre
  · run_from Cert.Reference8Ideal.Value.run m' g'
    rfl

end Cert.Proof

end
-- ==== Proof.UpRun.lean ====
module

public import proofs.«01_k».proof.Proof.Gen.Kernel7Ideal.Launch
public import proofs.«01_k».proof.Proof.Gen.Kernel7Ideal.Skeleton
public import Idealize.ShloMosaic.Lib.Pipeline.Kit
public import Idealize.ShloMosaic.Lib.Pipeline.FrameBody
public import Idealize.ShloMosaic.Lib.Pipeline.ValueKit
public import Idealize.ShloMosaic.Lib.Pipeline.ValueKit.Acc
public import Idealize.ShloMosaic.Lib.Pipeline.ReadBack
public import Idealize.ShloMosaic.Lib.Writes
public import Idealize.ShloMosaic.Lib.Exec
public import Idealize.ShloMosaic.Lib.Tactic
public import Idealize.ShloMosaic.Adequacy
public import Idealize.ShloMosaic.Init

/-! # The experts' first product: the body's three ways, run once each over any table words -/

@[expose] public section

set_option maxRecDepth 16384
set_option Elab.async false

noncomputable section

namespace Cert.Kernel7Ideal.Up

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The separation algebra of the machine these programs run on. -/
abbrev Mach (F : FTy → Type) [FloatOps F] := MT nD τ sig Unit (Elt F) ℕ (UR sig nD τ) ℕ

/-- The table of the row blocks' experts, the number of used row blocks, the scratch for the two slices of an
expert's matrix: the gate's and the linear part's. -/
abbrev expertsRef : Memref sig .tc .smem S160 .i32 := Memref.whole main_arg0
abbrev usedRef : Memref sig .tc .smem S1 .i32 := Memref.whole main_arg1
abbrev gateRef : Memref sig .tc .vmem S2048x1024 .bf16 := Memref.whole cc0_scratch0
abbrev linRef : Memref sig .tc .vmem S2048x1024 .bf16 := Memref.whole cc0_scratch1

/-- The words the body reads at a point: its block's expert, the block before's, the number of used blocks. -/
abbrev expertAt (i : grid0.Coords) (T0 : S160.Idx → Elt F .i32) : BitVec 32 :=
  View.readAt (Elt F) expertsRef.view (Rect.unit (s := S160) (k0_off1 i) S1.size (k0_off1_inb i)).toLoadRect T0 (Shape.Idx.first (numel1_S1.symm ▸ Nat.one_pos))
abbrev expertBefore (i : grid0.Coords) (T0 : S160.Idx → Elt F .i32) : BitVec 32 :=
  View.readAt (Elt F) expertsRef.view (Rect.unit (s := S160) (k0_off2 i) S1.size (k0_off2_inb i)).toLoadRect T0 (Shape.Idx.first (numel1_S1.symm ▸ Nat.one_pos))
abbrev usedCount (T1 : S1.Idx → Elt F .i32) : BitVec 32 :=
  View.readAt (Elt F) usedRef.view (Rect.unit (s := S1) ![0] S1.size inb_S1_S1_0).toLoadRect T1 (Shape.Idx.first (numel1_S1.symm ▸ Nat.one_pos))

/-- The point takes up a new expert's matrix. -/
abbrev Fresh (i : grid0.Coords) (T0 : S160.Idx → Elt F .i32) (T1 : S1.Idx → Elt F .i32) : Prop :=
  Scalar.cmpi .ne (Scalar.extui (Scalar.andi (Scalar.ori (Scalar.cmpi .eq (BitVec.ofNat 32 (i 1).val) 0#32)
    (Scalar.cmpi .ne (expertAt i T0) (expertBefore i T0))) (Scalar.cmpi .slt (BitVec.ofNat 32 (i 1).val) (usedCount T1)))) 0#32 = 1#1
/-- The point's block is used; it is past the used ones. -/
abbrev Used (i : grid0.Coords) (T1 : S1.Idx → Elt F .i32) : Prop := k0_cond2 i (usedCount T1) = 1#1
abbrev Past (i : grid0.Coords) (T1 : S1.Idx → Elt F .i32) : Prop := k0_cond3 i (usedCount T1) = 1#1

/-- A point's staging buffers: the rows, the two slices of the matrix, of the bias, and the result. -/
structure Stage where
  x : Memref sig .tc .vmem S512x2048 .f32
  hx : x.IsWhole
  wg : Memref sig .tc .vmem S1x2048x1024 .f32
  hwg : wg.IsWhole
  wl : Memref sig .tc .vmem S1x2048x1024 .f32
  hwl : wl.IsWhole
  bg : Memref sig .tc .vmem S1x1x1024 .f32
  hbg : bg.IsWhole
  bl : Memref sig .tc .vmem S1x1x1024 .f32
  hbl : bl.IsWhole
  h : Memref sig .tc .vmem S512x1024 .bf16
  hh : h.IsWhole

/-- What a run starts from and ends in: the staged blocks, the tables, the result block and the scratch. -/
abbrev Held (c : Dev nD) (s : Stage) (T0 : S160.Idx → Elt F .i32) (T1 : S1.Idx → Elt F .i32)
    (x0 : Vec F S512x2048 .f32) (x1 x2 : Vec F S1x2048x1024 .f32) (x3 x4 : Vec F S1x1x1024 .f32) (O S S' : sProp (Mach F)) : sProp (Mach F) :=
  iprop(owns (c : Thread nD τ) s.x fullShare x0 ∗ owns (c : Thread nD τ) s.wg fullShare x1 ∗ owns (c : Thread nD τ) s.wl fullShare x2
    ∗ owns (c : Thread nD τ) s.bg fullShare x3 ∗ owns (c : Thread nD τ) s.bl fullShare x4
    ∗ (expertsRef.view.loc (c : Thread nD τ) ↦{fullShare.right} T0) ∗ (usedRef.view.loc (c : Thread nD τ) ↦{fullShare.right} T1)
    ∗ O ∗ S ∗ S')

/-- The body at a point, on any staging buffers. -/
abbrev bodyOn (i : grid0.Coords) (s : Stage) : Prog (TpuEff nD τ sig (Elt F) Λ₀ .tc) PUnit :=
  cc0_moe_up i expertsRef (Memref.isWhole_whole _) usedRef (Memref.isWhole_whole _) s.x s.hx s.wg s.hwg s.wl s.hwl s.bg s.hbg s.bl s.hbl s.h s.hh
    gateRef (Memref.isWhole_whole _) linRef (Memref.isWhole_whole _)

set_option backward.proofsInPublic true in
set_option maxHeartbeats 8000000 in
/-- A used block of a new expert: the scratch takes the two slices of the expert's matrix, the result is computed with them. -/
theorem run_fresh (c : Dev nD) (i : grid0.Coords) (s : Stage) (T0 : S160.Idx → Elt F .i32) (T1 : S1.Idx → Elt F .i32)
    (x0 : Vec F S512x2048 .f32) (x1 x2 : Vec F S1x2048x1024 .f32) (x3 x4 : Vec F S1x1x1024 .f32)
    (h1 : Fresh i T0 T1) (h2 : Used i T1) (h3 : ¬Past i T1) (K : PUnit → sProp (Mach F)) :
    iprop(Held c s T0 T1 x0 x1 x2 x3 x4 iprop(∃ d, owns (c : Thread nD τ) s.h fullShare d) (iprop(∃ d, owns (c : Thread nD τ) gateRef fullShare d)) (iprop(∃ d, owns (c : Thread nD τ) linRef fullShare d))
      ∗ (Held c s T0 T1 x0 x1 x2 x3 x4 (owns (c : Thread nD τ) s.h fullShare (k0_pay4 x0 (k0_pay1 x1) x3 (k0_pay2 x2) x4))
        (owns (c : Thread nD τ) gateRef fullShare (k0_pay1 x1)) (owns (c : Thread nD τ) linRef fullShare (k0_pay2 x2)) -∗ K ⟨⟩))
      ⊢ wp frame (wpE (defs₀ (F := F)) Variants.none c none) Set.univ (bodyOn i s) K := by
  unfold bodyOn
  simp only [cc0_moe_up_eq_skeleton]; unfold cc0_moe_up_skel
  simp only [k0_part1_eq_skeleton]; unfold k0_part1_skel
  obtain ⟨ax, hx, awg, hwg, awl, hwl, abg, hbg, abl, hbl, ah, hh⟩ := s
  have hS : gateRef.IsWhole := Memref.isWhole_whole _
  have hS' : linRef.IsWhole := Memref.isWhole_whole _
  have hT0 : expertsRef.IsWhole := Memref.isWhole_whole _
  have hT1 : usedRef.IsWhole := Memref.isWhole_whole _
  unfold Held owns
  iintro ⟨⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%d6, %f6, -, H6⟩, ⟨%d7, %f7, -, H7⟩⟩, Hk⟩
  obtain rfl := hx.eq_unread hf0; obtain rfl := hwg.eq_unread hf1; obtain rfl := hwl.eq_unread hf2
  obtain rfl := hbg.eq_unread hf3; obtain rfl := hbl.eq_unread hf4
  sl_exec! (disch := first | (guard_target = Scalar.cmpi = _; exact h1) | (guard_target = k0_cond2 _ _ = _; exact h2) | (guard_target = ¬(k0_cond3 _ _ = _); exact h3))
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HT0]; · iexact HT0
  isplitl [HT1]; · iexact HT1
  isplitl [H5]
  · iexists _; isplitr; swap
    · iexact H5
    ipureintro
    frame_out
  isplitl [H6]
  · iexists _; isplitr; swap
    · iexact H6
    ipureintro
    frame_out
  iexists _; isplitr; swap
  · iexact H7
  ipureintro
  frame_out

set_option backward.proofsInPublic true in
set_option maxHeartbeats 8000000 in
/-- A used block of the expert before: the result computed with the slices the scratch holds. -/
theorem run_same (c : Dev nD) (i : grid0.Coords) (s : Stage) (T0 : S160.Idx → Elt F .i32) (T1 : S1.Idx → Elt F .i32)
    (x0 : Vec F S512x2048 .f32) (x1 x2 : Vec F S1x2048x1024 .f32) (x3 x4 : Vec F S1x1x1024 .f32) (y z : Vec F S2048x1024 .bf16)
    (h1 : ¬Fresh i T0 T1) (h2 : Used i T1) (h3 : ¬Past i T1) (K : PUnit → sProp (Mach F)) :
    iprop(Held c s T0 T1 x0 x1 x2 x3 x4 iprop(∃ d, owns (c : Thread nD τ) s.h fullShare d) (owns (c : Thread nD τ) gateRef fullShare (y)) (owns (c : Thread nD τ) linRef fullShare (z))
      ∗ (Held c s T0 T1 x0 x1 x2 x3 x4 (owns (c : Thread nD τ) s.h fullShare (k0_pay4 x0 y x3 z x4))
        (owns (c : Thread nD τ) gateRef fullShare (y)) (owns (c : Thread nD τ) linRef fullShare (z)) -∗ K ⟨⟩))
      ⊢ wp frame (wpE (defs₀ (F := F)) Variants.none c none) Set.univ (bodyOn i s) K := by
  unfold bodyOn
  simp only [cc0_moe_up_eq_skeleton]; unfold cc0_moe_up_skel
  simp only [k0_part1_eq_skeleton]; unfold k0_part1_skel
  obtain ⟨ax, hx, awg, hwg, awl, hwl, abg, hbg, abl, hbl, ah, hh⟩ := s
  have hS : gateRef.IsWhole := Memref.isWhole_whole _
  have hS' : linRef.IsWhole := Memref.isWhole_whole _
  have hT0 : expertsRef.IsWhole := Memref.isWhole_whole _
  have hT1 : usedRef.IsWhole := Memref.isWhole_whole _
  unfold Held owns
  iintro ⟨⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%f6, %hf6, H6⟩, ⟨%f7, %hf7, H7⟩⟩, Hk⟩
  obtain rfl := hx.eq_unread hf0; obtain rfl := hwg.eq_unread hf1; obtain rfl := hwl.eq_unread hf2
  obtain rfl := hbg.eq_unread hf3; obtain rfl := hbl.eq_unread hf4
  obtain rfl := hS.eq_unread hf6; obtain rfl := hS'.eq_unread hf7
  sl_exec! (disch := first | (guard_target = ¬(Scalar.cmpi = _); exact h1) | (guard_target = k0_cond2 _ _ = _; exact h2) | (guard_target = ¬(k0_cond3 _ _ = _); exact h3))
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HT0]; · iexact HT0
  isplitl [HT1]; · iexact HT1
  isplitl [H5]
  · iexists _; isplitr; swap
    · iexact H5
    ipureintro
    frame_out
    exact congrArg₂ (fun v w => k0_pay4 x0 v x3 w x4) hf6 hf7
  isplitl [H6]
  · iexists _; isplitr; swap
    · iexact H6
    ipureintro
    exact hf6
  iexists _; isplitr; swap
  · iexact H7
  ipureintro
  exact hf7

set_option backward.proofsInPublic true in
set_option maxHeartbeats 8000000 in
/-- A block past the used ones: zeros, the scratch as it was. -/
theorem run_past (c : Dev nD) (i : grid0.Coords) (s : Stage) (T0 : S160.Idx → Elt F .i32) (T1 : S1.Idx → Elt F .i32)
    (x0 : Vec F S512x2048 .f32) (x1 x2 : Vec F S1x2048x1024 .f32) (x3 x4 : Vec F S1x1x1024 .f32) (y z : Vec F S2048x1024 .bf16)
    (h1 : ¬Fresh i T0 T1) (h2 : ¬Used i T1) (h3 : Past i T1) (K : PUnit → sProp (Mach F)) :
    iprop(Held c s T0 T1 x0 x1 x2 x3 x4 iprop(∃ d, owns (c : Thread nD τ) s.h fullShare d) (owns (c : Thread nD τ) gateRef fullShare (y)) (owns (c : Thread nD τ) linRef fullShare (z))
      ∗ (Held c s T0 T1 x0 x1 x2 x3 x4 (owns (c : Thread nD τ) s.h fullShare (k0_pay3))
        (owns (c : Thread nD τ) gateRef fullShare (y)) (owns (c : Thread nD τ) linRef fullShare (z)) -∗ K ⟨⟩))
      ⊢ wp frame (wpE (defs₀ (F := F)) Variants.none c none) Set.univ (bodyOn i s) K := by
  unfold bodyOn
  simp only [cc0_moe_up_eq_skeleton]; unfold cc0_moe_up_skel
  simp only [k0_part1_eq_skeleton]; unfold k0_part1_skel
  obtain ⟨ax, hx, awg, hwg, awl, hwl, abg, hbg, abl, hbl, ah, hh⟩ := s
  have hS : gateRef.IsWhole := Memref.isWhole_whole _
  have hS' : linRef.IsWhole := Memref.isWhole_whole _
  have hT0 : expertsRef.IsWhole := Memref.isWhole_whole _
  have hT1 : usedRef.IsWhole := Memref.isWhole_whole _
  unfold Held owns
  iintro ⟨⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%f6, %hf6, H6⟩, ⟨%f7, %hf7, H7⟩⟩, Hk⟩
  obtain rfl := hx.eq_unread hf0; obtain rfl := hwg.eq_unread hf1; obtain rfl := hwl.eq_unread hf2
  obtain rfl := hbg.eq_unread hf3; obtain rfl := hbl.eq_unread hf4
  obtain rfl := hS.eq_unread hf6; obtain rfl := hS'.eq_unread hf7
  sl_exec! (disch := first | (guard_target = ¬(Scalar.cmpi = _); exact h1) | (guard_target = ¬(k0_cond2 _ _ = _); exact h2) | (guard_target = k0_cond3 _ _ = _; exact h3))
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HT0]; · iexact HT0
  isplitl [HT1]; · iexact HT1
  isplitl [H5]
  · iexists _; isplitr; swap
    · iexact H5
    ipureintro
    frame_out
  isplitl [H6]
  · iexists _; isplitr; swap
    · iexact H6
    ipureintro
    exact hf6
  iexists _; isplitr; swap
  · iexact H7
  ipureintro
  exact hf7

end Cert.Kernel7Ideal.Up

end
-- ==== Proof.UpWords.lean ====
module

public import proofs.«01_k».proof.Proof.UpRun
public import proofs.«01_k».proof.Proof.DownWords

/-! # The experts' first product: the words its body decides by

They are the second product's words of the same row block. -/

@[expose] public section

noncomputable section

namespace Cert.Kernel7Ideal.Up

open Cert.Kernel7Ideal Cert.Kernel7Ideal.Gen Cert.TableWords
open Idealize.ShloMosaic Idealize.ShloMosaic.TcCoe

variable {F : FTy → Type} [FloatOps F]

/-- The row block of a point, as a point of the second product's grid. -/
abbrev row (i : grid0.Coords) : Cert.Kernel8Ideal.grid0.Coords := fun | 0 => (0 : Fin 1) | 1 => (i 1 : Fin 160)

theorem used_iff (i : grid0.Coords) (n : BitVec 32) : k0_cond2 i n = 1#1 ↔ ((i 1).val : ℤ) < n.toInt :=
  Cert.Kernel8Ideal.Down.used_iff (row i) n

/-- A block is past the used ones exactly where it is not used. -/
theorem past_iff (i : grid0.Coords) (n : BitVec 32) : k0_cond3 i n = 1#1 ↔ ¬k0_cond2 i n = 1#1 :=
  Cert.Kernel8Ideal.Down.past_iff (row i) n

/-- A point is fresh where its block is used, and is its column's first or has another expert than the one before. -/
theorem fresh_iff (i : grid0.Coords) (T0 : S160.Idx → Elt F .i32) (T1 : S1.Idx → Elt F .i32) :
    Fresh i T0 T1 ↔ ((i 1).val = 0 ∨ expertAt i T0 ≠ expertBefore i T0) ∧ Used i T1 := by
  rw [show Used i T1 ↔ Scalar.cmpi .slt (BitVec.ofNat 32 (i 1).val) (usedCount T1) = 1#1 from widened_iff _,
    ← ofNat_eq_zero_iff (i 1).isLt, ← eq_iff, ← ne_iff, ← or_iff, ← and_iff]
  exact widened_iff _

end Cert.Kernel7Ideal.Up

end
-- ==== Proof.UpFrame.lean ====
module

public import proofs.«01_k».proof.Proof.UpWords
public import Idealize.ShloMosaic.Lib.Pipeline.TableIdle

/-! # The experts' first product: the pipeline at any tables it admits

The launch, over any contents of the two tables whose blocks lie inside the arrays and whose count of used blocks
is at least one. The matrices and the biases are each handed to two windows, which share the array. -/

@[expose] public section

set_option maxRecDepth 16384
set_option Elab.async false

noncomputable section

namespace Cert.Kernel7Ideal.Up

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

abbrev EP : Emb (UR sig nD τ) (Mach F) := emb₁

variable (a : (pcfg0 (F := F)).Adm)

/-- The tables, at their types. -/
abbrev experts : S160.Idx → Elt F .i32 := a.1 0
abbrev count : S1.Idx → Elt F .i32 := a.1 1

abbrev cfgA : Cfg sig Λ₀ := cfg0 a
abbrev pcs : Fin 1 → Cfg sig Λ₀ := Pipeline.pin (pcfgs (F := F)) fun _ => a
abbrev crd (t : Fin (cfgA a).N) : (cfgA a).grid.Coords := (cfgA a).grid.coords t

theorem N_pos : 0 < (cfgA a).N := lt_of_lt_of_eq (by decide : 0 < 320) N_0.symm

/-- The staging buffers at a point. -/
abbrev ms (t : Fin (cfgA a).N) : Stage where
  x := spec0_0.stage ((cfgA a).slots t (0 : Fin 6))
  hx := hstage0_0 (((cfgA a).slots t (0 : Fin 6)).cast nbuf0_0)
  wg := spec0_1.stage ((cfgA a).slots t (1 : Fin 6))
  hwg := hstage0_1 (((cfgA a).slots t (1 : Fin 6)).cast nbuf0_1)
  wl := spec0_2.stage ((cfgA a).slots t (2 : Fin 6))
  hwl := hstage0_2 (((cfgA a).slots t (2 : Fin 6)).cast nbuf0_2)
  bg := spec0_3.stage ((cfgA a).slots t (3 : Fin 6))
  hbg := hstage0_3 (((cfgA a).slots t (3 : Fin 6)).cast nbuf0_3)
  bl := spec0_4.stage ((cfgA a).slots t (4 : Fin 6))
  hbl := hstage0_4 (((cfgA a).slots t (4 : Fin 6)).cast nbuf0_4)
  h := spec0_5.stage ((cfgA a).slots t (5 : Fin 6))
  hh := hstage0_5 (((cfgA a).slots t (5 : Fin 6)).cast nbuf0_5)

variable (m : (ℓ : Loc nD τ sig) → Buf (Elt F) ℓ) (ρ : Dev nD → PrngReg)

/-- A window's block at a point, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-! ## What the scratch and the result block hold -/

/-- What a scratch that takes `f` at fresh points holds before position `n`. -/
def taken (f : Fin (cfgA a).N → Vec F S2048x1024 .bf16) : ℕ → Vec F S2048x1024 .bf16
  | 0 => f ⟨0, N_pos a⟩
  | n + 1 => if h : n < (cfgA a).N then
      (haveI := Classical.propDecidable (Fresh (crd a ⟨n, h⟩) (experts a) (count a))
       if Fresh (crd a ⟨n, h⟩) (experts a) (count a) then f ⟨n, h⟩ else taken f n)
    else taken f n

theorem taken_fresh (f : Fin (cfgA a).N → Vec F S2048x1024 .bf16) (t : Fin (cfgA a).N) (h : Fresh (crd a t) (experts a) (count a)) :
    taken a f (t.val + 1) = f t := by
  show (if h : t.val < (cfgA a).N then _ else _) = _
  rw [dif_pos t.isLt]; exact if_pos h
theorem taken_same (f : Fin (cfgA a).N → Vec F S2048x1024 .bf16) (t : Fin (cfgA a).N) (h : ¬Fresh (crd a t) (experts a) (count a)) :
    taken a f (t.val + 1) = taken a f t.val := by
  show (if h : t.val < (cfgA a).N then _ else _) = _
  rw [dif_pos t.isLt]; exact if_neg h

/-- The two slices of the matrix in the scratch before position `n`. -/
abbrev gate (c : Dev nD) : ℕ → Vec F S2048x1024 .bf16 := taken a fun t => k0_pay1 (iblk a m c (1 : Fin 6) t)
abbrev lin (c : Dev nD) : ℕ → Vec F S2048x1024 .bf16 := taken a fun t => k0_pay2 (iblk a m c (2 : Fin 6) t)

/-- The result block of a point. -/
def res (c : Dev nD) (t : Fin (cfgA a).N) : Vec F S512x1024 .bf16 :=
  haveI := Classical.propDecidable (Used (crd a t) (count a))
  if Used (crd a t) (count a) then k0_pay4 (iblk a m c (0 : Fin 6) t) (gate a m c (t.val + 1)) (iblk a m c (3 : Fin 6) t)
    (lin a m c (t.val + 1)) (iblk a m c (4 : Fin 6) t) else k0_pay3

theorem res_used (c : Dev nD) (t : Fin (cfgA a).N) (h : Used (crd a t) (count a)) :
    res a m c t = k0_pay4 (iblk a m c (0 : Fin 6) t) (gate a m c (t.val + 1)) (iblk a m c (3 : Fin 6) t)
      (lin a m c (t.val + 1)) (iblk a m c (4 : Fin 6) t) := if_pos h
theorem res_past (c : Dev nD) (t : Fin (cfgA a).N) (h : ¬Used (crd a t) (count a)) : res a m c t = k0_pay3 := if_neg h

/-- What holds between points: the scratch at its slices (anything before the first point), the tables. -/
def Phi (c : Dev nD) (t : Fin ((cfgA a).N + 1)) : sProp (Mach F) :=
  iprop((∃ d, ⌜t.val ≠ 0 → d = gate a m c t.val⌝ ∗ owns (c : Thread nD τ) gateRef fullShare d)
    ∗ (∃ d, ⌜t.val ≠ 0 → d = lin a m c t.val⌝ ∗ owns (c : Thread nD τ) linRef fullShare d)
    ∗ (expertsRef.view.loc (c : Thread nD τ) ↦{fullShare.right} experts a) ∗ (usedRef.view.loc (c : Thread nD τ) ↦{fullShare.right} count a))

/-- The proof data of the pipeline on a core. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 6) t
    | ⟨1, _⟩ => iblk a m c (1 : Fin 6) t
    | ⟨2, _⟩ => iblk a m c (2 : Fin 6) t
    | ⟨3, _⟩ => iblk a m c (3 : Fin 6) t
    | ⟨4, _⟩ => iblk a m c (4 : Fin 6) t
    | ⟨5, _⟩ => res a m c t
  Φ t := Phi a m c t
  q w := Pipeline.shareOf spec0 w
  owed _ := 0

/-- An input's block is left as it was found. -/
theorem after_in (c : Dev nD) (w : Fin 6) (hw : (spec0 w).isOut = false) (t : Fin (cfgA a).N) : (dats a m 0 c).after w t = iblk a m c w t := by
  fin_cases w
  · rfl
  · rfl
  · rfl
  · rfl
  · rfl
  · exact absurd hw (by decide)
theorem after5 (c : Dev nD) (t : Fin (cfgA a).N) : (dats a m 0 c).after (5 : Fin 6) t = res a m c t := rfl

/-- An input's staging buffer holds its block when the body runs. -/
theorem before0 (c : Dev nD) (t : Fin (cfgA a).N) (d) : (dats a m 0 c).before (0 : Fin 6) t d = iblk a m c (0 : Fin 6) t :=
  ((dats a m 0 c).before_in_eq_fetched (0 : Fin 6) rfl (fun _ => rfl) (fun _ _ _ => rfl) (fun t => by rw [after_in a m c 0 rfl]; unfold Dat.blockOf iblk; rfl) t d).trans
    (by unfold Dat.fetched Dat.blockOf iblk; rfl)
theorem before1 (c : Dev nD) (t : Fin (cfgA a).N) (d) : (dats a m 0 c).before (1 : Fin 6) t d = iblk a m c (1 : Fin 6) t :=
  ((dats a m 0 c).before_in_eq_fetched (1 : Fin 6) rfl (fun _ => rfl) (fun _ _ _ => rfl) (fun t => by rw [after_in a m c 1 rfl]; unfold Dat.blockOf iblk; rfl) t d).trans
    (by unfold Dat.fetched Dat.blockOf iblk; rfl)
theorem before2 (c : Dev nD) (t : Fin (cfgA a).N) (d) : (dats a m 0 c).before (2 : Fin 6) t d = iblk a m c (2 : Fin 6) t :=
  ((dats a m 0 c).before_in_eq_fetched (2 : Fin 6) rfl (fun _ => rfl) (fun _ _ _ => rfl) (fun t => by rw [after_in a m c 2 rfl]; unfold Dat.blockOf iblk; rfl) t d).trans
    (by unfold Dat.fetched Dat.blockOf iblk; rfl)
theorem before3 (c : Dev nD) (t : Fin (cfgA a).N) (d) : (dats a m 0 c).before (3 : Fin 6) t d = iblk a m c (3 : Fin 6) t :=
  ((dats a m 0 c).before_in_eq_fetched (3 : Fin 6) rfl (fun _ => rfl) (fun _ _ _ => rfl) (fun t => by rw [after_in a m c 3 rfl]; unfold Dat.blockOf iblk; rfl) t d).trans
    (by unfold Dat.fetched Dat.blockOf iblk; rfl)
theorem before4 (c : Dev nD) (t : Fin (cfgA a).N) (d) : (dats a m 0 c).before (4 : Fin 6) t d = iblk a m c (4 : Fin 6) t :=
  ((dats a m 0 c).before_in_eq_fetched (4 : Fin 6) rfl (fun _ => rfl) (fun _ _ _ => rfl) (fun t => by rw [after_in a m c 4 rfl]; unfold Dat.blockOf iblk; rfl) t d).trans
    (by unfold Dat.fetched Dat.blockOf iblk; rfl)

/-- The result's block is stored at every point. -/
theorem live5 (t : Fin (cfgA a).N) : (cfgA a).idle (5 : Fin 6) ((cfgA a).grid.coords t) = false := by
  show (!(k0_cond2 _ _ == 1#1) && !(k0_cond3 _ _ == 1#1)) = false
  by_cases h : k0_cond2 ((cfgA a).grid.coords t) (a.1.atD 1 ![0]) = 1#1
  · rw [h]; rfl
  · rw [(past_iff _ _).mpr h]; simp

/-- The first point is fresh, where a block is used at all. -/
abbrev FirstFresh : Prop := Fresh (crd a ⟨0, N_pos a⟩) (experts a) (count a)

set_option maxHeartbeats 4000000 in
/-- The body at a point keeps what holds between points and leaves every window as stated. -/
theorem sound_body (hf : FirstFresh a) (c : Dev nD) (t : Fin (cfgA a).N) :
    iprop((dats a m 0 c).Φ t.castSucc ∗ (dats a m 0 c).owesAt () t.castSucc
        ∗ (∃ d, owns (c : Thread nD τ) (ms a t).x fullShare ((dats a m 0 c).before (0 : Fin 6) t d))
        ∗ (∃ d, owns (c : Thread nD τ) (ms a t).wg fullShare ((dats a m 0 c).before (1 : Fin 6) t d))
        ∗ (∃ d, owns (c : Thread nD τ) (ms a t).wl fullShare ((dats a m 0 c).before (2 : Fin 6) t d))
        ∗ (∃ d, owns (c : Thread nD τ) (ms a t).bg fullShare ((dats a m 0 c).before (3 : Fin 6) t d))
        ∗ (∃ d, owns (c : Thread nD τ) (ms a t).bl fullShare ((dats a m 0 c).before (4 : Fin 6) t d))
        ∗ (∃ d, owns (c : Thread nD τ) (ms a t).h fullShare ((dats a m 0 c).before (5 : Fin 6) t d)))
      ⊢ wp frame (wpE (defs₀ (F := F)) Variants.none c none) Set.univ (bodyOn (crd a t) (ms a t)) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0, live5]
  simp only [before0, before1, before2, before3, before4, after_in a m c 0 rfl, after_in a m c 1 rfl, after_in a m c 2 rfl,
    after_in a m c 3 rfl, after_in a m c 4 rfl, after5]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi; simp only [Fin.val_castSucc, Fin.val_succ]
  iintro ⟨⟨⟨%x, %hx, HS⟩, ⟨%y, %hy, HL⟩, HT0, HT1⟩, Ho, ⟨%d0, H0⟩, ⟨%d1, H1⟩, ⟨%d2, H2⟩, ⟨%d3, H3⟩, ⟨%d4, H4⟩, ⟨%d5, H5⟩⟩
  by_cases h1 : Fresh (crd a t) (experts a) (count a)
  · have h2 := ((fresh_iff _ _ _).mp h1).2
    have h3 : ¬Past (crd a t) (count a) := fun h => (past_iff _ _).mp h h2
    iapply (run_fresh c (crd a t) (ms a t) (experts a) (count a) (iblk a m c (0 : Fin 6) t) (iblk a m c (1 : Fin 6) t)
      (iblk a m c (2 : Fin 6) t) (iblk a m c (3 : Fin 6) t) (iblk a m c (4 : Fin 6) t) h1 h2 h3 _)
    isplitl [H0 H1 H2 H3 H4 H5 HS HL HT0 HT1]
    · isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [H5]; · iexists _; iexact H5
      isplitl [HS]; · iexists _; iexact HS
      iexists _; iexact HL
    iintro ⟨H0, H1, H2, H3, H4, HT0, HT1, H5, HS, HL⟩
    rw [res_used a m c t h2]; unfold gate lin; rw [taken_fresh a _ t h1, taken_fresh a _ t h1]
    isplitl [HS HL HT0 HT1]
    · isplitl [HS]
      · iexists _; isplitr; swap
        · iexact HS
        · ipureintro; intro _; rfl
      isplitl [HL]
      · iexists _; isplitr; swap
        · iexact HL
        · ipureintro; intro _; rfl
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5
  · have h0 : t.val ≠ 0 := fun h0 => h1 (by
      have e : t = ⟨0, N_pos a⟩ := Fin.ext h0
      rw [e]; exact hf)
    obtain rfl := hx h0
    obtain rfl := hy h0
    by_cases h2 : Used (crd a t) (count a)
    · have h3 : ¬Past (crd a t) (count a) := fun h => (past_iff _ _).mp h h2
      iapply (run_same c (crd a t) (ms a t) (experts a) (count a) (iblk a m c (0 : Fin 6) t) (iblk a m c (1 : Fin 6) t)
        (iblk a m c (2 : Fin 6) t) (iblk a m c (3 : Fin 6) t) (iblk a m c (4 : Fin 6) t) (gate a m c t.val) (lin a m c t.val) h1 h2 h3 _)
      isplitl [H0 H1 H2 H3 H4 H5 HS HL HT0 HT1]
      · isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [H5]; · iexists _; iexact H5
        isplitl [HS]; · iexact HS
        iexact HL
      iintro ⟨H0, H1, H2, H3, H4, HT0, HT1, H5, HS, HL⟩
      rw [res_used a m c t h2]; unfold gate lin; rw [taken_same a _ t h1, taken_same a _ t h1]
      isplitl [HS HL HT0 HT1]
      · isplitl [HS]
        · iexists _; isplitr; swap
          · iexact HS
          · ipureintro; intro _; rfl
        isplitl [HL]
        · iexists _; isplitr; swap
          · iexact HL
          · ipureintro; intro _; rfl
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
    · iapply (run_past c (crd a t) (ms a t) (experts a) (count a) (iblk a m c (0 : Fin 6) t) (iblk a m c (1 : Fin 6) t)
        (iblk a m c (2 : Fin 6) t) (iblk a m c (3 : Fin 6) t) (iblk a m c (4 : Fin 6) t) (gate a m c t.val) (lin a m c t.val)
        h1 h2 ((past_iff _ _).mpr h2) _)
      isplitl [H0 H1 H2 H3 H4 H5 HS HL HT0 HT1]
      · isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [H5]; · iexists _; iexact H5
        isplitl [HS]; · iexact HS
        iexact HL
      iintro ⟨H0, H1, H2, H3, H4, HT0, HT1, H5, HS, HL⟩
      rw [res_past a m c t h2]; unfold gate lin; rw [taken_same a _ t h1, taken_same a _ t h1]
      isplitl [HS HL HT0 HT1]
      · isplitl [HS]
        · iexists _; isplitr; swap
          · iexact HS
          · ipureintro; intro _; rfl
        isplitl [HL]
        · iexists _; isplitr; swap
          · iexact HL
          · ipureintro; intro _; rfl
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5

theorem body_obligation (hf : FirstFresh a) (c : Dev nD) : BodyObligation (dats a m 0 c) (defs₀ (F := F)) Variants.none () Set.univ := fun t => by
  rw [bigSep_W0]
  exact sound_body a m hf c t

/-! ## The launch -/

/-- The tables as the launch hands them over, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp (Mach F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- A scratch buffer at some contents is a block at some value, and back. -/
theorem owns_of_scratch (c : Dev nD) (b : Ref sig .tc) : iprop(∃ f : Buf (Elt F) ((c : Thread nD τ).loc b), ((c : Thread nD τ).loc b) ↦{fullShare} f)
    ⊢ (iprop(∃ d, owns (c : Thread nD τ) (Memref.whole b) fullShare d) : sProp (Mach F)) := by
  unfold owns
  iintro ⟨%f, HS⟩
  iexists ((Memref.whole b).view.read (Elt F) f); iexists f; isplitr
  · ipureintro; rfl
  rw [(Memref.isWhole_whole b).set_eq_univ]; iexact HS

theorem scratch_of_owns (c : Dev nD) (b : Ref sig .tc) (d) : (owns (c : Thread nD τ) (Memref.whole b) fullShare d : sProp (Mach F))
    ⊢ iprop(∃ f : Buf (Elt F) ((c : Thread nD τ).loc b), ((c : Thread nD τ).loc b) ↦{fullShare} f) := by
  unfold owns
  rw [(Memref.isWhole_whole b).set_eq_univ]
  iintro ⟨%f, -, HS⟩
  iexists f; iexact HS

theorem enter (c : Dev nD) :
    iprop(BI.emp ∗ Pipeline.prefHeld pre0 c (fun _ => fullShare.right) a.1 ∗ Pipeline.scopedRest spec0 c) ⊢ Phi a m c 0 := by
  rw [tables_eq, scopedRest0_eq]
  unfold Phi
  refine (sep_mono .rfl (sep_mono .rfl (sep_mono (owns_of_scratch c cc0_scratch0) (owns_of_scratch c cc0_scratch1)))).trans ?_
  iintro ⟨-, ⟨HT0, HT1⟩, ⟨%d, HS⟩, ⟨%e, HL⟩⟩
  isplitl [HS]
  · iexists d; isplitr
    · ipureintro; intro h; exact absurd rfl h
    iexact HS
  isplitl [HL]
  · iexists e; isplitr
    · ipureintro; intro h; exact absurd rfl h
    iexact HL
  isplitl [HT0]
  · iexact HT0
  iexact HT1

theorem leave (c : Dev nD) : Phi a m c (Fin.last (cfgA a).N) ⊢ iprop(BI.emp ∗ Pipeline.scopedRest spec0 c) := by
  rw [scopedRest0_eq]
  unfold Phi
  iintro ⟨⟨%x, -, HS⟩, ⟨%y, -, HL⟩, -, -⟩
  isplitr; · iempintro
  isplitl [HS]
  · iapply (scratch_of_owns c cc0_scratch0 x); iexact HS
  iapply (scratch_of_owns c cc0_scratch1 y); iexact HL

set_option backward.isDefEq.respectTransparency.types false in
set_option maxHeartbeats 4000000 in
/-- Every run ends, with each array at what the pipeline computes, the tables as they were, every counter at zero. -/
theorem run_main (hf : FirstFresh a) (ha : ∀ (c : Dev nD) (j : Fin 2), m ((c : Thread nD τ).loc (pre0.ref j)) = a.1 j) :
    θ_run (defs (F := F)) (onTc (τ := τ) (main (F := F))) ⟨m, fun _ => 0, ρ⟩ (fun r =>
      (∀ c : Dev nD, (∀ w : Fin (cfgA a).W, r.2.mem (((cfgA a).win w).arr.view.loc (c : Thread nD τ)) = (dats a m 0 c).arrAt w (cfgA a).N)
        ∧ ∀ j, r.2.mem ((c : Thread nD τ).loc (pre0.ref j)) = a.1 j) ∧ r.2.sem = fun _ => 0) :=
  Pipeline.θ_run_region_noSem_pf_quiescent pcfgs (fun _ => a) (dats a m) () ((launch₀0 (F := F)).cellOf_inj fun _ => a) (0 : Fin 1)
    (launch₀0 (F := F)).win (launch₀0 (F := F)).pre EP defs₀ Variants.none m ρ main
    (hbody := fun c => (body_obligation a m hf c).loose) (hne := (launch₀0 (F := F)).block_pos)
    (harr := (launch₀0 (F := F)).arr_whole) (hstage := (launch₀0 (F := F)).stage_whole) (howed := fun _ _ => rfl)
    (u₀ := initOf (Pipeline.cells (pcs a) ((launch₀0 (F := F)).cellOf_inj fun _ => a))
      (Pipeline.launchToks (pcs a) ((launch₀0 (F := F)).cellOf_inj fun _ => a))) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats a m 0 c).arrays_split_shared (launch₀0 (F := F)).sharedIn (launch₀0 (F := F)).arr_whole (fun _ _ => rfl) _ _ fun _ => rfl)
    (hpf := ha)
    (X := fun _ => iprop(emp)) (Y := fun _ => iprop(emp)) (Z := fun _ => iprop(emp))
    (hX := fun c => by rw [unscopedRestP0_eq]; iintro -; isplitr <;> iempintro)
    (hin := enter a m)
    (hout := leave a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged, the result as the pipeline computes it, every counter at zero. -/
theorem run_kept (hf : FirstFresh a) (ha : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = (dats a m 0 c).arrAt (5 : Fin 6) (cfgA a).N)
      ∧ r.2.sem = fun _ => 0) :=
  (θ_run defs _ _).mono (fun _ h => ⟨fun c => ⟨⟨((h.1 c).2 0).trans (ha c 0).symm, ((h.1 c).2 1).trans (ha c 1).symm,
    ((h.1 c).1 (0 : Fin 6)).trans ((dats a m 0 c).arrAt_in (0 : Fin 6) rfl _),
    ((h.1 c).1 (1 : Fin 6)).trans ((dats a m 0 c).arrAt_in (1 : Fin 6) rfl _),
    ((h.1 c).1 (3 : Fin 6)).trans ((dats a m 0 c).arrAt_in (3 : Fin 6) rfl _)⟩, (h.1 c).1 (5 : Fin 6)⟩, h.2⟩) (run_main a m ρ hf ha)

end Cert.Kernel7Ideal.Up

end
-- ==== Proof.UpTables.lean ====
module

public import proofs.«01_k».proof.Proof.UpWords
public import proofs.«01_k».proof.Proof.DownTables
public import proofs.«01_k».proof.Proof.Gen.Pre_moe_up_tables
public import Idealize.ShloMosaic.Lib.Pipeline.ValueKit

/-! # The experts' first product: what the tables' ranges give

Both products read the same tables, so the ranges and the clamp are the second product's. -/

@[expose] public section

set_option maxRecDepth 16384

noncomputable section

namespace Cert.Kernel7Ideal.Up

open Cert.Kernel7Ideal Cert.Kernel7Ideal.Gen Cert.TableWords
open Cert.Kernel8Ideal.Down (InRange toNat_of_range clamp expert_lt)
open Idealize.ShloMosaic Idealize.ShloMosaic.TcCoe

variable {F : FTy → Type} [FloatOps F]

/-- The precondition, read: it is the second product's, of the same tables. -/
theorem inRange (T0 : IVec S160 32) (T1 : IVec S1 32) (X : FVec F S81920x2048 .f32) (W : FVec F S32x2048x4096 .f32)
    (B : FVec F S32x1x4096 .f32) (h : Cert.Pre_moe_up_tables.fn (F := F) T0 T1 X W B Idealize.ShloMosaic.ix0 = 1#1) : InRange T0 T1 :=
  Cert.Kernel8Ideal.Down.inRange (F := F) T0 T1 (constant _ .bf16 0#16) (constant _ .f32 0#32) (constant _ .f32 0#32) h

/-! ## The words, at their indices -/

/-- The point's block, and its column half. -/
abbrev blockOf (i : grid0.Coords) : Fin 160 := ⟨(i 1).val, (i 1).isLt⟩

theorem off1_eq (i : grid0.Coords) : k0_off1 i = ![(i 1).val] := Cert.Kernel8Ideal.Down.off1_eq (row i)

theorem off2_eq (i : grid0.Coords) (n : ℕ) (hn : (i 1).val = n + 1) : k0_off2 i = ![n] := Cert.Kernel8Ideal.Down.off2_eq (row i) n hn

theorem table_at (pf : pre0.Contents (Elt F)) (i : grid0.Coords) :
    pf.at 0 (Rect.unit (s := S160) (k0_off1 i) S1.size (k0_off1_inb i)) numel1_S1 = pf 0 (ix1 (blockOf i)) := by
  refine congrArg (pf 0) (funext fun x => ?_)
  fin_cases x
  refine Fin.ext ?_
  show k0_off1 i 0 + 0 * 1 = (i 1).val
  rw [off1_eq]; rfl

theorem count_at (pf : pre0.Contents (Elt F)) :
    pf.at 1 (Rect.unit (s := S1) ![0] S1.size inb_S1_S1_0) numel1_S1 = pf 1 (ix1 (0 : Fin 1)) := by
  refine congrArg (pf 1) (funext fun x => ?_)
  fin_cases x
  rfl

theorem expertAt_eq (i : grid0.Coords) (T0 : S160.Idx → Elt F .i32) : expertAt i T0 = T0 (ix1 (blockOf i)) := by
  refine congrArg T0 (funext fun x => ?_)
  fin_cases x
  refine Fin.ext ?_
  show k0_off1 i 0 + 0 * 1 = (i 1).val
  rw [off1_eq]; rfl

theorem expertBefore_eq (i : grid0.Coords) (T0 : S160.Idx → Elt F .i32) (n : Fin 160) (hn : (i 1).val = n.val + 1) :
    expertBefore i T0 = T0 (ix1 n) := by
  refine congrArg T0 (funext fun x => ?_)
  fin_cases x
  refine Fin.ext ?_
  show k0_off2 i 0 + 0 * 1 = n.val
  rw [off2_eq i n.val hn]; rfl

theorem usedCount_eq (T1 : S1.Idx → Elt F .i32) : usedCount T1 = T1 (ix1 (0 : Fin 1)) := by
  refine congrArg T1 (funext fun x => ?_)
  fin_cases x
  rfl

/-! ## The blocks the index maps name -/

theorem transform0_eq (pf : pre0.Contents (Elt F)) (i : grid0.Coords) : cc0_transform_0 inb_S1_S1_0 numel1_S1 pf i
    = ![(Scalar.minsi (BitVec.ofNat 32 (i 1).val) (Scalar.subi (pf 1 (ix1 (0 : Fin 1))) 1#32)).toNat, 0] :=
  congrArg (fun w : BitVec 32 => ![(Scalar.minsi (BitVec.ofNat 32 (i 1).val) (Scalar.subi w 1#32)).toNat, 0]) (count_at pf)

theorem half_lt (i : grid0.Coords) : (i 0).val < 2 := (i 0).isLt

/-- The words of the two column blocks: the gate's and, two blocks on, the linear part's. -/
theorem gate_word (i : grid0.Coords) : (BitVec.ofNat 32 (i 0).val).toNat = (i 0).val := by
  have := half_lt i
  rw [BitVec.toNat_ofNat, Nat.mod_eq_of_lt (by omega)]
theorem lin_word (i : grid0.Coords) : (Scalar.addi 2#32 (BitVec.ofNat 32 (i 0).val)).toNat = 2 + (i 0).val := by
  have := half_lt i
  show (2#32 + BitVec.ofNat 32 (i 0).val).toNat = _
  rw [BitVec.toNat_add, gate_word]
  show (2 + (i 0).val) % 2 ^ 32 = _
  rw [Nat.mod_eq_of_lt (by omega)]

/-- The block of an expert's array at a column block. -/
abbrev expertBlock (pf : pre0.Contents (Elt F)) (i : grid0.Coords) (n : ℕ) : Fin 3 → ℕ := ![(pf 0 (ix1 (blockOf i)) : BitVec 32).toNat, 0, n]

theorem transform1_eq (pf : pre0.Contents (Elt F)) (i : grid0.Coords) :
    cc0_transform_1 k0_off1_inb numel1_S1 pf i = expertBlock pf i (i 0).val := by
  refine Eq.trans (b := ![_, 0, (BitVec.ofNat 32 (i 0).val).toNat]) rfl ?_
  rw [gate_word]
  exact congrArg (fun w : BitVec 32 => ![w.toNat, 0, (i 0).val]) (table_at pf i)
theorem transform2_eq (pf : pre0.Contents (Elt F)) (i : grid0.Coords) :
    cc0_transform_2 k0_off1_inb numel1_S1 pf i = expertBlock pf i (2 + (i 0).val) := by
  refine Eq.trans (b := ![_, 0, (Scalar.addi 2#32 (BitVec.ofNat 32 (i 0).val)).toNat]) rfl ?_
  rw [lin_word]
  exact congrArg (fun w : BitVec 32 => ![w.toNat, 0, 2 + (i 0).val]) (table_at pf i)

/-- The biases' blocks are the matrices'. -/
theorem transform3_eq (pf : pre0.Contents (Elt F)) (i : grid0.Coords) :
    cc0_transform_3 k0_off1_inb numel1_S1 pf i = expertBlock pf i (i 0).val := transform1_eq pf i
theorem transform4_eq (pf : pre0.Contents (Elt F)) (i : grid0.Coords) :
    cc0_transform_4 k0_off1_inb numel1_S1 pf i = expertBlock pf i (2 + (i 0).val) := transform2_eq pf i

/-- A column block of an expert's array of `A` rows lies inside it. -/
theorem inside (pf : pre0.Contents (Elt F)) (h : InRange (pf 0) (pf 1)) (i : grid0.Coords) (A n : ℕ) (hn : n < 4) (x : Fin 3) :
    (expertBlock pf i n x + 1) * (![1, A, 1024] : Fin 3 → ℕ) x ≤ (![32, A, 4096] : Fin 3 → ℕ) x := by
  have hc := expert_lt h (blockOf i)
  fin_cases x
  · show (BitVec.toNat (pf 0 (ix1 (blockOf i))) + 1) * 1 ≤ 32
    omega
  · show (0 + 1) * A ≤ A
    omega
  · show (n + 1) * 1024 ≤ 4096
    omega

/-- Tables in their ranges are admitted. -/
theorem ok_of_range (pf : pre0.Contents (Elt F)) (h : InRange (pf 0) (pf 1)) : ok0 pf := by
  have hh := half_lt
  refine ⟨fun i => ⟨fun x => ?_, .inl rfl⟩, fun i => ⟨fun x => ?_, .inl rfl⟩, fun i => ⟨fun x => ?_, .inl rfl⟩,
    fun i => ⟨fun x => ?_, .inl rfl⟩, fun i => ⟨fun x => ?_, .inl rfl⟩⟩
  · have hc := (clamp (i 1).isLt (pf 1 (ix1 (0 : Fin 1))) h.some).1
    rw [transform0_eq]
    fin_cases x
    · show ((Scalar.minsi (BitVec.ofNat 32 (i 1).val) (Scalar.subi (pf 1 (ix1 (0 : Fin 1))) 1#32)).toNat + 1) * 512 ≤ 81920
      omega
    · show (0 + 1) * 2048 ≤ 2048
      omega
  · rw [transform1_eq]; exact inside pf h i 2048 _ (by have := hh i; omega) x
  · rw [transform2_eq]; exact inside pf h i 2048 _ (by have := hh i; omega) x
  · rw [transform3_eq]; exact inside pf h i 1 _ (by have := hh i; omega) x
  · rw [transform4_eq]; exact inside pf h i 1 _ (by have := hh i; omega) x

end Cert.Kernel7Ideal.Up

end
-- ==== Proof.UpRef.lean ====
module

public import proofs.«01_k».proof.Proof.Gen.Reference7Ideal.Run
public import proofs.«01_k».proof.Proof.TableGather
public import proofs.«01_k».proof.Proof.TableWords
public import proofs.«01_k».proof.Proof.Gate
public import Idealize.ShloMosaic.Lib.Pipeline.ValueKit

/-! # The experts' first product: the reference's array at an entry -/

@[expose] public section

set_option maxRecDepth 16384

noncomputable section

open Idealize.ShloMosaic Idealize.ShloMosaic.TcCoe Idealize.SL.Sem

namespace Cert.Reference7Ideal.Up

open Cert.Reference7Ideal Cert.Reference7Ideal.Gen Cert.TableWords

variable (T0 : IVec S160 32) (T1 : IVec S1 32) (X : FVec Ideal S81920x2048 .f32) (W : FVec Ideal S32x2048x4096 .f32)
  (B : FVec Ideal S32x1x4096 .f32)

/-- The table of experts as the reference indexes by it. -/
abbrev taken : IVec S160x1 32 :=
  broadcastInDim S160x1 ![0] bcast_S160_S160x1_0 (select (cmpi .slt T0 (broadcastInDim S160 ![] bcast_S_S160 (constantI S_ 32 0#32)))
    (addi T0 (broadcastInDim S160 ![] bcast_S_S160 (constantI S_ 32 32#32))) T0)

/-- One matrix, and one bias row, per row block. -/
def mats : FVec Ideal S160x2048x4096 .f32 :=
  Host.gather gather_S32x2048x4096_S160x1_S160x2048x4096_12_0_n_n_0_1_120484096 W (taken T0)
def rows : FVec Ideal S160x1x4096 .f32 :=
  Host.gather gather_S32x1x4096_S160x1_S160x1x4096_12_0_n_n_0_1_114096 B (taken T0)

/-- The hidden rows before the gate: the gate's half, then the linear part's. -/
def hidden : FVec Ideal S160x512x4096 .f32 :=
  addf (Host.dotGeneral dot_S160x512x2048_S160x2048x4096_S160x512x4096_2_1_1_2_0_0 none
      (shapeCast S160x512x2048 X shapeCasts_S81920x2048_S160x512x2048) (mats T0 W))
    (broadcastInDim S160x512x4096 ![0, 1, 2] bcast_S160x1x4096_S160x512x4096_0_1_2 (rows T0 B))

/-- A number, at every entry. -/
abbrev each (w : BitVec 32) : FVec Ideal S160x512x2048 .f32 := broadcastInDim S160x512x2048 ![] bcast_S_S160x512x2048 (constant S_ .f32 w)

/-- The gated hidden rows, of the rows before the gate. -/
def gated (G : FVec Ideal S160x512x4096 .f32) : FVec Ideal S160x512x2048 .f32 :=
  mulf (mulf (minimumf (extractStridedSlice S160x512x2048 ![0, 0, 0] G slices_S160x512x4096_S160x512x2048_0_0_0) (each 0x40E00000#32))
      (Host.divf (each 0x3F800000#32) (addf (each 0x3F800000#32) (Host.exp (Host.negf (mulf (each 0x3FD9DB23#32)
        (minimumf (extractStridedSlice S160x512x2048 ![0, 0, 0] G slices_S160x512x4096_S160x512x2048_0_0_0) (each 0x40E00000#32))))))))
    (addf (minimumf (each 0x40E00000#32) (maximumf (each 0xC0E00000#32)
      (extractStridedSlice S160x512x2048 ![0, 0, 2048] G slices_S160x512x4096_S160x512x2048_0_0_2048))) (each 0x3F800000#32))

/-- The reference's term. -/
def REF : FVec Ideal S81920x2048 .bf16 :=
  truncf .bf16 (shapeCast S81920x2048 (select (broadcastInDim S160x512x2048 ![0, 1, 2] bcast_S160x1x1_S160x512x2048_0_1_2
      (broadcastInDim S160x1x1 ![0] bcast_S160_S160x1x1_0 (cmpi .slt (iotaInDim S160 32 0) (broadcastInDim S160 ![0] bcast_S1_S160_0 T1))))
    (gated (hidden T0 X W B)) (each 0x00000000#32)) shapeCasts_S160x512x2048_S81920x2048) bitsLt_bf16_f32

/-- It is what the reference's run computes. -/
theorem res_eq (m : (ℓ : Loc nD τ sig) → Buf (Elt Ideal) ℓ) (c : Dev nD) : Cert.Reference7Ideal.Value.res_out0 m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  delta Cert.Reference7Ideal.Value.res_out0 Cert.Reference7Ideal.Value.res_main_v41 REF gated hidden mats rows
  rfl

/-- An expert that there is, is taken as the table names it. -/
theorem taken_at (b : Fin 160) (h : 0 ≤ (T0 (ix1 b)).toInt) : taken T0 (ix2 b (0 : Fin 1)) = T0 (ix1 b) := by
  have hz : ¬IntOp.cmpi .slt (T0 (ix1 b)) 0#32 = 1#1 := fun e => absurd ((lt_iff _ _).mp e) (by
    show ¬_ < (0 : ℤ); omega)
  pointwise [taken]
  exact if_neg hz

/-- The gate of two numbers, with the logistic function as the reference writes it. -/
def act (g l : EReal) : EReal :=
  min g (Ideal.ofBits .f32 0x40E00000#32) * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) l) + 1)

theorem gated_at (G : FVec Ideal S160x512x4096 .f32) (b : Fin 160) (r : Fin 512) (C : Fin 2048) :
    gated G (ix3 b r C) = act (G (ix3 b r ⟨C.val, by omega⟩)) (G (ix3 b r ⟨2048 + C.val, by omega⟩)) := by
  pointwise [gated, each]
  rfl

variable {n : Fin 32} {b : Fin 160} (hn : (T0 (ix1 b)).toInt = n.val)

/-- An entry of the rows before the gate, from the arguments. -/
def entry (n : Fin 32) (R : Fin 81920) (C : Fin 4096) : EReal := (∑ k : Fin 2048, X (ix2 R k) * W (ix3 n k C)) + B (ix3 n (0 : Fin 1) C)

include hn

theorem mats_at (k : Fin 2048) (C : Fin 4096) : mats T0 W (ix3 b k C) = W (ix3 n k C) :=
  take_at 2048 4096 _ W (taken T0) b k C n (by rw [taken_at T0 b (by omega)]; exact hn)

theorem rows_at (C : Fin 4096) : rows T0 B (ix3 b (0 : Fin 1) C) = B (ix3 n (0 : Fin 1) C) :=
  take_at 1 4096 _ B (taken T0) b 0 C n (by rw [taken_at T0 b (by omega)]; exact hn)

theorem hidden_at (r : Fin 512) (C : Fin 4096) : hidden T0 X W B (ix3 b r C) = entry X W B n ⟨b.val * 512 + r.val, by omega⟩ C := by
  have hm := mats_at T0 W hn
  have hr := rows_at T0 B hn
  unfold hidden entry
  generalize mats T0 W = M at hm ⊢
  generalize rows T0 B = R at hr ⊢
  pointwise []
  simp only [hm, hr]

/-- The reference's array at an entry of a block of rows. -/
theorem ref_at (r : Fin 512) (C : Fin 2048) : REF T0 T1 X W B (ix2 ⟨b.val * 512 + r.val, by omega⟩ C)
    = if (b.val : ℤ) < (T1 (ix1 (0 : Fin 1))).toInt
      then act (entry X W B n ⟨b.val * 512 + r.val, by omega⟩ ⟨C.val, by omega⟩) (entry X W B n ⟨b.val * 512 + r.val, by omega⟩ ⟨2048 + C.val, by omega⟩)
      else 0 := by
  have hg := gated_at (hidden T0 X W B) b
  have hh := hidden_at T0 X W B hn
  unfold REF
  generalize gated (hidden T0 X W B) = G at hg ⊢
  pointwise [each]
  have hw : IntOp.cmpi .slt (BitVec.ofNat 32 b.val) (T1 (ix1 (0 : Fin 1))) = 1#1 ↔ (b.val : ℤ) < (T1 (ix1 (0 : Fin 1))).toInt := by
    rw [← ofNat_toInt b.isLt]; exact lt_iff _ _
  simp only [hg, hh]
  by_cases h : (b.val : ℤ) < (T1 (ix1 (0 : Fin 1))).toInt
  · rw [if_pos h]; exact if_pos (hw.mpr h)
  · rw [if_neg h]
    exact if_neg fun e => h (hw.mp e)

end Cert.Reference7Ideal.Up

end
-- ==== Proof.UpValue.lean ====
module

public import proofs.«01_k».proof.Proof.UpFrame
public import proofs.«01_k».proof.Proof.UpTables
public import proofs.«01_k».proof.Proof.UpRef

/-! # The experts' first product: the result array is the reference's

The points run over the row blocks first, then over the two halves of the result's columns. -/

@[expose] public section

set_option maxRecDepth 16384

noncomputable section

open Idealize.ShloMosaic Idealize.ShloMosaic.TcCoe Idealize.SL.Sem
open Idealize.ShloMosaic.Pipeline (Dat)

namespace Cert.Kernel7Ideal.Up

open Cert.Kernel7Ideal Cert.Kernel7Ideal.Gen
open Cert.Kernel8Ideal.Down (InRange toNat_of_range clamp expert_lt)
open Cert.Reference7Ideal.Up (act entry)

section
variable {F : FTy → Type} [FloatOps F] (a : (pcfg0 (F := F)).Adm)

/-- A point's row block and column half, from its position. -/
theorem coords_val : ∀ t : Fin grid0.N, (grid0.coords t 1).val = t.val % 160 ∧ (grid0.coords t 0).val = t.val / 160 := by decide +kernel

theorem lt320 (t : Fin (cfgA a).N) : t.val < 320 := lt_of_lt_of_eq t.isLt N_0

abbrev at160 (t : Fin (cfgA a).N) : Fin 160 := ⟨t.val % 160, Nat.mod_lt _ (by decide)⟩

theorem blockOf_crd (t : Fin (cfgA a).N) : blockOf (crd a t) = at160 a t := Fin.ext (coords_val t).1

/-- The word of a point's expert. -/
abbrev expertOf (t : Fin (cfgA a).N) : BitVec 32 := experts a (ix1 (at160 a t))

theorem used_at (t : Fin (cfgA a).N) : Used (crd a t) (count a) ↔ ((at160 a t).val : ℤ) < (count a (ix1 (0 : Fin 1)) : BitVec 32).toInt := by
  refine (used_iff _ _).trans ?_
  rw [usedCount_eq]
  exact iff_of_eq (congrArg (fun x : ℕ => (x : ℤ) < (count a (ix1 (0 : Fin 1)) : BitVec 32).toInt) (coords_val t).1)

/-- The first point of a column half is fresh where a block is used. -/
theorem first_fresh_at (t : Fin (cfgA a).N) (h0 : t.val % 160 = 0) (hu : Used (crd a t) (count a)) : Fresh (crd a t) (experts a) (count a) :=
  (fresh_iff _ _ _).mpr ⟨.inl ((coords_val t).1.trans h0), hu⟩
theorem first_fresh (h : InRange (experts a) (count a)) : FirstFresh a :=
  first_fresh_at a _ rfl ((used_at a _).mpr (by have := h.some; show ((0 : ℕ) : ℤ) < _; omega))

/-! ## The blocks a point takes up -/

theorem index1 (t : Fin (cfgA a).N) : ((cfgA a).win (1 : Fin 6)).index t = ![(expertOf a t).toNat, 0, t.val / 160] :=
  (transform1_eq a.1 (crd a t)).trans (by unfold expertBlock; rw [blockOf_crd, (coords_val t).2])
theorem index2 (t : Fin (cfgA a).N) : ((cfgA a).win (2 : Fin 6)).index t = ![(expertOf a t).toNat, 0, 2 + t.val / 160] :=
  (transform2_eq a.1 (crd a t)).trans (by unfold expertBlock; rw [blockOf_crd, (coords_val t).2])
theorem index3 (t : Fin (cfgA a).N) : ((cfgA a).win (3 : Fin 6)).index t = ![(expertOf a t).toNat, 0, t.val / 160] :=
  (transform3_eq a.1 (crd a t)).trans (by unfold expertBlock; rw [blockOf_crd, (coords_val t).2])
theorem index4 (t : Fin (cfgA a).N) : ((cfgA a).win (4 : Fin 6)).index t = ![(expertOf a t).toNat, 0, 2 + t.val / 160] :=
  (transform4_eq a.1 (crd a t)).trans (by unfold expertBlock; rw [blockOf_crd, (coords_val t).2])
theorem index5 (t : Fin (cfgA a).N) : ((cfgA a).win (5 : Fin 6)).index t = ![t.val % 160, t.val / 160] := by
  have h := lt320 a t
  refine Eq.trans (b := ![(BitVec.ofNat 32 (grid0.coords t 1).val).toNat, (BitVec.ofNat 32 (grid0.coords t 0).val).toNat]) rfl ?_
  rw [(coords_val t).1, (coords_val t).2, BitVec.toNat_ofNat, BitVec.toNat_ofNat, Nat.mod_eq_of_lt (a := t.val % 160) (by omega),
    Nat.mod_eq_of_lt (a := t.val / 160) (by omega)]
theorem index0 (h : InRange (experts a) (count a)) (t : Fin (cfgA a).N) (hu : Used (crd a t) (count a)) :
    ((cfgA a).win (0 : Fin 6)).index t = ![t.val % 160, 0] := by
  have e := (clamp (at160 a t).isLt (count a (ix1 (0 : Fin 1))) h.some).2 ((used_at a t).mp hu)
  refine (transform0_eq a.1 (crd a t)).trans ?_
  rw [(coords_val t).1]
  exact congrArg (fun n => ![n, 0]) e

/-- At a used point a scratch holds the point's own block, where the block is the expert's and the column half's. -/
theorem taken_used (f : Fin (cfgA a).N → Vec F S2048x1024 .bf16)
    (hf : ∀ t u : Fin (cfgA a).N, t.val / 160 = u.val / 160 → expertOf a t = expertOf a u → f t = f u)
    (t : Fin (cfgA a).N) (hu : Used (crd a t) (count a)) : taken a f (t.val + 1) = f t := by
  obtain ⟨n, hlt⟩ := t
  induction n with
  | zero => exact taken_fresh a f ⟨0, hlt⟩ (first_fresh_at a _ rfl hu)
  | succ n ih =>
    by_cases hn : Fresh (crd a ⟨n + 1, hlt⟩) (experts a) (count a)
    · exact taken_fresh a f ⟨n + 1, hlt⟩ hn
    · have hm : (n + 1) % 160 ≠ 0 := fun h0 => hn (first_fresh_at a ⟨n + 1, hlt⟩ h0 hu)
      have hp : n < (cfgA a).N := Nat.lt_of_succ_lt hlt
      have same : expertAt (crd a ⟨n + 1, hlt⟩) (experts a) = expertBefore (crd a ⟨n + 1, hlt⟩) (experts a) := by
        by_contra hne
        exact hn ((fresh_iff _ _ _).mpr ⟨.inr hne, hu⟩)
      rw [expertAt_eq, expertBefore_eq _ _ (at160 a ⟨n, hp⟩) ((coords_val _).1.trans (by show (n + 1) % 160 = n % 160 + 1; omega)), blockOf_crd] at same
      have hu' : Used (crd a ⟨n, hp⟩) (count a) := (used_at a _).mpr (by
        have := (used_at a _).mp hu
        simp only at this ⊢
        omega)
      refine (taken_same a f ⟨n + 1, hlt⟩ hn).trans ((ih hp hu').trans (hf _ _ ?_ same.symm))
      show n / 160 = (n + 1) / 160
      omega

end

variable (a : (pcfg0 (F := Ideal)).Adm) (m : (ℓ : Loc nD τ sig) → Buf (Elt Ideal) ℓ)

/-- The columns of an expert's arrays that a point's two blocks hold. -/
abbrev gateCol (t : Fin (cfgA a).N) (C : Fin 1024) : Fin 4096 := ⟨t.val / 160 * 1024 + C.val, by have := lt320 a t; omega⟩
abbrev linCol (t : Fin (cfgA a).N) (C : Fin 1024) : Fin 4096 := ⟨2048 + (t.val / 160 * 1024 + C.val), by have := lt320 a t; omega⟩

theorem gate_at (c : Dev nD) (t : Fin (cfgA a).N) (n : Fin 32) (hn : (expertOf a t).toNat = n.val) (k : Fin 2048) (C : Fin 1024) :
    iblk a m c (1 : Fin 6) t (ix3 (0 : Fin 1) k C) = m ((c : Thread nD τ).loc main_arg3) (ix3 n k (gateCol a t C)) := by
  blk_ext [iblk, index1 a t, hn]
theorem lin_at (c : Dev nD) (t : Fin (cfgA a).N) (n : Fin 32) (hn : (expertOf a t).toNat = n.val) (k : Fin 2048) (C : Fin 1024) :
    iblk a m c (2 : Fin 6) t (ix3 (0 : Fin 1) k C) = m ((c : Thread nD τ).loc main_arg3) (ix3 n k (linCol a t C)) := by
  blk_ext [iblk, index2 a t, hn]
theorem gateBias_at (c : Dev nD) (t : Fin (cfgA a).N) (n : Fin 32) (hn : (expertOf a t).toNat = n.val) (C : Fin 1024) :
    iblk a m c (3 : Fin 6) t (ix3 (0 : Fin 1) (0 : Fin 1) C) = m ((c : Thread nD τ).loc main_arg4) (ix3 n (0 : Fin 1) (gateCol a t C)) := by
  blk_ext [iblk, index3 a t, hn]
theorem linBias_at (c : Dev nD) (t : Fin (cfgA a).N) (n : Fin 32) (hn : (expertOf a t).toNat = n.val) (C : Fin 1024) :
    iblk a m c (4 : Fin 6) t (ix3 (0 : Fin 1) (0 : Fin 1) C) = m ((c : Thread nD τ).loc main_arg4) (ix3 n (0 : Fin 1) (linCol a t C)) := by
  blk_ext [iblk, index4 a t, hn]

/-- The row of the token array a point's row is. -/
abbrev rowAt (t : Fin (cfgA a).N) (r : Fin 512) : Fin 81920 := ⟨t.val % 160 * 512 + r.val, by omega⟩

theorem acts_at (h : InRange (experts a) (count a)) (c : Dev nD) (t : Fin (cfgA a).N) (hu : Used (crd a t) (count a)) (r : Fin 512) (k : Fin 2048) :
    iblk a m c (0 : Fin 6) t (ix2 r k) = m ((c : Thread nD τ).loc main_arg2) (ix2 (rowAt a t r) k) := by
  blk_ext [iblk, index0 a h t hu]

/-! ## The scratch and the result -/

theorem gate_used (h : InRange (experts a) (count a)) (c : Dev nD) (t : Fin (cfgA a).N) (hu : Used (crd a t) (count a)) :
    gate a m c (t.val + 1) = k0_pay1 (iblk a m c (1 : Fin 6) t) := by
  refine taken_used a _ (fun t u hj he => congrArg k0_pay1 (funext fun y => ?_)) t hu
  have e1 : (expertOf a t).toNat < 32 := expert_lt h _
  idx_vars y
  have y0e : y0 = 0 := Subsingleton.elim _ _
  subst y0e
  rw [gate_at a m c t ⟨_, e1⟩ rfl]
  refine Eq.trans ?_ (gate_at a m c u ⟨_, e1⟩ (congrArg BitVec.toNat he.symm) _ _).symm
  simp only [gateCol, hj]
theorem lin_used (h : InRange (experts a) (count a)) (c : Dev nD) (t : Fin (cfgA a).N) (hu : Used (crd a t) (count a)) :
    lin a m c (t.val + 1) = k0_pay2 (iblk a m c (2 : Fin 6) t) := by
  refine taken_used a _ (fun t u hj he => congrArg k0_pay2 (funext fun y => ?_)) t hu
  have e1 : (expertOf a t).toNat < 32 := expert_lt h _
  idx_vars y
  have y0e : y0 = 0 := Subsingleton.elim _ _
  subst y0e
  rw [lin_at a m c t ⟨_, e1⟩ rfl]
  refine Eq.trans ?_ (lin_at a m c u ⟨_, e1⟩ (congrArg BitVec.toNat he.symm) _ _).symm
  simp only [linCol, hj]

/-- The float arguments, at their types. -/
abbrev tokens (c : Dev nD) : FVec Ideal S81920x2048 .f32 := m ((c : Thread nD τ).loc main_arg2)
abbrev stacked (c : Dev nD) : FVec Ideal S32x2048x4096 .f32 := m ((c : Thread nD τ).loc main_arg3)
abbrev biases (c : Dev nD) : FVec Ideal S32x1x4096 .f32 := m ((c : Thread nD τ).loc main_arg4)

/-- What a used point stores at an entry of its block. -/
theorem used_point (h : InRange (experts a) (count a)) (c : Dev nD) (t : Fin (cfgA a).N) (hu : Used (crd a t) (count a)) (n : Fin 32)
    (hn : (expertOf a t).toNat = n.val) (r : Fin 512) (C : Fin 1024) : res a m c t (ix2 r C)
      = act (entry (tokens m c) (stacked m c) (biases m c) n (rowAt a t r) (gateCol a t C))
          (entry (tokens m c) (stacked m c) (biases m c) n (rowAt a t r) (linCol a t C)) := by
  rw [res_used a m c t hu, gate_used a m h c t hu, lin_used a m h c t hu]
  have h1 := gate_at a m c t n hn
  have h2 := lin_at a m c t n hn
  have h3 := gateBias_at a m c t n hn
  have h4 := linBias_at a m c t n hn
  have h0 := acts_at a m h c t hu
  unfold act entry
  generalize iblk a m c (0 : Fin 6) t = X at h0 ⊢
  generalize iblk a m c (1 : Fin 6) t = G at h1 ⊢
  generalize iblk a m c (2 : Fin 6) t = L at h2 ⊢
  generalize iblk a m c (3 : Fin 6) t = B at h3 ⊢
  generalize iblk a m c (4 : Fin 6) t = D at h4 ⊢
  pointwise [k0_pay1, k0_pay2, k0_pay4]
  simp only [h0, h1, h2, h3, h4]
  set_option backward.isDefEq.respectTransparency false in
  simp only [Cert.Gate.sigmoid_words]

/-- A point past the used blocks stores zeros. -/
theorem past_point (c : Dev nD) (t : Fin (cfgA a).N) (hu : ¬Used (crd a t) (count a)) (r : Fin 512) (C : Fin 1024) :
    res a m c t (ix2 r C) = (0 : EReal) := by
  rw [res_past a m c t hu]
  pointwise [k0_pay3]

/-- Some tables: every row block of the first expert, one of them used. -/
def plain : (pcfg0 (F := Ideal)).Adm :=
  ⟨fun | 0 => fun _ => (0#32 : BitVec 32) | 1 => fun _ => (1#32 : BitVec 32),
    ok_of_range _ ⟨fun _ => (by decide : 0 ≤ (0#32).toInt), fun _ => (by decide : (0#32).toInt < 32), (by decide : 1 ≤ (1#32).toInt)⟩⟩

theorem covers_plain : ((cfgA plain).win (5 : Fin 6)).Covers := by decide +kernel

/-- The result's blocks are written one by one, and are all of it. -/
theorem covers : ((cfgA a).win (5 : Fin 6)).Covers := covers_plain

/-- The result array after the run. -/
theorem final (h : InRange (experts a) (count a)) (ha : ∀ (c : Dev nD) (j : Fin 2), m ((c : Thread nD τ).loc (pre0.ref j)) = a.1 j) (c : Dev nD) :
    (dats a m 0 c).arrAt (5 : Fin 6) (cfgA a).N
      = Cert.Reference7Ideal.Up.REF (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats a m 0 c).arrAt_eq_of_covers (5 : Fin 6) _ (covers a) fun t _ y => ?_
  blk_simp
  rw [after5]
  idx_vars y
  have hlt := lt320 a t
  have he : (expertOf a t).toNat < 32 := expert_lt h _
  have hi : (expertOf a t).toInt = ((expertOf a t).toNat : ℤ) := (toNat_of_range _ (h.low _)).symm
  rw [show m ((c : Thread nD τ).loc main_arg0) = experts a from ha c 0, show m ((c : Thread nD τ).loc main_arg1) = count a from ha c 1]
  refine Eq.trans ?_ ((Cert.Reference7Ideal.Up.ref_at (experts a) (count a) (tokens m c) (stacked m c) (biases m c)
    (n := ⟨_, he⟩) (b := at160 a t) hi y0 ⟨t.val / 160 * 1024 + y1.val, by omega⟩).symm.trans (congrArg _ ?_))
  · by_cases hu : Used (crd a t) (count a)
    · rw [used_point a m h c t hu ⟨_, he⟩ rfl]
      exact (if_pos ((used_at a t).mp hu)).symm
    · rw [past_point a m c t hu]
      exact (if_neg fun e => hu ((used_at a t).mpr e)).symm
  · blk_ext [index5 a t]

end Cert.Kernel7Ideal.Up

end
-- ==== Proof.UpClaim.lean ====
module

public import proofs.«01_k».proof.Defs
public import proofs.«01_k».proof.Proof.UpValue
public import proofs.«01_k».proof.Proof.Gen.Kernel7
public import proofs.«01_k».proof.Proof.Gen.Kernel7.Launch
public import Idealize.ShloMosaic.Lib.Claim
public import Idealize.ShloMosaic.Lib.Ring

/-! # The experts' first product computes its reference's array -/

@[expose] public section

set_option maxRecDepth 16384

noncomputable section

open Idealize.ShloMosaic Idealize.ShloMosaic.TcCoe Idealize.ShloMosaic.Tactic Idealize.SL.Sem

namespace Cert.Kernel7Ideal.Up

open Cert.Kernel7Ideal Cert.Kernel7Ideal.Gen
open Cert.Kernel8Ideal.Down (InRange)

variable {F : FTy → Type} [FloatOps F]

/-- The precondition of a memory, at any floats. -/
abbrev Admits (m : (ℓ : Loc nD τ sig) → Buf (Elt F) ℓ) : Prop := ∀ c : Dev nD,
  Cert.Pre_moe_up_tables.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1

/-- Its tables, which are then in range. -/
theorem tables_of (m : (ℓ : Loc nD τ sig) → Buf (Elt F) ℓ) (h : Admits m) : ∃ a : (pcfg0 (F := F)).Adm,
    InRange (experts a) (count a) ∧ ∀ (c : Dev nD) (j : Fin 2), m ((c : Thread nD τ).loc (pre0.ref j)) = a.1 j := by
  have hr := inRange _ _ _ _ _ (congrFun (h 0) Idealize.ShloMosaic.ix0)
  refine ⟨⟨fun j => m (((0 : Dev nD) : Thread nD τ).loc (pre0.ref j)), ok_of_range _ hr⟩, hr, fun c j => ?_⟩
  rw [show c = 0 from Subsingleton.elim _ _]

theorem frame_any (m : (ℓ : Loc nD τ sig) → Buf (Elt F) ℓ) (ρ : Dev nD → PrngReg) (h : Admits m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  obtain ⟨a, hr, ha⟩ := tables_of m h
  exact (θ_run defs _ _).mono (fun _ h => ⟨fun c => (h.1 c).1, h.2⟩) (run_kept a m ρ (first_fresh a hr) ha)

/-- The result, with the arguments unchanged. -/
theorem run_value (m : (ℓ : Loc nD τ sig) → Buf (Elt Ideal) ℓ) (ρ : Dev nD → PrngReg) (h : Admits m) :
    θ_run (defs (F := Ideal)) (onTc (τ := τ) (main (F := Ideal))) ⟨m, fun _ => 0, ρ⟩ (fun r => ∀ c : Dev nD,
      r.2.mem ((c.tc : Thread nD τ).loc main_v0) = Cert.Reference7Ideal.Up.REF (m ((c : Thread nD τ).loc main_arg0))
        (m ((c : Thread nD τ).loc main_arg1)) (m ((c : Thread nD τ).loc main_arg2)) (m ((c : Thread nD τ).loc main_arg3))
        (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  obtain ⟨a, hr, ha⟩ := tables_of m h
  exact (θ_run defs _ _).mono (fun _ h c => ⟨(h.1 c).2.trans (final a m hr ha c), (h.1 c).1⟩) (run_kept a m ρ (first_fresh a hr) ha)

end Cert.Kernel7Ideal.Up

namespace Cert.Proof

instance factsUp : Cert.Kernel7.Facts := Cert.Kernel7.Gen.facts
instance factsUpIdeal : Cert.Kernel7Ideal.Facts := Cert.Kernel7Ideal.Gen.facts
instance factsUpTables : Cert.Pre_moe_up_tables.Facts := Cert.Pre_moe_up_tables.Gen.facts

/-- The kernel's frame, said of the idealized text at the machine's floats: the two texts are one. -/
def Frame7AtBits : Prop :=
  ∀ (m : (ℓ : Loc Cert.Kernel7Ideal.nD Cert.Kernel7Ideal.τ Cert.Kernel7Ideal.sig) → Buf (Elt Bits) ℓ) (g : Dev Cert.Kernel7Ideal.nD → PrngReg),
    Cert.Kernel7Ideal.Up.Admits m →
    θ_run (Cert.Kernel7Ideal.defs (F := Bits)) (onTc (τ := Cert.Kernel7Ideal.τ) (Cert.Kernel7Ideal.main (F := Bits))) ⟨m, fun _ => 0, g⟩
      (fun r => (∀ c : Dev Cert.Kernel7Ideal.nD,
        r.2.mem (c.tc.loc Cert.Kernel7Ideal.main_arg0) = m (c.tc.loc Cert.Kernel7Ideal.main_arg0)
        ∧ r.2.mem (c.tc.loc Cert.Kernel7Ideal.main_arg1) = m (c.tc.loc Cert.Kernel7Ideal.main_arg1)
        ∧ r.2.mem (c.tc.loc Cert.Kernel7Ideal.main_arg2) = m (c.tc.loc Cert.Kernel7Ideal.main_arg2)
        ∧ r.2.mem (c.tc.loc Cert.Kernel7Ideal.main_arg3) = m (c.tc.loc Cert.Kernel7Ideal.main_arg3)
        ∧ r.2.mem (c.tc.loc Cert.Kernel7Ideal.main_arg4) = m (c.tc.loc Cert.Kernel7Ideal.main_arg4))
        ∧ r.2.sem = fun _ => 0)

set_option maxRecDepth 65536 in
theorem frame7_eq : Cert.quiescent_Kernel7 = Frame7AtBits := by sl_kernel_rfl

theorem frame7 : Cert.quiescent_Kernel7 (hKernel7 := Cert.Kernel7.Gen.facts) (hPre_moe_up_tables := Cert.Pre_moe_up_tables.Gen.facts) :=
  frame7_eq.mpr fun m g h => Cert.Kernel7Ideal.Up.frame_any m g h

theorem frame7Ideal : Cert.quiescent_Kernel7Ideal (hKernel7Ideal := Cert.Kernel7Ideal.Gen.facts)
    (hPre_moe_up_tables := Cert.Pre_moe_up_tables.Gen.facts) :=
  fun m g h => Cert.Kernel7Ideal.Up.frame_any m g h

/-- The experts' first product and its reference compute the same array, from tables in range. -/
theorem algebraic7 : Cert.algebraic_Kernel7Ideal_Reference7Ideal
    (hKernel7Ideal := Cert.Kernel7Ideal.Gen.facts)
    (hReference7Ideal := Cert.Reference7Ideal.Gen.facts)
    (hPre_moe_up_tables := Cert.Pre_moe_up_tables.Gen.facts) := by
  pair_intro
  · run_from Cert.Kernel7Ideal.Up.run_value m g hpre
  · run_from Cert.Reference7Ideal.Value.run m' g'
    obtain ⟨e0, e1, e2, e3, e4⟩ := hagree c
    refine (Cert.Reference7Ideal.Up.res_eq m' c).trans ?_
    rw [e0, e1, e2, e3, e4]

end Cert.Proof

end
-- ==== Proof.Gates.lean ====
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack

/-! # The gate columns of the input projection -/

@[expose] public section

set_option maxRecDepth 16384

noncomputable section

open Idealize.ShloMosaic Idealize.ShloMosaic.TcCoe Idealize.SL.Sem
open Idealize.ShloMosaic.Pipeline (Dat)

namespace Cert.Kernel9Ideal.Gates

open Cert.Kernel9Ideal Cert.Kernel9Ideal.Gen

variable (m : (ℓ : Loc nD τ sig) → Buf (Elt Ideal) ℓ)

/-- The reference's term. -/
abbrev REF (X : FVec Ideal S16384x2048 .f32) (N : FVec Ideal S2048 .f32)
    (W : FVec Ideal S2048x14384 .f32) : FVec Ideal S16384x128 .f32 :=
  pad Cert.Reference9Ideal.S16384x128 ![0, 0] ![0, 80] ![0, 0] (extractStridedSlice Cert.Reference9Ideal.S16384x48 ![0, 10240] (Host.dotGeneral Cert.Reference9Ideal.dot_S16384x2048_S2048x14384_S16384x14384_1_0_0_1_n_n none (mulf (mulf X (broadcastInDim Cert.Reference9Ideal.S16384x2048 ![0, 1] Cert.Reference9Ideal.Gen.bcast_S16384x1_S16384x2048_0_1 (Host.rsqrt (addf (Host.divf (broadcastInDim Cert.Reference9Ideal.S16384x1 ![0] Cert.Reference9Ideal.Gen.bcast_S16384_S16384x1_0 (Host.reduceAdd (mulf X X) (constant Cert.Reference9Ideal.S_ .f32 0x00000000#32) Cert.Reference9Ideal.Gen.reducesTo_S16384x2048_S16384_d1 Cert.Reference9Ideal.Gen.h_S_)) (broadcastInDim Cert.Reference9Ideal.S16384x1 ![] Cert.Reference9Ideal.Gen.bcast_S_S16384x1 (constant Cert.Reference9Ideal.S_ .f32 0x45000000#32))) (broadcastInDim Cert.Reference9Ideal.S16384x1 ![] Cert.Reference9Ideal.Gen.bcast_S_S16384x1 (constant Cert.Reference9Ideal.S_ .f32 0x358637BD#32)))))) (broadcastInDim Cert.Reference9Ideal.S16384x2048 ![0, 1] Cert.Reference9Ideal.Gen.bcast_S1x2048_S16384x2048_0_1 (broadcastInDim Cert.Reference9Ideal.S1x2048 ![1] Cert.Reference9Ideal.Gen.bcast_S2048_S1x2048_1 N))) W) Cert.Reference9Ideal.Gen.slices_S16384x14384_S16384x48_0_10240) (sitofp .f32 (constantI Cert.Reference9Ideal.S_ 32 0#32)) Cert.Reference9Ideal.Gen.pads_S16384x48_S16384x128_000_0800 Cert.Reference9Ideal.Gen.h_S_

/-- The windows' block indices, over the whole grid. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- A point's output block is the product of the normed rows, passed through the scratch, with the weights. -/
theorem out_point (c : Dev nD) (t : Fin cfg0.N) :
    outsAt0 m c t = k0_pay2 (k0_pay1 (iblk m c 0 t) (iblk m c 1 t)) (iblk m c 2 t) := by
  unfold outsAt0
  frame_out

/-- The gain row's buffer when the region starts. -/
theorem entry_gain (c : Dev nD) : V m c main_v3 = shapeCast S1x2048 (m ((c : Thread nD τ).loc main_arg1)) shapeCasts_S2048_S1x2048 := by
  dsimp only [V, hostOps0, hostOps0_1, hostOps0_2, List.flatten, List.append]
  simp only [StableHlo.TRef.binary, StableHlo.TRef.unary, StableHlo.TRef.toBuf, StableHlo.TRef.ofBuf, cast_eq]
  after_results_simp
  rfl

/-- The weights' buffer when the region starts. -/
theorem entry_weights (c : Dev nD) : V m c main_v2 = truncf .bf16 (pad S2048x128 ![0, 0] ![0, 80] ![0, 0]
      (extractStridedSlice S2048x48 ![0, 10240] (m ((c : Thread nD τ).loc main_arg2)) slices_S2048x14384_S2048x48_0_10240)
      (sitofp (F := Ideal) .f32 (constantI S_ 32 0#32)) pads_S2048x48_S2048x128_000_0800 h_S_) bitsLt_bf16_f32 := by
  dsimp only [V, hostOps0, hostOps0_1, hostOps0_2, List.flatten, List.append]
  simp only [StableHlo.TRef.binary, StableHlo.TRef.unary, StableHlo.TRef.toBuf, StableHlo.TRef.ofBuf, cast_eq]
  after_results_simp

/-- The padding value. -/
theorem padding : (FloatOps.sitofp FTy.f32 0#32 : Ideal .f32) = (0 : EReal) := by
  simp [FloatOps.sitofp]

/-- The gain row, as the kernel finds it. -/
theorem gain (c : Dev nD) (t : Fin cfg0.N) (x : Fin 2048) :
    iblk m c 1 t (ix2 0 x) = m ((c : Thread nD τ).loc main_arg1) (ix1 x) := by
  refine Eq.trans (b := V m c main_v3 (ix2 0 x)) (by blk_ext [iblk, idx t]) ?_
  rw [entry_gain]
  pointwise

/-- The weights, as the kernel finds them: the gates' columns, then zeros. -/
theorem weights (c : Dev nD) (k : Fin 2048) (n : Fin 128) :
    V m c main_v2 (ix2 k n) = if h : n.val < 48
      then m ((c : Thread nD τ).loc main_arg2) (ix2 k ⟨10240 + n.val, by omega⟩) else (0 : EReal) := by
  rw [entry_weights]
  pointwise
  simp only [padding]

/-- A block of the weights at its indices. -/
theorem weights_block (c : Dev nD) (t : Fin cfg0.N) (k : Fin 2048) (n : Fin 128) :
    iblk m c 2 t (ix2 k n) = if h : n.val < 48
      then m ((c : Thread nD τ).loc main_arg2) (ix2 k ⟨10240 + n.val, by omega⟩) else (0 : EReal) :=
  Eq.trans (b := V m c main_v2 (ix2 k n)) (by blk_ext [iblk, idx t]) (weights m c k _)

/-- What a grid point stores at an index of its block. -/
theorem point (c : Dev nD) (t : Fin cfg0.N) (y) :
    k0_pay2 (k0_pay1 (iblk m c 0 t) (iblk m c 1 t)) (iblk m c 2 t) y
      = REF (m ((c : Thread nD τ).loc main_arg0)) (m ((c : Thread nD τ).loc main_arg1))
          (m ((c : Thread nD τ).loc main_arg2)) (((cfg0.win 3).blk t).view.emb y) := by
  pointwise [k0_pay1, k0_pay2, REF]
  set_option backward.isDefEq.respectTransparency false in
  simp only [gain, weights_block]
  blk_simp [idx t]
  split
  · blk_point [iblk, V, idx t]
  · simp only [mul_zero, Finset.sum_const_zero, padding]

/-- The result array after the run. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, out_point]
  exact point m c t y

end Cert.Kernel9Ideal.Gates

end
-- ==== Proof.CompressRef.lean ====
module

public import proofs.«01_k».proof.Proof.Gen.Reference10Ideal.Run
public import proofs.«01_k».proof.Proof.Gates
public import proofs.«01_k».proof.Proof.TableWords
public import Idealize.ShloMosaic.Lib.Pipeline.ValueKit

/-! # The compressed keys and values, as the reference writes them -/

@[expose] public section

set_option maxRecDepth 16384

noncomputable section

open Idealize.ShloMosaic Idealize.ShloMosaic.TcCoe Idealize.SL.Sem

namespace Cert.Reference10Ideal.Compress

open Cert.Reference10Ideal Cert.Reference10Ideal.Gen Cert.TableWords

/-- The key and value columns of the projection: per batch and position, keys and values, their heads, a head's lanes. -/
def keyValues (P : FVec Ideal S16384x14336 .bf16) : FVec Ideal S4x4096x2x4x128 .f32 :=
  shapeCast _ (extf .f32 (extractStridedSlice S16384x1024 ![0, 7168] P slices_S16384x14336_S16384x1024_0_7168) bitsLt_bf16_f32) shapeCasts_S16384x1024_S4x4096x2x4x128

/-- The keys. -/
def keys (P : FVec Ideal S16384x14336 .bf16) : FVec Ideal S4x4096x4x128 .f32 :=
  shapeCast _ (extractStridedSlice S4x4096x1x4x128 ![0, 0, 0, 0, 0] (keyValues P) slices_S4x4096x2x4x128_S4x4096x1x4x128_0_0_0_0_0) shapeCasts_S4x4096x1x4x128_S4x4096x4x128

/-- The values. -/
def values (P : FVec Ideal S16384x14336 .bf16) : FVec Ideal S4x4096x4x128 .f32 :=
  shapeCast _ (extractStridedSlice S4x4096x1x4x128 ![0, 0, 1, 0, 0] (keyValues P) slices_S4x4096x2x4x128_S4x4096x1x4x128_0_0_1_0_0) shapeCasts_S4x4096x1x4x128_S4x4096x4x128

/-- The positions of each block: thirty-two from sixteen times its number on. -/
def positions : IVec S255x32 32 :=
  addi (broadcastInDim S255x32 ![0, 1] bcast_S255x1_S255x32_0_1 (muli (broadcastInDim S255x1 ![0] bcast_S255_S255x1_0 (iotaInDim S255 32 0)) (broadcastInDim S255x1 ![] bcast_S_S255x1 (constantI S_ 32 16#32)))) (broadcastInDim S255x32 ![0, 1] bcast_S1x32_S255x32_0_1 (broadcastInDim S1x32 ![1] bcast_S32_S1x32_1 (iotaInDim S32 32 0)))

/-- The positions as the reference indexes by them. -/
def taken : IVec S255x32x1 32 :=
  broadcastInDim S255x32x1 ![0, 1] bcast_S255x32_S255x32x1_0_1 (select (cmpi .slt positions (broadcastInDim S255x32 ![] bcast_S_S255x32 (constantI S_ 32 0#32))) (addi positions (broadcastInDim S255x32 ![] bcast_S_S255x32 (constantI S_ 32 4096#32))) positions)

/-- The overlapping blocks of thirty-two positions, with the position vectors added, flattened. -/
def blocks (L : FVec Ideal S4x4096x4x128 .f32) (Q : FVec Ideal S32x128 .f32) : FVec Ideal S4x255x4x4096 .f32 :=
  shapeCast _ (transpose S4x255x4x32x128 [0, 1, 3, 2, 4] (addf (Host.gather gather_S4x4096x4x128_S255x32x1_S4x255x32x4x128_034_1_n_n_1_2_414128 L taken) (broadcastInDim S4x255x32x4x128 ![0, 1, 2, 3, 4] bcast_S1x1x32x1x128_S4x255x32x4x128_0_1_2_3_4 (broadcastInDim S1x1x32x1x128 ![2, 4] bcast_S32x128_S1x1x32x1x128_2_4 Q))) transposes_S4x255x32x4x128_S4x255x4x32x128_0_1_3_2_4) shapeCasts_S4x255x4x32x128_S4x255x4x4096

/-- The blocks' first product. -/
def hidden (L : FVec Ideal S4x4096x4x128 .f32) (Q : FVec Ideal S32x128 .f32) (W : FVec Ideal S4096x256 .f32) : FVec Ideal S4x255x4x256 .f32 :=
  Host.dotGeneral dot_S4x255x4x4096_S4096x256_S4x255x4x256_3_0_012_1_n_n none (blocks L Q) W

/-- The activation, in its tanh form. -/
def activated (H : FVec Ideal S4x255x4x256 .f32) : FVec Ideal S4x255x4x256 .f32 :=
  mulf H (mulf (broadcastInDim S4x255x4x256 ![] bcast_S_S4x255x4x256 (constant S_ .f32 0x3F000000#32)) (addf (broadcastInDim S4x255x4x256 ![] bcast_S_S4x255x4x256 (constant S_ .f32 0x3F800000#32)) (Host.tanh (mulf (broadcastInDim S4x255x4x256 ![] bcast_S_S4x255x4x256 (constant S_ .f32 0x3F4C422A#32)) (addf H (mulf (broadcastInDim S4x255x4x256 ![] bcast_S_S4x255x4x256 (constant S_ .f32 0x3D372713#32)) (mulf (mulf H H) H)))))))

/-- The compressed blocks: the activation's product with the second weights. -/
def compressed (L : FVec Ideal S4x4096x4x128 .f32) (Q : FVec Ideal S32x128 .f32) (W : FVec Ideal S4096x256 .f32) (U : FVec Ideal S256x128 .f32) : FVec Ideal S4x255x4x128 .f32 :=
  Host.dotGeneral dot_S4x255x4x256_S256x128_S4x255x4x128_3_0_012_1_n_n none (activated (hidden L Q W)) U

/-- The mean-square normalisation of the keys with its gain. -/
def normed (C : FVec Ideal S4x255x4x128 .f32) (G : FVec Ideal S3x128 .f32) : FVec Ideal S4x255x4x128 .f32 :=
  mulf (mulf C (broadcastInDim S4x255x4x128 ![0, 1, 2, 3] bcast_S4x255x4x1_S4x255x4x128_0_1_2_3 (Host.rsqrt (addf (Host.divf (broadcastInDim S4x255x4x1 ![0, 1, 2] bcast_S4x255x4_S4x255x4x1_0_1_2 (Host.reduceAdd (mulf C C) (constant S_ .f32 0x00000000#32) reducesTo_S4x255x4x128_S4x255x4_d3 h_S_)) (broadcastInDim S4x255x4x1 ![] bcast_S_S4x255x4x1 (constant S_ .f32 0x43000000#32))) (broadcastInDim S4x255x4x1 ![] bcast_S_S4x255x4x1 (constant S_ .f32 0x358637BD#32)))))) (broadcastInDim S4x255x4x128 ![0, 1, 2, 3] bcast_S1x1x1x128_S4x255x4x128_0_1_2_3 (broadcastInDim S1x1x1x128 ![3] bcast_S128_S1x1x1x128_3 (shapeCast _ (extractStridedSlice S1x128 ![0, 0] G slices_S3x128_S1x128_0_0) shapeCasts_S1x128_S128)))

/-- The reference's term from the two compressed arrays. -/
def stacked (C D : FVec Ideal S4x255x4x128 .f32) (G : FVec Ideal S3x128 .f32) : FVec Ideal S4x2x4x256x128 .bf16 :=
  truncf .bf16 (pad S4x2x4x256x128 ![0, 0, 0, 0, 0] ![0, 0, 0, 1, 0] ![0, 0, 0, 0, 0] (transpose S4x2x4x255x128 [0, 1, 3, 2, 4] (concatenate S4x2x255x4x128 1 [⟨S4x1x255x4x128, (broadcastInDim S4x1x255x4x128 ![0, 2, 3, 4] bcast_S4x255x4x128_S4x1x255x4x128_0_2_3_4 (normed C G))⟩, ⟨S4x1x255x4x128, (broadcastInDim S4x1x255x4x128 ![0, 2, 3, 4] bcast_S4x255x4x128_S4x1x255x4x128_0_2_3_4 D)⟩] concatenates_S4x1x255x4x128_S4x1x255x4x128_S4x2x255x4x128_d1) transposes_S4x2x255x4x128_S4x2x4x255x128_0_1_3_2_4) (sitofp .f32 (constantI S_ 32 0#32)) pads_S4x2x4x255x128_S4x2x4x256x128_000_000_000_010_000 h_S_) bitsLt_bf16_f32

/-- The reference's term. -/
def REF (P : FVec Ideal S16384x14336 .bf16) (Q : FVec Ideal S32x128 .f32) (W : FVec Ideal S4096x256 .f32) (U : FVec Ideal S256x128 .f32)
    (Q' : FVec Ideal S32x128 .f32) (W' : FVec Ideal S4096x256 .f32) (U' : FVec Ideal S256x128 .f32) (G : FVec Ideal S3x128 .f32) : FVec Ideal S4x2x4x256x128 .bf16 :=
  stacked (compressed (keys P) Q W U) (compressed (values P) Q' W' U') G

/-- The run's result is the reference's term at the arguments. -/
theorem res_eq (m : (ℓ : Loc nD τ sig) → Buf (Elt Ideal) ℓ) (c : Dev nD) :
    Cert.Reference10Ideal.Value.res_out0 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  delta Cert.Reference10Ideal.Value.res_out0 Cert.Reference10Ideal.Value.res_main_v99 REF stacked normed compressed activated hidden blocks taken positions keys values keyValues
  rfl

/-- A key, in the projection. -/
theorem keys_at (P : FVec Ideal S16384x14336 .bf16) (b : Fin 4) (s : Fin 4096) (g : Fin 4) (d : Fin 128) :
    keys P (ix4 b s g d) = P (ix2 ⟨b.val * 4096 + s.val, by omega⟩ ⟨7168 + (g.val * 128 + d.val), by omega⟩) := by
  pointwise [keys, keyValues]

/-- A value, in the projection. -/
theorem values_at (P : FVec Ideal S16384x14336 .bf16) (b : Fin 4) (s : Fin 4096) (g : Fin 4) (d : Fin 128) :
    values P (ix4 b s g d) = P (ix2 ⟨b.val * 4096 + s.val, by omega⟩ ⟨7168 + (512 + g.val * 128 + d.val), by omega⟩) := by
  pointwise [values, keyValues]

/-- A position's word. -/
theorem positions_at (n : Fin 255) (l : Fin 32) : positions (ix2 n l) = BitVec.ofNat 32 (n.val * 16 + l.val) := by
  pointwise [positions]
  exact BitVec.eq_of_toNat_eq (by simp [IntOp.addi, IntOp.muli])

/-- The positions are not negative: each is taken as it is. -/
theorem taken_at (n : Fin 255) (l : Fin 32) : (taken (ix3 n l (0 : Fin 1))).toInt = (n.val * 16 + l.val : ℕ) := by
  have e : (BitVec.ofNat 32 (n.val * 16 + l.val)).toInt = (n.val * 16 + l.val : ℕ) := by
    rw [BitVec.toInt_ofNat', Int.bmod_eq_of_le] <;> omega
  have hz : ¬IntOp.cmpi .slt (BitVec.ofNat 32 (n.val * 16 + l.val)) 0#32 = 1#1 := fun h => absurd ((lt_iff _ _).mp h) (by
    rw [e]; show ¬_ < (0 : ℤ); omega)
  have hp := positions_at n l
  unfold taken
  generalize positions = P at hp ⊢
  pointwise []
  rw [hp]
  exact (congrArg BitVec.toInt (if_neg hz)).trans e

/-- What the reference takes by its positions. -/
theorem gathered_at (L : FVec Ideal S4x4096x4x128 .f32) (b : Fin 4) (n : Fin 255) (l : Fin 32) (g : Fin 4) (d : Fin 128) :
    Host.gather gather_S4x4096x4x128_S255x32x1_S4x255x32x4x128_034_1_n_n_1_2_414128 L taken (ix5 b n l g d)
      = L (ix4 b ⟨n.val * 16 + l.val, by omega⟩ g d) := by
  have ht := taken_at n l
  generalize taken = I at ht ⊢
  refine congrArg L (funext fun a => ?_)
  fin_cases a
  · refine Fin.ext ?_
    show 0 + 0 + b.val = b.val
    omega
  · refine Fin.ext ?_
    refine Eq.trans (b := min (I (ix3 n l (0 : Fin 1))).toInt.toNat (4096 - 1) + 0 + 0) ?_ ?_
    · refine congrArg (fun w : BitVec 32 => min w.toInt.toNat (4096 - 1) + 0 + 0) (congrArg I (funext fun e => ?_))
      fin_cases e <;> rfl
    · rw [ht]
      have := n.isLt
      have := l.isLt
      show min (n.val * 16 + l.val) 4095 + 0 + 0 = n.val * 16 + l.val
      omega
  · refine Fin.ext ?_
    show 0 + 0 + g.val = g.val
    omega
  · refine Fin.ext ?_
    show 0 + 0 + d.val = d.val
    omega

/-- A block's entry: block `n` holds the positions from `16 n` on. -/
theorem blocks_at (L : FVec Ideal S4x4096x4x128 .f32) (Q : FVec Ideal S32x128 .f32) (b : Fin 4) (n : Fin 255) (g : Fin 4) (k : Fin 4096) :
    blocks L Q (ix4 b n g k) = L (ix4 b ⟨n.val * 16 + k.val / 128, by omega⟩ g ⟨k.val % 128, Nat.mod_lt _ (by decide)⟩)
      + Q (ix2 ⟨k.val / 128, by omega⟩ ⟨k.val % 128, Nat.mod_lt _ (by decide)⟩) := by
  have hg := gathered_at L b n ⟨k.val / 128, by omega⟩ g ⟨k.val % 128, Nat.mod_lt _ (by decide)⟩
  unfold blocks
  generalize Host.gather gather_S4x4096x4x128_S255x32x1_S4x255x32x4x128_034_1_n_n_1_2_414128 L taken = G at hg ⊢
  pointwise []
  rw [hg]

/-- The first product at an index. -/
theorem hidden_at (L : FVec Ideal S4x4096x4x128 .f32) (Q : FVec Ideal S32x128 .f32) (W : FVec Ideal S4096x256 .f32)
    (b : Fin 4) (n : Fin 255) (g : Fin 4) (h : Fin 256) :
    hidden L Q W (ix4 b n g h) = ∑ k : Fin 4096, blocks L Q (ix4 b n g k) * W (ix2 k h) := by
  pointwise [hidden]

/-- The result at an index. -/
theorem stacked_at (C D : FVec Ideal S4x255x4x128 .f32) (G : FVec Ideal S3x128 .f32) (b : Fin 4) (k : Fin 2) (g : Fin 4) (n : Fin 256) (d : Fin 128) :
    stacked C D G (ix5 b k g n d) = if h : n.val < 255 then
      if h₁ : k.val < 1 then normed C G (ix4 b ⟨n.val, h⟩ g d) else D (ix4 b ⟨n.val, h⟩ g d) else (0 : EReal) := by
  pointwise [stacked]
  simp only [Cert.Kernel9Ideal.Gates.padding]

/-- The compressed blocks at an index. -/
theorem compressed_at (L : FVec Ideal S4x4096x4x128 .f32) (Q : FVec Ideal S32x128 .f32) (W : FVec Ideal S4096x256 .f32) (U : FVec Ideal S256x128 .f32)
    (b : Fin 4) (n : Fin 255) (g : Fin 4) (d : Fin 128) :
    compressed L Q W U (ix4 b n g d) = ∑ h : Fin 256, activated (hidden L Q W) (ix4 b n g h) * U (ix2 h d) := by
  pointwise [compressed]

/-- The activation at an index. -/
theorem activated_at (H : FVec Ideal S4x255x4x256 .f32) (b : Fin 4) (n : Fin 255) (g : Fin 4) (h : Fin 256) :
    activated H (ix4 b n g h) = (H (ix4 b n g h) : EReal) * (Ideal.ofBits FTy.f32 0x3F000000#32 * ((1 : EReal)
      + Ideal.tanh (Ideal.ofBits FTy.f32 0x3F4C422A#32 * (H (ix4 b n g h) + Ideal.ofBits FTy.f32 0x3D372713#32
        * (H (ix4 b n g h) * H (ix4 b n g h) * H (ix4 b n g h)))))) := by
  pointwise [activated]

/-- The normed keys at an index. -/
theorem normed_at (C : FVec Ideal S4x255x4x128 .f32) (G : FVec Ideal S3x128 .f32) (b : Fin 4) (n : Fin 255) (g : Fin 4) (d : Fin 128) :
    normed C G (ix4 b n g d) = (C (ix4 b n g d) : EReal) * Ideal.rsqrt (Ideal.div (∑ x : Fin 128, C (ix4 b n g x) * C (ix4 b n g x))
      (Ideal.ofBits FTy.f32 0x43000000#32) + Ideal.ofBits FTy.f32 0x358637BD#32) * G (ix2 0 d) := by
  pointwise [normed]

end Cert.Reference10Ideal.Compress

end
-- ==== Proof.CompressValue.lean ====
module

public import proofs.«01_k».proof.Proof.Gen.Kernel10Ideal.Value
public import proofs.«01_k».proof.Proof.CompressRef
public import Idealize.ShloMosaic.Lib.Pipeline.ValueKit
public import Idealize.ShloMosaic.Lib.Pipeline.ReadBack

/-! # The compressed keys and values -/

@[expose] public section

set_option maxRecDepth 16384

noncomputable section

open Idealize.ShloMosaic Idealize.ShloMosaic.TcCoe Idealize.SL.Sem
open Idealize.ShloMosaic.Pipeline (Dat)

namespace Cert.Kernel10Ideal.Compress

open Cert.Kernel10Ideal Cert.Kernel10Ideal.Gen

variable (m : (ℓ : Loc nD τ sig) → Buf (Elt Ideal) ℓ)

/-- The windows' block indices, over the whole grid. -/
theorem idx : ∀ t : Fin cfg0.N, win0_0.index t = ![t.val / 8, t.val / 4 % 2, t.val % 4, 0, 0]
    ∧ win0_1.index t = ![t.val / 4 % 2, 0, 0]
    ∧ win0_2.index t = ![t.val / 4 % 2, 0, 0]
    ∧ win0_3.index t = ![t.val / 4 % 2, 0, 0]
    ∧ win0_4.index t = ![0, 0]
    ∧ win0_5.index t = ![t.val / 8, t.val / 4 % 2, t.val % 4, 0, 0] :=
  (by decide +kernel : ∀ t : Fin grid0.N, _)

/-- The points: four batches, keys and values, four heads. -/
theorem points (t : Fin cfg0.N) : t.val < 32 := t.isLt

/-- The middle coordinate: keys, then values. -/
theorem kind : ∀ t : Fin cfg0.N, ((grid0.coords t) 1).val = t.val / 4 % 2 :=
  (by decide +kernel : ∀ t : Fin grid0.N, _)

/-- The rows of sixteen positions when the region starts, in the projection. -/
theorem rows (c : Dev nD) (b : Fin 4) (k : Fin 2) (g : Fin 4) (n : Fin 256) (x : Fin 2048) :
    V m c main_v3 (ix5 b k g n x) = m ((c : Thread nD τ).loc main_arg0)
      (ix2 ⟨b.val * 4096 + (n.val * 16 + x.val / 128), by omega⟩ ⟨7168 + (k.val * 512 + g.val * 128 + x.val % 128), by omega⟩) := by
  entry_read
  pointwise
  have e : b.val * 4096 + n.val * 16 + x.val / 128 = b.val * 4096 + (n.val * 16 + x.val / 128) := by omega
  simp only [e]

/-- The position vectors. -/
theorem position (c : Dev nD) (k : Fin 2) (x : Fin 4096) :
    V m c main_v7 (ix3 k 0 x) = if k.val < 1
      then m ((c : Thread nD τ).loc main_arg1) (ix2 ⟨x.val / 128, by omega⟩ ⟨x.val % 128, Nat.mod_lt _ (by decide)⟩)
      else m ((c : Thread nD τ).loc main_arg4) (ix2 ⟨x.val / 128, by omega⟩ ⟨x.val % 128, Nat.mod_lt _ (by decide)⟩) := by
  entry_read
  pointwise
  split <;> rfl

/-- The first weights. -/
theorem first (c : Dev nD) (k : Fin 2) (x : Fin 4096) (h : Fin 256) :
    V m c main_v11 (ix3 k x h) = if k.val < 1
      then m ((c : Thread nD τ).loc main_arg2) (ix2 x h) else m ((c : Thread nD τ).loc main_arg5) (ix2 x h) := by
  entry_read
  pointwise
  split <;> rfl

/-- The second weights. -/
theorem second (c : Dev nD) (k : Fin 2) (x : Fin 256) (h : Fin 128) :
    V m c main_v15 (ix3 k x h) = if k.val < 1
      then m ((c : Thread nD τ).loc main_arg3) (ix2 x h) else m ((c : Thread nD τ).loc main_arg6) (ix2 x h) := by
  entry_read
  pointwise
  split <;> rfl

/-- The gain row. -/
theorem gain (c : Dev nD) (x : Fin 128) :
    V m c main_v16 (ix2 0 x) = m ((c : Thread nD τ).loc main_arg7) (ix2 0 x) := by
  entry_read
  pointwise

/-- A block of the rows at its indices. -/
theorem rows_block (c : Dev nD) (t : Fin cfg0.N) (n : Fin 256) (x : Fin 2048) :
    iblk m c 0 t (ix5 0 0 0 n x) = V m c main_v3 (ix5 ⟨t.val / 8, by have := points t; omega⟩ ⟨t.val / 4 % 2, Nat.mod_lt _ (by decide)⟩
      ⟨t.val % 4, Nat.mod_lt _ (by decide)⟩ n x) := by
  blk_ext [iblk, idx t]

/-- A block of the positions at its indices. -/
theorem position_block (c : Dev nD) (t : Fin cfg0.N) (x : Fin 4096) :
    iblk m c 1 t (ix3 0 0 x) = V m c main_v7 (ix3 ⟨t.val / 4 % 2, Nat.mod_lt _ (by decide)⟩ 0 x) := by
  blk_ext [iblk, idx t]

/-- A block of the first weights at its indices. -/
theorem first_block (c : Dev nD) (t : Fin cfg0.N) (x : Fin 4096) (h : Fin 256) :
    iblk m c 2 t (ix3 0 x h) = V m c main_v11 (ix3 ⟨t.val / 4 % 2, Nat.mod_lt _ (by decide)⟩ x h) := by
  blk_ext [iblk, idx t]

/-- A block of the second weights at its indices. -/
theorem second_block (c : Dev nD) (t : Fin cfg0.N) (x : Fin 256) (h : Fin 128) :
    iblk m c 3 t (ix3 0 x h) = V m c main_v15 (ix3 ⟨t.val / 4 % 2, Nat.mod_lt _ (by decide)⟩ x h) := by
  blk_ext [iblk, idx t]

/-- The gain's block at its indices. -/
theorem gain_block (c : Dev nD) (t : Fin cfg0.N) (x : Fin 128) :
    iblk m c 4 t (ix2 0 x) = V m c main_v16 (ix2 0 x) := by
  blk_ext [iblk, idx t]

/-- The kernel's first product at an index: the row's half, and the next row's rotated to it. -/
theorem product_at (v0 : Vec Ideal S1x1x1x256x2048 .bf16) (v3 v8 : Vec Ideal S1x1x2048 .f32) (v13 v16 : Vec Ideal S1x2048x256 .bf16)
    (n : Fin 256) (hn : n.val < 255) (h : Fin 256) :
    k0_pay2 v0 v3 v8 v13 v16 (ix2 n h)
      = ∑ x : Fin 2048, ((v0 (ix5 0 0 0 n x) : EReal) + v3 (ix3 0 0 x)) * v13 (ix3 0 x h)
        + ∑ x : Fin 2048, ((v0 (ix5 0 0 0 ⟨n.val + 1, by omega⟩ x) : EReal) + v8 (ix3 0 0 x)) * v16 (ix3 0 x h) := by
  pointwise [k0_pay2]
  have e : (n.val + 256 - 255) % 256 = n.val + 1 := by omega
  simp only [e]

/-- The activation of a number, in its tanh form. -/
abbrev act (p : EReal) : EReal := p * (Ideal.ofBits FTy.f32 0x3F000000#32 * ((1 : EReal)
      + Ideal.tanh (Ideal.ofBits FTy.f32 0x3F4C422A#32 * (p + Ideal.ofBits FTy.f32 0x3D372713#32 * (p * p * p)))))

/-- The kernel's activation at an index. -/
theorem activation_at (v0 : Vec Ideal S1x1x1x256x2048 .bf16) (v3 v8 : Vec Ideal S1x1x2048 .f32) (v13 v16 : Vec Ideal S1x2048x256 .bf16)
    (p : S256x256.Idx) :
    (k0_pay3 v0 v3 v8 v13 v16 p : EReal) * k0_pay4 v0 v3 v8 v13 v16 p = act (k0_pay2 v0 v3 v8 v13 v16 p) := by
  pointwise [k0_pay3, k0_pay4]
  rw [mul_comm (Ideal.ofBits FTy.f32 1056964608#32) _, mul_assoc]

/-- The row test's word. -/
theorem row_word : ∀ n : Fin 256, IntOp.cmpi CmpIPredicate.slt (BitVec.ofNat 32 n.val) 255#32 = if n.val < 255 then 1#1 else 0#1 := by
  decide +kernel

/-- The keys' test's word. -/
theorem kind_word : ∀ k : Fin 2, Scalar.cmpi CmpIPredicate.eq (BitVec.ofNat 32 k.val) 0#32 = if k.val < 1 then 1#1 else 0#1 := by
  decide +kernel

/-- The mean-square normalisation of a row at an entry, with its gain. -/
abbrev norm (f : Fin 128 → EReal) (d : Fin 128) (G : EReal) : EReal :=
  f d * Ideal.rsqrt (Ideal.div (∑ x, f x * f x) (Ideal.ofBits FTy.f32 0x43000000#32) + Ideal.ofBits FTy.f32 0x358637BD#32) * G

/-- The kernel's block at an index, of the activation's two factors. -/
theorem stored_at (k : Fin 2) (A B : FVec Ideal S256x256 .f32) (W : Vec Ideal S1x256x128 .bf16) (G : Vec Ideal S1x128 .f32)
    (n : Fin 256) (d : Fin 128) :
    k0_pay1 (BitVec.ofNat 32 k.val) A B W G (ix5 0 0 0 n d) = if n.val < 255 then if k.val < 1
      then norm (fun d => ∑ h : Fin 256, (A (ix2 n h) : EReal) * B (ix2 n h) * W (ix3 0 h d)) d (G (ix2 0 d))
      else ∑ h : Fin 256, (A (ix2 n h) : EReal) * B (ix2 n h) * W (ix3 0 h d) else (0 : EReal) := by
  pointwise [k0_pay1]
  rw [row_word, kind_word]
  split <;> split <;> rfl

/-- The first half of the positions. -/
theorem position_low (X : Vec Ideal S1x1x4096 .f32) (x : Fin 2048) : View.ld X r0_1 (ix3 0 0 x) = X (ix3 0 0 ⟨x.val, by omega⟩) :=
  View.ld_unit_apply_of X _ _ _ _ _ (fun a => by fin_cases a <;> simp)

/-- The second half of the positions. -/
theorem position_high (X : Vec Ideal S1x1x4096 .f32) (x : Fin 2048) : View.ld X r0_2 (ix3 0 0 x) = X (ix3 0 0 ⟨2048 + x.val, by omega⟩) :=
  View.ld_unit_apply_of X _ _ _ _ _ (fun a => by fin_cases a <;> simp)

/-- The first half of the weights. -/
theorem first_low (X : Vec Ideal S1x4096x256 .bf16) (x : Fin 2048) (h : Fin 256) : View.ld X r0_3 (ix3 0 x h) = X (ix3 0 ⟨x.val, by omega⟩ h) :=
  View.ld_unit_apply_of X _ _ _ _ _ (fun a => by fin_cases a <;> simp)

/-- The second half of the weights. -/
theorem first_high (X : Vec Ideal S1x4096x256 .bf16) (x : Fin 2048) (h : Fin 256) : View.ld X r0_4 (ix3 0 x h) = X (ix3 0 ⟨2048 + x.val, by omega⟩ h) :=
  View.ld_unit_apply_of X _ _ _ _ _ (fun a => by fin_cases a <;> simp)

/-- A point's batch, kind and head. -/
abbrev batch (t : Fin cfg0.N) : Fin 4 := ⟨t.val / 8, by have := points t; omega⟩
abbrev half (t : Fin cfg0.N) : Fin 2 := ⟨t.val / 4 % 2, Nat.mod_lt _ (by decide)⟩
abbrev head (t : Fin cfg0.N) : Fin 4 := ⟨t.val % 4, Nat.mod_lt _ (by decide)⟩

/-- The first product of a point is the reference's, for the keys and for the values alike. -/
theorem product_point (c : Dev nD) (t : Fin cfg0.N) (L : FVec Ideal Cert.Reference10Ideal.S4x4096x4x128 .f32)
    (Q : FVec Ideal Cert.Reference10Ideal.S32x128 .f32) (W : FVec Ideal Cert.Reference10Ideal.S4096x256 .f32)
    (hL : ∀ (s : Fin 4096) (d : Fin 128), L (ix4 (batch t) s (head t) d) = m ((c : Thread nD τ).loc main_arg0)
      (ix2 ⟨(batch t).val * 4096 + s.val, by omega⟩ ⟨7168 + ((half t).val * 512 + (head t).val * 128 + d.val), by omega⟩))
    (hQ : ∀ x : Fin 4096, iblk m c 1 t (ix3 0 0 x) = Q (ix2 ⟨x.val / 128, by omega⟩ ⟨x.val % 128, Nat.mod_lt _ (by decide)⟩))
    (hW : ∀ (x : Fin 4096) (h : Fin 256), iblk m c 2 t (ix3 0 x h) = W (ix2 x h))
    (n : Fin 256) (hn : n.val < 255) (h : Fin 256) :
    k0_pay2 (iblk m c 0 t) (View.ld (iblk m c 1 t) r0_1) (View.ld (iblk m c 1 t) r0_2) (View.ld (iblk m c 2 t) r0_3)
        (View.ld (iblk m c 2 t) r0_4) (ix2 n h)
      = Cert.Reference10Ideal.Compress.hidden L Q W (ix4 (batch t) ⟨n.val, hn⟩ (head t) h) := by
  rw [product_at _ _ _ _ _ n hn h, Cert.Reference10Ideal.Compress.hidden_at, Fin.sum_univ_two_halves 2048 2048 rfl]
  refine congrArg₂ (· + ·) (Finset.sum_congr rfl fun x _ => ?_) (Finset.sum_congr rfl fun x _ => ?_)
  · rw [position_low, first_low, hQ, hW, rows_block, rows, Cert.Reference10Ideal.Compress.blocks_at, hL]
  · rw [position_high, first_high, hQ, hW, rows_block, rows, Cert.Reference10Ideal.Compress.blocks_at, hL]
    have e : (n.val + 1) * 16 + x.val / 128 = n.val * 16 + (2048 + x.val) / 128 := by omega
    have e' : (2048 + x.val) % 128 = x.val % 128 := by omega
    simp only [e, e']

/-- A point's compressed entry is the reference's. -/
theorem compressed_point (c : Dev nD) (t : Fin cfg0.N) (L : FVec Ideal Cert.Reference10Ideal.S4x4096x4x128 .f32)
    (Q : FVec Ideal Cert.Reference10Ideal.S32x128 .f32) (W : FVec Ideal Cert.Reference10Ideal.S4096x256 .f32)
    (U : FVec Ideal Cert.Reference10Ideal.S256x128 .f32)
    (hL : ∀ (s : Fin 4096) (d : Fin 128), L (ix4 (batch t) s (head t) d) = m ((c : Thread nD τ).loc main_arg0)
      (ix2 ⟨(batch t).val * 4096 + s.val, by omega⟩ ⟨7168 + ((half t).val * 512 + (head t).val * 128 + d.val), by omega⟩))
    (hQ : ∀ x : Fin 4096, iblk m c 1 t (ix3 0 0 x) = Q (ix2 ⟨x.val / 128, by omega⟩ ⟨x.val % 128, Nat.mod_lt _ (by decide)⟩))
    (hW : ∀ (x : Fin 4096) (h : Fin 256), iblk m c 2 t (ix3 0 x h) = W (ix2 x h))
    (hU : ∀ (x : Fin 256) (d : Fin 128), iblk m c 3 t (ix3 0 x d) = U (ix2 x d))
    (n : Fin 256) (hn : n.val < 255) (d : Fin 128) :
    ∑ h : Fin 256, (k0_pay3 (iblk m c 0 t) (View.ld (iblk m c 1 t) r0_1) (View.ld (iblk m c 1 t) r0_2) (View.ld (iblk m c 2 t) r0_3)
        (View.ld (iblk m c 2 t) r0_4) (ix2 n h) : EReal)
      * k0_pay4 (iblk m c 0 t) (View.ld (iblk m c 1 t) r0_1) (View.ld (iblk m c 1 t) r0_2) (View.ld (iblk m c 2 t) r0_3)
        (View.ld (iblk m c 2 t) r0_4) (ix2 n h) * iblk m c 3 t (ix3 0 h d)
      = Cert.Reference10Ideal.Compress.compressed L Q W U (ix4 (batch t) ⟨n.val, hn⟩ (head t) d) := by
  rw [Cert.Reference10Ideal.Compress.compressed_at]
  refine Finset.sum_congr rfl fun h _ => ?_
  rw [activation_at, hU, product_point m c t L Q W hL hQ hW n hn h, Cert.Reference10Ideal.Compress.activated_at]

/-- Where a point's block lies in the result. -/
theorem out_index (t : Fin cfg0.N) (n : Fin 256) (d : Fin 128) :
    ((cfg0.win 5).blk t).view.emb (ix5 0 0 0 n d) = ix5 (batch t) (half t) (head t) n d := by
  blk_ext [idx t]

/-- The reference's term at the arguments. -/
abbrev wanted (c : Dev nD) : FVec Ideal S4x2x4x256x128 .bf16 :=
  Cert.Reference10Ideal.Compress.REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What a grid point stores at an index of its block. -/
theorem point (c : Dev nD) (t : Fin cfg0.N) (y) :
    out0_5 (grid0.coords t) (iblk m c 0 t) (iblk m c 1 t) (iblk m c 2 t) (iblk m c 3 t) (iblk m c 4 t) y
      = wanted m c (((cfg0.win 5).blk t).view.emb y) := by
  frame_out
  idx_vars y
  obtain rfl : y0 = 0 := Subsingleton.elim _ _
  obtain rfl : y1 = 0 := Subsingleton.elim _ _
  obtain rfl : y2 = 0 := Subsingleton.elim _ _
  refine Eq.trans ?_ (congrArg (wanted m c) (out_index t y3 y4)).symm
  rw [kind t]
  refine (stored_at (half t) _ _ _ _ _ _).trans ?_
  rw [wanted, Cert.Reference10Ideal.Compress.REF, Cert.Reference10Ideal.Compress.stacked_at]
  by_cases hn : y3.val < 255
  · rw [if_pos hn, dif_pos hn]
    by_cases hk : (half t).val < 1
    · have hz : t.val / 4 % 2 = 0 := by have : t.val / 4 % 2 < 1 := hk; omega
      rw [if_pos hk, dif_pos hk, Cert.Reference10Ideal.Compress.normed_at, gain_block, gain]
      have e := compressed_point m c t (Cert.Reference10Ideal.Compress.keys (m ((c : Thread nD τ).loc main_arg0)))
        (m ((c : Thread nD τ).loc main_arg1)) (m ((c : Thread nD τ).loc main_arg2)) (m ((c : Thread nD τ).loc main_arg3))
        (fun s d => (Cert.Reference10Ideal.Compress.keys_at _ _ _ _ _).trans (by simp only [hz, Nat.zero_mul, Nat.zero_add]))
        (fun x => by rw [position_block, position, if_pos hk])
        (fun x h => by rw [first_block, first, if_pos hk])
        (fun x d => by rw [second_block, second, if_pos hk]) y3 hn
      exact congrArg (fun f => norm f y4 _) (funext e)
    · have hz : t.val / 4 % 2 = 1 := by have : ¬ t.val / 4 % 2 < 1 := hk; omega
      rw [if_neg hk, dif_neg hk]
      exact compressed_point m c t (Cert.Reference10Ideal.Compress.values (m ((c : Thread nD τ).loc main_arg0)))
        (m ((c : Thread nD τ).loc main_arg4)) (m ((c : Thread nD τ).loc main_arg5)) (m ((c : Thread nD τ).loc main_arg6))
        (fun s d => (Cert.Reference10Ideal.Compress.values_at _ _ _ _ _).trans (by simp only [hz, Nat.one_mul]))
        (fun x => by rw [position_block, position, if_neg hk])
        (fun x h => by rw [first_block, first, if_neg hk])
        (fun x d => by rw [second_block, second, if_neg hk]) y3 hn y4
  · rw [if_neg hn, dif_neg hn]

/-- The result array after the run. -/
theorem final (c : Dev nD) : (dats m 0 c).arrAt 5 (cfgs 0).N = wanted m c := by
  refine (dats m 0 c).arrAt_eq_of_covers 5 _ (by decide +kernel) fun t _ y => ?_
  blk_simp
  rw [after0_5]
  exact point m c t y

end Cert.Kernel10Ideal.Compress

end
-- ==== Proof.KeysClaim.lean ====
module

public import proofs.«01_k».proof.Defs
public import proofs.«01_k».proof.Proof.CompressValue
public import proofs.«01_k».proof.Proof.Gen.Kernel9.Frame
public import proofs.«01_k».proof.Proof.Gen.Kernel10.Frame
public import Idealize.ShloMosaic.Lib.Claim

/-! # The gate columns and the compressed keys and values: each call computes its reference's term -/

@[expose] public section

set_option maxRecDepth 16384

noncomputable section

namespace Cert.Proof

open Idealize.ShloMosaic Idealize.SL.Sem

/-- The gate columns and their reference are the same array. -/
theorem algebraic9 : Cert.algebraic_Kernel9Ideal_Reference9Ideal
    (hKernel9Ideal := Cert.Kernel9Ideal.Gen.facts)
    (hReference9Ideal := Cert.Reference9Ideal.Gen.facts) := by
  pair_intro
  · run_from Cert.Kernel9Ideal.Gen.run_main m g
    · exact Cert.Kernel9Ideal.Gen.V_main_arg1 m c
    · exact Cert.Kernel9Ideal.Gen.V_main_arg2 m c
  · run_from Cert.Reference9Ideal.Value.run m' g'
    exact (Cert.Kernel9Ideal.Gates.final m c).symm

/-- The compressed keys and values and their reference are the same array. -/
theorem algebraic10 : Cert.algebraic_Kernel10Ideal_Reference10Ideal
    (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    obtain ⟨e0, e1, e2, e3, e4, e5, e6, e7⟩ := hagree c
    refine (Cert.Reference10Ideal.Compress.res_eq m' c).trans ?_
    rw [e0, e1, e2, e3, e4, e5, e6, e7]
    exact (Cert.Kernel10Ideal.Compress.final m c).symm

end Cert.Proof

end
-- ==== Proof.lean ====
module

public import proofs.«01_k».proof.Defs
public import proofs.«01_k».proof.Proof.Projections
public import proofs.«01_k».proof.Proof.CmpClaim
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.DownClaim
public import proofs.«01_k».proof.Proof.UpClaim
public import proofs.«01_k».proof.Proof.KeysClaim

/-! # The claim, assembled -/

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite_inputs.Gen.facts, Cert.Pre_moe_up_tables.Gen.facts, Cert.Pre_moe_down_tables.Gen.facts,
    fun m ρ _ => Cert.Kernel.Gen.frame m ρ, fun m ρ _ => Cert.KernelIdeal.Gen.frame m ρ,
    fun m ρ _ => Cert.KernelIdeal.Gen.frame m ρ,
    fun m g _ => (θ_run _ _ _).mono
      (fun r h => ⟨fun c => (h c).2, sem_eq_zero_of_no_sems (by decide) r.2⟩) (Cert.ReferenceIdeal.Value.run m g),
    fun m g _ => (θ_run _ _ _).mono
      (fun r h => ⟨fun c => (h c).2, sem_eq_zero_of_no_sems (by decide) r.2⟩) (Cert.ReferenceIdeal.Value.run m g),
    fun m ρ _ => Cert.Kernel2.Gen.frame m ρ, fun m ρ _ => Cert.Kernel2Ideal.Gen.frame m ρ,
    fun m g _ => (θ_run _ _ _).mono
      (fun r h => ⟨fun c => (h c).2, sem_eq_zero_of_no_sems (by decide) r.2⟩) (Cert.Reference2Ideal.Value.run m g),
    fun m ρ _ => Cert.Kernel3.Gen.frame m ρ, fun m ρ _ => Cert.Kernel3Ideal.Gen.frame m ρ,
    fun m g _ => (θ_run _ _ _).mono
      (fun r h => ⟨fun c => (h c).2, sem_eq_zero_of_no_sems (by decide) r.2⟩) (Cert.Reference3Ideal.Value.run m g),
    fun m ρ _ => Cert.Kernel4.Gen.frame m ρ, fun m ρ _ => Cert.Kernel4Ideal.Gen.frame m ρ,
    fun m g _ => (θ_run _ _ _).mono
      (fun r h => ⟨fun c => (h c).2, sem_eq_zero_of_no_sems (by decide) r.2⟩) (Cert.Reference4Ideal.Value.run m g),
    fun m ρ _ => Cert.Kernel5.Gen.frame m ρ, fun m ρ _ => Cert.Kernel5Ideal.Gen.frame m ρ,
    fun m g _ => (θ_run _ _ _).mono
      (fun r h => ⟨fun c => (h c).2, sem_eq_zero_of_no_sems (by decide) r.2⟩) (Cert.Reference5Ideal.Value.run m g),
    fun m ρ _ => Cert.Kernel6.Gen.frame m ρ, fun m ρ _ => Cert.Kernel6Ideal.Gen.frame m ρ,
    fun m g _ => (θ_run _ _ _).mono
      (fun r h => ⟨fun c => (h c).2, sem_eq_zero_of_no_sems (by decide) r.2⟩) (Cert.Reference6Ideal.Value.run m g),
    frame7, frame7Ideal,
    fun m g _ => (θ_run _ _ _).mono
      (fun r h => ⟨fun c => (h c).2, sem_eq_zero_of_no_sems (by decide) r.2⟩) (Cert.Reference7Ideal.Value.run m g),
    fun m g _ => (θ_run _ _ _).mono
      (fun r h => ⟨fun c => (h c).2, sem_eq_zero_of_no_sems (by decide) r.2⟩) (Cert.Reference7Ideal.Value.run m g),
    frame8, frame8Ideal,
    fun m g _ => (θ_run _ _ _).mono
      (fun r h => ⟨fun c => (h c).2, sem_eq_zero_of_no_sems (by decide) r.2⟩) (Cert.Reference8Ideal.Value.run m g),
    fun m g _ => (θ_run _ _ _).mono
      (fun r h => ⟨fun c => (h c).2, sem_eq_zero_of_no_sems (by decide) r.2⟩) (Cert.Reference8Ideal.Value.run m g),
    fun m ρ _ => Cert.Kernel9.Gen.frame m ρ, fun m ρ _ => Cert.Kernel9Ideal.Gen.frame m ρ,
    fun m g _ => (θ_run _ _ _).mono
      (fun r h => ⟨fun c => (h c).2, sem_eq_zero_of_no_sems (by decide) r.2⟩) (Cert.Reference9Ideal.Value.run m g),
    fun m ρ _ => Cert.Kernel10.Gen.frame m ρ, fun m ρ _ => Cert.Kernel10Ideal.Gen.frame m ρ,
    fun m g _ => (θ_run _ _ _).mono
      (fun r h => ⟨fun c => (h c).2, sem_eq_zero_of_no_sems (by decide) r.2⟩) (Cert.Reference10Ideal.Value.run m g),
    IdealRules.named_const.statement Cert.KernelIdeal.κ "mask" .f32 0xF149F2CA#32 ⊥ rfl, algebraic1,
    trivial, algebraic2, trivial, algebraic3, trivial, algebraic4, trivial, algebraic5, trivial, algebraic6, trivial, algebraic7, trivial, algebraic8,
    trivial, algebraic9, trivial, algebraic10⟩

end Cert.Proof

end
